-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_finite [hPre_finite : Cert.Pre_finite.Facts] (m : (ℓ : Loc Cert.FrontIdeal.nD Cert.FrontIdeal.τ Cert.FrontIdeal.sig) → Buf (Elt Ideal) ℓ) : Prop :=
  ∀ c : Dev Cert.FrontIdeal.nD,
    (Cert.Pre_finite.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7))) = (fun _ => 1#1)

def Pre_FrontReferenceIdeal (m : (ℓ : Loc Cert.FrontReferenceIdeal.nD Cert.FrontReferenceIdeal.τ Cert.FrontReferenceIdeal.sig) → Buf (Elt Ideal) ℓ) : Prop :=
  True

def Pre_FrontReferenceIdeal_finite [hPre_finite : Cert.Pre_finite.Facts] (m : (ℓ : Loc Cert.FrontReferenceIdeal.nD Cert.FrontReferenceIdeal.τ Cert.FrontReferenceIdeal.sig) → Buf (Elt Ideal) ℓ) : Prop :=
  ∀ c : Dev Cert.FrontReferenceIdeal.nD,
    (Cert.Pre_finite.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6)) (m ((c.tc : Thread Cert.FrontReferenceIdeal.nD Cert.FrontReferenceIdeal.τ).loc Cert.FrontReferenceIdeal.main_arg7))) = (fun _ => 1#1)

def Pre_Experts [hPre_an_expert : Cert.Pre_an_expert.Facts] (m : (ℓ : Loc Cert.Experts.nD Cert.Experts.τ Cert.Experts.sig) → Buf (Elt Bits) ℓ) : Prop :=
  ∀ c : Dev Cert.Experts.nD,
    (Cert.Pre_an_expert.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))) = (fun _ => 1#1)

def Pre_ExpertsIdeal [hPre_an_expert : Cert.Pre_an_expert.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_an_expert.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))) = (fun _ => 1#1)

def Pre_ExpertsReferenceIdeal [hPre_an_expert : Cert.Pre_an_expert.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_an_expert.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ r.2.sem = fun _ => 0)

def quiescent_FrontIdeal_pre_finite [hFrontIdeal : Cert.FrontIdeal.Facts] [hPre_finite : Cert.Pre_finite.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_finite m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7))
      ∧ r.2.sem = fun _ => 0)

def quiescent_FrontReferenceIdeal_pre_finite [hFrontReferenceIdeal : Cert.FrontReferenceIdeal.Facts] [hPre_finite : Cert.Pre_finite.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal_finite m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7))
      ∧ r.2.sem = fun _ => 0)

def quiescent_Experts [hExperts : Cert.Experts.Facts] [hPre_an_expert : Cert.Pre_an_expert.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] [hPre_an_expert : Cert.Pre_an_expert.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsReferenceIdeal [hExpertsReferenceIdeal : Cert.ExpertsReferenceIdeal.Facts] [hPre_an_expert : Cert.Pre_an_expert.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Front_FrontIdeal : Prop :=
  IdealRules.named_const.Statement Cert.FrontIdeal.κ "rope" .f32 0xBE935D8E#32 (((-1 / 32) * (Real.log 10000) : ℝ) : EReal)
  ∧ IdealRules.named_const.Statement Cert.FrontIdeal.κ "mask" .f32 0xF149F2CA#32 ⊥

def algebraic_FrontIdeal_FrontReferenceIdeal_pre_finite [hFrontIdeal : Cert.FrontIdeal.Facts] [hFrontReferenceIdeal : Cert.FrontReferenceIdeal.Facts] [hPre_finite : Cert.Pre_finite.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal_finite m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)) →
    ∃ (v0 : (c : Dev Cert.FrontIdeal.nD) → Buf (Elt Ideal) ((c.tc : Thread Cert.FrontIdeal.nD Cert.FrontIdeal.τ).loc Cert.FrontIdeal.main_v19_0)) (v1 : (c : Dev Cert.FrontIdeal.nD) → Buf (Elt Ideal) ((c.tc : Thread Cert.FrontIdeal.nD Cert.FrontIdeal.τ).loc Cert.FrontIdeal.main_v20_2)) (v2 : (c : Dev Cert.FrontIdeal.nD) → Buf (Elt Ideal) ((c.tc : Thread Cert.FrontIdeal.nD Cert.FrontIdeal.τ).loc Cert.FrontIdeal.main_v20_3)) (v3 : (c : Dev Cert.FrontIdeal.nD) → Buf (Elt Ideal) ((c.tc : Thread Cert.FrontIdeal.nD Cert.FrontIdeal.τ).loc Cert.FrontIdeal.main_v20_5)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v19_0) = v0 c
          ∧ r.2.mem ((c.tc : Thread Cert.FrontIdeal.nD Cert.FrontIdeal.τ).loc Cert.FrontIdeal.main_v20_2) = v1 c
          ∧ r.2.mem ((c.tc : Thread Cert.FrontIdeal.nD Cert.FrontIdeal.τ).loc Cert.FrontIdeal.main_v20_3) = v2 c
          ∧ r.2.mem ((c.tc : Thread Cert.FrontIdeal.nD Cert.FrontIdeal.τ).loc Cert.FrontIdeal.main_v20_5) = v3 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v135) = v0 c
          ∧ r.2.mem ((c.tc : Thread Cert.FrontReferenceIdeal.nD Cert.FrontReferenceIdeal.τ).loc Cert.FrontReferenceIdeal.main_v136) = v1 c
          ∧ r.2.mem ((c.tc : Thread Cert.FrontReferenceIdeal.nD Cert.FrontReferenceIdeal.τ).loc Cert.FrontReferenceIdeal.main_v137) = v2 c
          ∧ r.2.mem ((c.tc : Thread Cert.FrontReferenceIdeal.nD Cert.FrontReferenceIdeal.τ).loc Cert.FrontReferenceIdeal.main_v138) = v3 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_an_expert : Cert.Pre_an_expert.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v186) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3))

def Claim : Prop :=
  ∃ (hKernel : Cert.Kernel.Facts) (hKernelIdeal : Cert.KernelIdeal.Facts) (hReferenceIdeal : Cert.ReferenceIdeal.Facts) (hFront : Cert.Front.Facts) (hFrontIdeal : Cert.FrontIdeal.Facts) (hFrontReferenceIdeal : Cert.FrontReferenceIdeal.Facts) (hExperts : Cert.Experts.Facts) (hExpertsIdeal : Cert.ExpertsIdeal.Facts) (hExpertsReferenceIdeal : Cert.ExpertsReferenceIdeal.Facts) (hPre_in_range : Cert.Pre_in_range.Facts) (hPre_finite : Cert.Pre_finite.Facts) (hPre_an_expert : Cert.Pre_an_expert.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Front (hFront := hFront)
    ∧ quiescent_FrontIdeal (hFrontIdeal := hFrontIdeal)
    ∧ quiescent_FrontIdeal_pre_finite (hFrontIdeal := hFrontIdeal) (hPre_finite := hPre_finite)
    ∧ quiescent_FrontReferenceIdeal (hFrontReferenceIdeal := hFrontReferenceIdeal)
    ∧ quiescent_FrontReferenceIdeal_pre_finite (hFrontReferenceIdeal := hFrontReferenceIdeal) (hPre_finite := hPre_finite)
    ∧ quiescent_Experts (hExperts := hExperts) (hPre_an_expert := hPre_an_expert)
    ∧ quiescent_ExpertsIdeal (hExpertsIdeal := hExpertsIdeal) (hPre_an_expert := hPre_an_expert)
    ∧ quiescent_ExpertsReferenceIdeal (hExpertsReferenceIdeal := hExpertsReferenceIdeal) (hPre_an_expert := hPre_an_expert)
    ∧ preserves_Kernel_KernelIdeal
    ∧ algebraic_KernelIdeal_ReferenceIdeal (hKernelIdeal := hKernelIdeal) (hReferenceIdeal := hReferenceIdeal) (hPre_in_range := hPre_in_range)
    ∧ preserves_Front_FrontIdeal
    ∧ algebraic_FrontIdeal_FrontReferenceIdeal_pre_finite (hFrontIdeal := hFrontIdeal) (hFrontReferenceIdeal := hFrontReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_an_expert := hPre_an_expert)
-- ==== Pre_an_expert.lean ====
abbrev S40 : Shape := ⟨1, ![40]⟩
abbrev S5120x1024 : Shape := ⟨2, ![5120, 1024]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S40 32) (main_arg1 : FVec F S5120x1024 .f32) (main_arg2 : FVec F S8x1024x2048 .f32) (main_arg3 : FVec F S8x2048x1024 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_finite.lean ====
abbrev S1x2048x1024 : Shape := ⟨3, ![1, 2048, 1024]⟩
abbrev S1024 : Shape := ⟨1, ![1024]⟩
abbrev S1024x1024 : Shape := ⟨2, ![1024, 1024]⟩
abbrev S1024x8 : Shape := ⟨2, ![1024, 8]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x8 : S_.BroadcastsInDim S1024x8 (![] : Fin 0 → Fin S1024x8.rank)
  reducesTo_S1024x8_S_d0_1 : S1024x8.ReducesTo [0, 1] S_

variable [Facts]

def fn_part2 {F : FTy → Type} [FloatOps F] (main_arg7 : FVec F S1024x8 .f32) (main_v33 : IVec S_ 1) : IVec S_ 1 :=
  let main_v34 : FVec F S1024x8 .f32 := Host.absf main_arg7
  let main_cst_12 : FVec F S_ .f32 := constant S_ .f32 0x7F800000#32
  let main_v35 : FVec F S1024x8 .f32 := broadcastInDim S1024x8 ![] bcast_S_S1024x8 main_cst_12
  let main_v36 : IVec S1024x8 1 := cmpf .olt main_v34 main_v35
  let main_c_13 : IVec S_ 1 := constantI S_ 1 1#1
  let main_v37 : IVec S_ 1 := (fun x v => Host.reduce IntOp.andi x v reducesTo_S1024x8_S_d0_1 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024x8 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S1x2048x1024 .f32) (main_arg1 : FVec F S1024 .f32) (main_arg2 : FVec F S1024 .f32) (main_arg3 : FVec F S1024x1024 .f32) (main_arg4 : FVec F S1024x1024 .f32) (main_arg5 : FVec F S1024x1024 .f32) (main_arg6 : FVec F S1024x1024 .f32) (main_arg7 : FVec F S1024x8 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Pre_in_range.lean ====
abbrev S2048x1024 : Shape := ⟨2, ![2048, 1024]⟩
abbrev S40 : Shape := ⟨1, ![40]⟩
abbrev S5120x1024 : Shape := ⟨2, ![5120, 1024]⟩
abbrev S8x1024x2048 : Shape := ⟨3, ![8, 1024, 2048]⟩
abbrev S8x2048x1024 : Shape := ⟨3, ![8, 2048, 1024]⟩
abbrev S2048x1 : Shape := ⟨2, ![2048, 1]⟩
abbrev S_ : Shape := ⟨0, ![]⟩
abbrev S1x40 : Shape := ⟨2, ![1, 40]⟩
abbrev S2048x40 : Shape := ⟨2, ![2048, 40]⟩

class Facts : Prop where
  bcast_S_S40 : S_.BroadcastsInDim S40 (![] : Fin 0 → Fin S40.rank)
  bcast_S40_S1x40_1 : S40.BroadcastsInDim S1x40 (![1] : Fin 1 → Fin S1x40.rank)
  reducesTo_S40_S_d0 : S40.ReducesTo [0] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S2048x1_S2048x40_0_1 : S2048x1.BroadcastsInDim S2048x40 (![0, 1] : Fin 2 → Fin S2048x40.rank)
  bcast_S1x40_S2048x40_0_1 : S1x40.BroadcastsInDim S2048x40 (![0, 1] : Fin 2 → Fin S2048x40.rank)
  reducesTo_S2048x40_S_d0_1 : S2048x40.ReducesTo [0, 1] S_

variable [Facts]

def fn_part2 {F : FTy → Type} [FloatOps F] (main_arg6 : IVec S2048x1 32) (main_v2 : IVec S1x40 1) (main_v4 : IVec S1x40 32) (main_v32 : IVec S_ 1) (main_v33 : IVec S2048x1 32) : IVec S_ 1 :=
  let main_v34 : IVec S2048x1 32 := Host.shrsi main_arg6 main_v33
  let main_v35 : IVec S2048x40 32 := broadcastInDim S2048x40 ![0, 1] bcast_S2048x1_S2048x40_0_1 main_v34
  let main_v36 : IVec S2048x40 32 := broadcastInDim S2048x40 ![0, 1] bcast_S1x40_S2048x40_0_1 main_v4
  let main_v37 : IVec S2048x40 1 := cmpi .ne main_v35 main_v36
  let main_v38 : IVec S2048x40 1 := broadcastInDim S2048x40 ![0, 1] bcast_S1x40_S2048x40_0_1 main_v2
  let main_v39 : IVec S2048x40 1 := ori main_v37 main_v38
  let main_c_13 : IVec S_ 1 := constantI S_ 1 1#1
  let main_v40 : IVec S_ 1 := (fun x v => Host.reduce IntOp.andi x v reducesTo_S2048x40_S_d0_1 h_S_) main_v39 main_c_13
  let main_v41 : IVec S_ 1 := andi main_v32 main_v40
  main_v41

def fn_part1 {F : FTy → Type} [FloatOps F] (main_arg5 : IVec S2048x1 32) (main_arg6 : IVec S2048x1 32) (main_v2 : IVec S1x40 1) (main_v4 : IVec S1x40 32) (main_v15 : IVec S_ 1) (main_c_6 : IVec S_ 32) : IVec S_ 1 :=
  let main_v16 : IVec S2048x1 32 := broadcastInDim S2048x1 ![] bcast_S_S2048x1 main_c_6
  let main_v17 : IVec S2048x1 1 := cmpi .sge main_arg6 main_v16
  let main_c_7 : IVec S_ 1 := constantI S_ 1 1#1
  let main_v18 : IVec S_ 1 := (fun x v => Host.reduce IntOp.andi x v reducesTo_S2048x1_S_d0_1 h_S_) main_v17 main_c_7
  let main_v19 : IVec S_ 1 := andi main_v15 main_v18
  let main_c_8 : IVec S_ 32 := constantI S_ 32 5120#32
  let main_v20 : IVec S2048x1 32 := broadcastInDim S2048x1 ![] bcast_S_S2048x1 main_c_8
  let main_v21 : IVec S2048x1 1 := cmpi .slt main_arg6 main_v20
  let main_c_9 : IVec S_ 1 := constantI S_ 1 1#1
  let main_v22 : IVec S_ 1 := (fun x v => Host.reduce IntOp.andi x v reducesTo_S2048x1_S_d0_1 h_S_) main_v21 main_c_9
  let main_v23 : IVec S_ 1 := andi main_v19 main_v22
  let main_c_10 : IVec S_ 32 := constantI S_ 32 7#32
  let main_v24 : IVec S2048x1 32 := broadcastInDim S2048x1 ![] bcast_S_S2048x1 main_c_10
  let main_v25 : IVec S2048x1 32 := Host.shrsi main_arg5 main_v24
  let main_v26 : IVec S2048x40 32 := broadcastInDim S2048x40 ![0, 1] bcast_S2048x1_S2048x40_0_1 main_v25
  let main_v27 : IVec S2048x40 32 := broadcastInDim S2048x40 ![0, 1] bcast_S1x40_S2048x40_0_1 main_v4
  let main_v28 : IVec S2048x40 1 := cmpi .ne main_v26 main_v27
  let main_v29 : IVec S2048x40 1 := broadcastInDim S2048x40 ![0, 1] bcast_S1x40_S2048x40_0_1 main_v2
  let main_v30 : IVec S2048x40 1 := ori main_v28 main_v29
  let main_c_11 : IVec S_ 1 := constantI S_ 1 1#1
  let main_v31 : IVec S_ 1 := (fun x v => Host.reduce IntOp.andi x v reducesTo_S2048x40_S_d0_1 h_S_) main_v30 main_c_11
  let main_v32 : IVec S_ 1 := andi main_v23 main_v31
  let main_c_12 : IVec S_ 32 := constantI S_ 32 7#32
  let main_v33 : IVec S2048x1 32 := broadcastInDim S2048x1 ![] bcast_S_S2048x1 main_c_12
  fn_part2 (F := F) main_arg6 main_v2 main_v4 main_v32 main_v33

def fn {F : FTy → Type} [FloatOps F] (main_arg0 : FVec F S2048x1024 .f32) (main_arg1 : IVec S40 32) (main_arg2 : FVec F S5120x1024 .f32) (main_arg3 : FVec F S8x1024x2048 .f32) (main_arg4 : FVec F S8x2048x1024 .f32) (main_arg5 : IVec S2048x1 32) (main_arg6 : IVec S2048x1 32) (main_arg7 : FVec F S2048x1 .f32) (main_arg8 : FVec F S2048x1 .f32) : IVec S_ 1 :=
  let main_c : IVec S_ 32 := constantI S_ 32 0#32
  let main_v0 : IVec S40 32 := broadcastInDim S40 ![] bcast_S_S40 main_c
  let main_v1 : IVec S40 1 := cmpi .sge main_arg1 main_v0
  let main_v2 : IVec S1x40 1 := broadcastInDim S1x40 ![1] bcast_S40_S1x40_1 main_v1
  let main_v3 : IVec S40 32 := iotaInDim S40 32 0
  let main_v4 : IVec S1x40 32 := broadcastInDim S1x40 ![1] bcast_S40_S1x40_1 main_v3
  let main_c_0 : IVec S_ 32 := constantI S_ 32 8#32
  let main_v5 : IVec S40 32 := broadcastInDim S40 ![] bcast_S_S40 main_c_0
  let main_v6 : IVec S40 1 := cmpi .slt main_arg1 main_v5
  let main_c_1 : IVec S_ 1 := constantI S_ 1 1#1
  let main_v7 : IVec S_ 1 := (fun x v => Host.reduce IntOp.andi x v reducesTo_S40_S_d0 h_S_) main_v6 main_c_1
  let main_c_2 : IVec S_ 32 := constantI S_ 32 0#32
  let main_v8 : IVec S2048x1 32 := broadcastInDim S2048x1 ![] bcast_S_S2048x1 main_c_2
  let main_v9 : IVec S2048x1 1 := cmpi .sge main_arg5 main_v8
  let main_c_3 : IVec S_ 1 := constantI S_ 1 1#1
  let main_v10 : IVec S_ 1 := (fun x v => Host.reduce IntOp.andi x v reducesTo_S2048x1_S_d0_1 h_S_) main_v9 main_c_3
  let main_v11 : IVec S_ 1 := andi main_v7 main_v10
  let main_c_4 : IVec S_ 32 := constantI S_ 32 5120#32
  let main_v12 : IVec S2048x1 32 := broadcastInDim S2048x1 ![] bcast_S_S2048x1 main_c_4
  let main_v13 : IVec S2048x1 1 := cmpi .slt main_arg5 main_v12
  let main_c_5 : IVec S_ 1 := constantI S_ 1 1#1
  let main_v14 : IVec S_ 1 := (fun x v => Host.reduce IntOp.andi x v reducesTo_S2048x1_S_d0_1 h_S_) main_v13 main_c_5
  let main_v15 : IVec S_ 1 := andi main_v11 main_v14
  let main_c_6 : IVec S_ 32 := constantI S_ 32 0#32
  fn_part1 (F := F) main_arg5 main_arg6 main_v2 main_v4 main_v15 main_c_6
-- ==== Kernel.lean ====
abbrev S2048x1024 : Shape := ⟨2, ![2048, 1024]⟩
abbrev S40 : Shape := ⟨1, ![40]⟩
abbrev S5120x1024 : Shape := ⟨2, ![5120, 1024]⟩
abbrev S8x1024x2048 : Shape := ⟨3, ![8, 1024, 2048]⟩
abbrev S8x2048x1024 : Shape := ⟨3, ![8, 2048, 1024]⟩
abbrev S2048x1 : Shape := ⟨2, ![2048, 1]⟩
abbrev S2048 : Shape := ⟨1, ![2048]⟩
abbrev S128x1024 : Shape := ⟨2, ![128, 1024]⟩
abbrev S1x1024x2048 : Shape := ⟨3, ![1, 1024, 2048]⟩
abbrev S1 : Shape := ⟨1, ![1]⟩
abbrev S1x2048x1024 : Shape := ⟨3, ![1, 2048, 1024]⟩
abbrev S1024x2048 : Shape := ⟨2, ![1024, 2048]⟩
abbrev S128x2048 : Shape := ⟨2, ![128, 2048]⟩
abbrev S40960x128 : Shape := ⟨2, ![40960, 128]⟩
abbrev S8 : Shape := ⟨1, ![8]⟩
abbrev S1x8 : Shape := ⟨2, ![1, 8]⟩
abbrev S_ : Shape := ⟨0, ![]⟩
abbrev S2048x8 : Shape := ⟨2, ![2048, 8]⟩
abbrev S16384 : Shape := ⟨1, ![16384]⟩
abbrev S16384x128 : Shape := ⟨2, ![16384, 128]⟩
abbrev S512x128 : Shape := ⟨2, ![512, 128]⟩
abbrev S512 : Shape := ⟨1, ![512]⟩
abbrev S256x1024 : Shape := ⟨2, ![256, 1024]⟩
abbrev S256x1 : Shape := ⟨2, ![256, 1]⟩

abbrev nBuf : Table → Nat
  | .hbm => 35
  | .local .tc .vmem => 20
  | .local .tc .smem => 1
  | .local .scVector .vmem => 2
  | _ => 0

abbrev bufTy : (tb : Table) → Fin (nBuf tb) → BufTy
  | .hbm, ⟨0, _⟩ => ⟨S2048x1024, .f32⟩
  | .hbm, ⟨1, _⟩ => ⟨S5120x1024, .f32⟩
  | .hbm, ⟨2, _⟩ => ⟨S8x1024x2048, .f32⟩
  | .hbm, ⟨3, _⟩ => ⟨S8x2048x1024, .f32⟩
  | .hbm, ⟨4, _⟩ => ⟨S2048x1, .i32⟩
  | .hbm, ⟨5, _⟩ => ⟨S2048x1, .i32⟩
  | .hbm, ⟨6, _⟩ => ⟨S2048x1, .f32⟩
  | .hbm, ⟨7, _⟩ => ⟨S2048x1, .f32⟩
  | .hbm, ⟨8, _⟩ => ⟨S2048, .i32⟩
  | .hbm, ⟨9, _⟩ => ⟨S2048, .i32⟩
  | .hbm, ⟨10, _⟩ => ⟨S5120x1024, .f32⟩
  | .hbm, ⟨11, _⟩ => ⟨S40960x128, .f32⟩
  | .hbm, ⟨12, _⟩ => ⟨S8, .i32⟩
  | .hbm, ⟨13, _⟩ => ⟨S1x8, .i32⟩
  | .hbm, ⟨14, _⟩ => ⟨S2048x1, .i32⟩
  | .hbm, ⟨15, _⟩ => ⟨S_, .i32⟩
  | .hbm, ⟨16, _⟩ => ⟨S2048x1, .i32⟩
  | .hbm, ⟨17, _⟩ => ⟨S2048x1, .i32⟩
  | .hbm, ⟨18, _⟩ => ⟨S2048x8, .i32⟩
  | .hbm, ⟨19, _⟩ => ⟨S2048x8, .i32⟩
  | .hbm, ⟨20, _⟩ => ⟨S2048x8, .i32⟩
  | .hbm, ⟨21, _⟩ => ⟨S16384, .i32⟩
  | .hbm, ⟨22, _⟩ => ⟨S2048x1, .i32⟩
  | .hbm, ⟨23, _⟩ => ⟨S_, .i32⟩
  | .hbm, ⟨24, _⟩ => ⟨S2048x1, .i32⟩
  | .hbm, ⟨25, _⟩ => ⟨S2048x1, .i32⟩
  | .hbm, ⟨26, _⟩ => ⟨S2048x8, .i32⟩
  | .hbm, ⟨27, _⟩ => ⟨S2048x8, .i32⟩
  | .hbm, ⟨28, _⟩ => ⟨S2048x8, .i32⟩
  | .hbm, ⟨29, _⟩ => ⟨S16384, .i32⟩
  | .hbm, ⟨30, _⟩ => ⟨S16384x128, .f32⟩
  | .hbm, ⟨31, _⟩ => ⟨S16384x128, .f32⟩
  | .hbm, ⟨32, _⟩ => ⟨S2048x1024, .f32⟩
  | .hbm, ⟨33, _⟩ => ⟨S2048x1024, .f32⟩
  | .hbm, ⟨34, _⟩ => ⟨S2048x1024, .f32⟩
  | .local .tc .vmem, ⟨0, _⟩ => ⟨S128x1024, .f32⟩
  | .local .tc .vmem, ⟨1, _⟩ => ⟨S128x1024, .f32⟩
  | .local .tc .vmem, ⟨2, _⟩ => ⟨S1x1024x2048, .f32⟩
  | .local .tc .vmem, ⟨3, _⟩ => ⟨S1x1024x2048, .f32⟩
  | .local .tc .vmem, ⟨4, _⟩ => ⟨S1x2048x1024, .f32⟩
  | .local .tc .vmem, ⟨5, _⟩ => ⟨S1x2048x1024, .f32⟩
  | .local .tc .vmem, ⟨6, _⟩ => ⟨S128x1024, .f32⟩
  | .local .tc .vmem, ⟨7, _⟩ => ⟨S128x1024, .f32⟩
  | .local .tc .vmem, ⟨8, _⟩ => ⟨S256x1024, .f32⟩
  | .local .tc .vmem, ⟨9, _⟩ => ⟨S256x1024, .f32⟩
  | .local .tc .vmem, ⟨10, _⟩ => ⟨S256x1024, .f32⟩
  | .local .tc .vmem, ⟨11, _⟩ => ⟨S256x1024, .f32⟩
  | .local .tc .vmem, ⟨12, _⟩ => ⟨S256x1024, .f32⟩
  | .local .tc .vmem, ⟨13, _⟩ => ⟨S256x1024, .f32⟩
  | .local .tc .vmem, ⟨14, _⟩ => ⟨S256x1, .f32⟩
  | .local .tc .vmem, ⟨15, _⟩ => ⟨S256x1, .f32⟩
  | .local .tc .vmem, ⟨16, _⟩ => ⟨S256x1, .f32⟩
  | .local .tc .vmem, ⟨17, _⟩ => ⟨S256x1, .f32⟩
  | .local .tc .vmem, ⟨18, _⟩ => ⟨S256x1024, .f32⟩
  | .local .tc .vmem, ⟨19, _⟩ => ⟨S256x1024, .f32⟩
  | .local .tc .smem, ⟨0, _⟩ => ⟨S40, .i32⟩
  | .local .scVector .vmem, ⟨0, _⟩ => ⟨S512x128, .f32⟩
  | .local .scVector .vmem, ⟨1, _⟩ => ⟨S512, .i32⟩
  | _, _ => ⟨S2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_arg1 : Ref sig .tc := ⟨.smem, 0, rfl⟩
abbrev main_v3_scv : Ref sig .scVector := ⟨.hbm, 11, rfl⟩
abbrev main_v12_scv : Ref sig .scVector := ⟨.hbm, 21, rfl⟩
abbrev main_v19_scv : Ref sig .scVector := ⟨.hbm, 29, rfl⟩
abbrev main_v20_0_scv : Ref sig .scVector := ⟨.hbm, 30, rfl⟩
abbrev main_v20_1_scv : Ref sig .scVector := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sge v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v3 : BitVec 32 := Scalar.muli v2 c8_i32
  ![v3.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v3 : BitVec 32 := Scalar.muli v2 c8_i32
  let c0_i32_7_r1 : BitVec 32 := 0#32
  ![v3.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x1024 : Shape := ⟨2, ![2048, 1024]⟩
abbrev S40 : Shape := ⟨1, ![40]⟩
abbrev S5120x1024 : Shape := ⟨2, ![5120, 1024]⟩
abbrev S8x1024x2048 : Shape := ⟨3, ![8, 1024, 2048]⟩
abbrev S8x2048x1024 : Shape := ⟨3, ![8, 2048, 1024]⟩
abbrev S2048x1 : Shape := ⟨2, ![2048, 1]⟩
abbrev S40x128 : Shape := ⟨2, ![40, 128]⟩
abbrev S5120 : Shape := ⟨1, ![5120]⟩
abbrev S_ : Shape := ⟨0, ![]⟩
abbrev S1x1024x2048 : Shape := ⟨3, ![1, 1024, 2048]⟩
abbrev S1024x2048 : Shape := ⟨2, ![1024, 2048]⟩
abbrev S5120x2048 : Shape := ⟨2, ![5120, 2048]⟩
abbrev S1x2048x1024 : Shape := ⟨3, ![1, 2048, 1024]⟩
abbrev S5120x1 : Shape := ⟨2, ![5120, 1]⟩
abbrev S2048 : Shape := ⟨1, ![2048]⟩

abbrev nBuf : Space → Nat
  | .hbm => 257
  | .vmem => 0
  | .smem => 0
  | _ => 0

abbrev hbmTy0_0 (i : Nat) : BufTy := match i % 128 with
  | 0 => ⟨S2048x1024, .f32⟩
  | 1 => ⟨S40, .i32⟩
  | 2 => ⟨S5120x1024, .f32⟩
  | 3 => ⟨S8x1024x2048, .f32⟩
  | 4 => ⟨S8x2048x1024, .f32⟩
  | 5 => ⟨S2048x1, .i32⟩
  | 6 => ⟨S2048x1, .i32⟩
  | 7 => ⟨S2048x1, .f32⟩
  | 8 => ⟨S2048x1, .f32⟩
  | 9 => ⟨S40x128, .i32⟩
  | 10 => ⟨S5120, .i32⟩
  | 11 => ⟨S_, .f32⟩
  | 12 => ⟨S5120x1024, .f32⟩
  | 13 => ⟨S1x1024x2048, .f32⟩
  | 14 => ⟨S1024x2048, .f32⟩
  | 15 => ⟨S5120x2048, .f32⟩
  | 16 => ⟨S5120x2048, .f32⟩
  | 17 => ⟨S5120x2048, .f32⟩
  | 18 => ⟨S_, .f32⟩
  | 19 => ⟨S5120x2048, .f32⟩
  | 20 => ⟨S5120x2048, .f32⟩
  | 21 => ⟨S5120x2048, .f32⟩
  | 22 => ⟨S_, .f32⟩
  | 23 => ⟨S5120x2048, .f32⟩
  | 24 => ⟨S5120x2048, .f32⟩
  | 25 => ⟨S5120x2048, .f32⟩
  | 26 => ⟨S_, .f32⟩
  | 27 => ⟨S5120x2048, .f32⟩
  | 28 => ⟨S5120x2048, .f32⟩
  | 29 => ⟨S_, .f32⟩
  | 30 => ⟨S5120x2048, .f32⟩
  | 31 => ⟨S5120x2048, .f32⟩
  | 32 => ⟨S5120x2048, .f32⟩
  | 33 => ⟨S1x2048x1024, .f32⟩
  | 34 => ⟨S2048x1024, .f32⟩
  | 35 => ⟨S5120x1024, .f32⟩
  | 36 => ⟨S_, .i32⟩
  | 37 => ⟨S5120, .i32⟩
  | 38 => ⟨S5120, .i1⟩
  | 39 => ⟨S5120x1, .i1⟩
  | 40 => ⟨S5120x1024, .i1⟩
  | 41 => ⟨S5120x1024, .f32⟩
  | 42 => ⟨S1x1024x2048, .f32⟩
  | 43 => ⟨S1024x2048, .f32⟩
  | 44 => ⟨S5120x2048, .f32⟩
  | 45 => ⟨S5120x2048, .f32⟩
  | 46 => ⟨S5120x2048, .f32⟩
  | 47 => ⟨S_, .f32⟩
  | 48 => ⟨S5120x2048, .f32⟩
  | 49 => ⟨S5120x2048, .f32⟩
  | 50 => ⟨S5120x2048, .f32⟩
  | 51 => ⟨S_, .f32⟩
  | 52 => ⟨S5120x2048, .f32⟩
  | 53 => ⟨S5120x2048, .f32⟩
  | 54 => ⟨S5120x2048, .f32⟩
  | 55 => ⟨S_, .f32⟩
  | 56 => ⟨S5120x2048, .f32⟩
  | 57 => ⟨S5120x2048, .f32⟩
  | 58 => ⟨S_, .f32⟩
  | 59 => ⟨S5120x2048, .f32⟩
  | 60 => ⟨S5120x2048, .f32⟩
  | 61 => ⟨S5120x2048, .f32⟩
  | 62 => ⟨S1x2048x1024, .f32⟩
  | 63 => ⟨S2048x1024, .f32⟩
  | 64 => ⟨S5120x1024, .f32⟩
  | 65 => ⟨S_, .i32⟩
  | 66 => ⟨S5120, .i32⟩
  | 67 => ⟨S5120, .i1⟩
  | 68 => ⟨S5120x1, .i1⟩
  | 69 => ⟨S5120x1024, .i1⟩
  | 70 => ⟨S5120x1024, .f32⟩
  | 71 => ⟨S1x1024x2048, .f32⟩
  | 72 => ⟨S1024x2048, .f32⟩
  | 73 => ⟨S5120x2048, .f32⟩
  | 74 => ⟨S5120x2048, .f32⟩
  | 75 => ⟨S5120x2048, .f32⟩
  | 76 => ⟨S_, .f32⟩
  | 77 => ⟨S5120x2048, .f32⟩
  | 78 => ⟨S5120x2048, .f32⟩
  | 79 => ⟨S5120x2048, .f32⟩
  | 80 => ⟨S_, .f32⟩
  | 81 => ⟨S5120x2048, .f32⟩
  | 82 => ⟨S5120x2048, .f32⟩
  | 83 => ⟨S5120x2048, .f32⟩
  | 84 => ⟨S_, .f32⟩
  | 85 => ⟨S5120x2048, .f32⟩
  | 86 => ⟨S5120x2048, .f32⟩
  | 87 => ⟨S_, .f32⟩
  | 88 => ⟨S5120x2048, .f32⟩
  | 89 => ⟨S5120x2048, .f32⟩
  | 90 => ⟨S5120x2048, .f32⟩
  | 91 => ⟨S1x2048x1024, .f32⟩
  | 92 => ⟨S2048x1024, .f32⟩
  | 93 => ⟨S5120x1024, .f32⟩
  | 94 => ⟨S_, .i32⟩
  | 95 => ⟨S5120, .i32⟩
  | 96 => ⟨S5120, .i1⟩
  | 97 => ⟨S5120x1, .i1⟩
  | 98 => ⟨S5120x1024, .i1⟩
  | 99 => ⟨S5120x1024, .f32⟩
  | 100 => ⟨S1x1024x2048, .f32⟩
  | 101 => ⟨S1024x2048, .f32⟩
  | 102 => ⟨S5120x2048, .f32⟩
  | 103 => ⟨S5120x2048, .f32⟩
  | 104 => ⟨S5120x2048, .f32⟩
  | 105 => ⟨S_, .f32⟩
  | 106 => ⟨S5120x2048, .f32⟩
  | 107 => ⟨S5120x2048, .f32⟩
  | 108 => ⟨S5120x2048, .f32⟩
  | 109 => ⟨S_, .f32⟩
  | 110 => ⟨S5120x2048, .f32⟩
  | 111 => ⟨S5120x2048, .f32⟩
  | 112 => ⟨S5120x2048, .f32⟩
  | 113 => ⟨S_, .f32⟩
  | 114 => ⟨S5120x2048, .f32⟩
  | 115 => ⟨S5120x2048, .f32⟩
  | 116 => ⟨S_, .f32⟩
  | 117 => ⟨S5120x2048, .f32⟩
  | 118 => ⟨S5120x2048, .f32⟩
  | 119 => ⟨S5120x2048, .f32⟩
  | 120 => ⟨S1x2048x1024, .f32⟩
  | 121 => ⟨S2048x1024, .f32⟩
  | 122 => ⟨S5120x1024, .f32⟩
  | 123 => ⟨S_, .i32⟩
  | 124 => ⟨S5120, .i32⟩
  | 125 => ⟨S5120, .i1⟩
  | 126 => ⟨S5120x1, .i1⟩
  | 127 => ⟨S5120x1024, .i1⟩
  | _ => ⟨S2048x1024, .f32⟩

abbrev hbmTy0_1 (i : Nat) : BufTy := match i % 128 with
  | 0 => ⟨S5120x1024, .f32⟩
  | 1 => ⟨S1x1024x2048, .f32⟩
  | 2 => ⟨S1024x2048, .f32⟩
  | 3 => ⟨S5120x2048, .f32⟩
  | 4 => ⟨S5120x2048, .f32⟩
  | 5 => ⟨S5120x2048, .f32⟩
  | 6 => ⟨S_, .f32⟩
  | 7 => ⟨S5120x2048, .f32⟩
  | 8 => ⟨S5120x2048, .f32⟩
  | 9 => ⟨S5120x2048, .f32⟩
  | 10 => ⟨S_, .f32⟩
  | 11 => ⟨S5120x2048, .f32⟩
  | 12 => ⟨S5120x2048, .f32⟩
  | 13 => ⟨S5120x2048, .f32⟩
  | 14 => ⟨S_, .f32⟩
  | 15 => ⟨S5120x2048, .f32⟩
  | 16 => ⟨S5120x2048, .f32⟩
  | 17 => ⟨S_, .f32⟩
  | 18 => ⟨S5120x2048, .f32⟩
  | 19 => ⟨S5120x2048, .f32⟩
  | 20 => ⟨S5120x2048, .f32⟩
  | 21 => ⟨S1x2048x1024, .f32⟩
  | 22 => ⟨S2048x1024, .f32⟩
  | 23 => ⟨S5120x1024, .f32⟩
  | 24 => ⟨S_, .i32⟩
  | 25 => ⟨S5120, .i32⟩
  | 26 => ⟨S5120, .i1⟩
  | 27 => ⟨S5120x1, .i1⟩
  | 28 => ⟨S5120x1024, .i1⟩
  | 29 => ⟨S5120x1024, .f32⟩
  | 30 => ⟨S1x1024x2048, .f32⟩
  | 31 => ⟨S1024x2048, .f32⟩
  | 32 => ⟨S5120x2048, .f32⟩
  | 33 => ⟨S5120x2048, .f32⟩
  | 34 => ⟨S5120x2048, .f32⟩
  | 35 => ⟨S_, .f32⟩
  | 36 => ⟨S5120x2048, .f32⟩
  | 37 => ⟨S5120x2048, .f32⟩
  | 38 => ⟨S5120x2048, .f32⟩
  | 39 => ⟨S_, .f32⟩
  | 40 => ⟨S5120x2048, .f32⟩
  | 41 => ⟨S5120x2048, .f32⟩
  | 42 => ⟨S5120x2048, .f32⟩
  | 43 => ⟨S_, .f32⟩
  | 44 => ⟨S5120x2048, .f32⟩
  | 45 => ⟨S5120x2048, .f32⟩
  | 46 => ⟨S_, .f32⟩
  | 47 => ⟨S5120x2048, .f32⟩
  | 48 => ⟨S5120x2048, .f32⟩
  | 49 => ⟨S5120x2048, .f32⟩
  | 50 => ⟨S1x2048x1024, .f32⟩
  | 51 => ⟨S2048x1024, .f32⟩
  | 52 => ⟨S5120x1024, .f32⟩
  | 53 => ⟨S_, .i32⟩
  | 54 => ⟨S5120, .i32⟩
  | 55 => ⟨S5120, .i1⟩
  | 56 => ⟨S5120x1, .i1⟩
  | 57 => ⟨S5120x1024, .i1⟩
  | 58 => ⟨S5120x1024, .f32⟩
  | 59 => ⟨S1x1024x2048, .f32⟩
  | 60 => ⟨S1024x2048, .f32⟩
  | 61 => ⟨S5120x2048, .f32⟩
  | 62 => ⟨S5120x2048, .f32⟩
  | 63 => ⟨S5120x2048, .f32⟩
  | 64 => ⟨S_, .f32⟩
  | 65 => ⟨S5120x2048, .f32⟩
  | 66 => ⟨S5120x2048, .f32⟩
  | 67 => ⟨S5120x2048, .f32⟩
  | 68 => ⟨S_, .f32⟩
  | 69 => ⟨S5120x2048, .f32⟩
  | 70 => ⟨S5120x2048, .f32⟩
  | 71 => ⟨S5120x2048, .f32⟩
  | 72 => ⟨S_, .f32⟩
  | 73 => ⟨S5120x2048, .f32⟩
  | 74 => ⟨S5120x2048, .f32⟩
  | 75 => ⟨S_, .f32⟩
  | 76 => ⟨S5120x2048, .f32⟩
  | 77 => ⟨S5120x2048, .f32⟩
  | 78 => ⟨S5120x2048, .f32⟩
  | 79 => ⟨S1x2048x1024, .f32⟩
  | 80 => ⟨S2048x1024, .f32⟩
  | 81 => ⟨S5120x1024, .f32⟩
  | 82 => ⟨S_, .i32⟩
  | 83 => ⟨S5120, .i32⟩
  | 84 => ⟨S5120, .i1⟩
  | 85 => ⟨S5120x1, .i1⟩
  | 86 => ⟨S5120x1024, .i1⟩
  | 87 => ⟨S5120x1024, .f32⟩
  | 88 => ⟨S1x1024x2048, .f32⟩
  | 89 => ⟨S1024x2048, .f32⟩
  | 90 => ⟨S5120x2048, .f32⟩
  | 91 => ⟨S5120x2048, .f32⟩
  | 92 => ⟨S5120x2048, .f32⟩
  | 93 => ⟨S_, .f32⟩
  | 94 => ⟨S5120x2048, .f32⟩
  | 95 => ⟨S5120x2048, .f32⟩
  | 96 => ⟨S5120x2048, .f32⟩
  | 97 => ⟨S_, .f32⟩
  | 98 => ⟨S5120x2048, .f32⟩
  | 99 => ⟨S5120x2048, .f32⟩
  | 100 => ⟨S5120x2048, .f32⟩
  | 101 => ⟨S_, .f32⟩
  | 102 => ⟨S5120x2048, .f32⟩
  | 103 => ⟨S5120x2048, .f32⟩
  | 104 => ⟨S_, .f32⟩
  | 105 => ⟨S5120x2048, .f32⟩
  | 106 => ⟨S5120x2048, .f32⟩
  | 107 => ⟨S5120x2048, .f32⟩
  | 108 => ⟨S1x2048x1024, .f32⟩
  | 109 => ⟨S2048x1024, .f32⟩
  | 110 => ⟨S5120x1024, .f32⟩
  | 111 => ⟨S_, .i32⟩
  | 112 => ⟨S5120, .i32⟩
  | 113 => ⟨S5120, .i1⟩
  | 114 => ⟨S5120x1, .i1⟩
  | 115 => ⟨S5120x1024, .i1⟩
  | 116 => ⟨S5120x1024, .f32⟩
  | 117 => ⟨S2048, .i32⟩
  | 118 => ⟨S2048x1, .i32⟩
  | 119 => ⟨S2048x1024, .f32⟩
  | 120 => ⟨S2048x1024, .f32⟩
  | 121 => ⟨S2048x1024, .f32⟩
  | 122 => ⟨S2048x1024, .f32⟩
  | 123 => ⟨S2048, .i32⟩
  | 124 => ⟨S2048x1, .i32⟩
  | 125 => ⟨S2048x1024, .f32⟩
  | 126 => ⟨S2048x1024, .f32⟩
  | 127 => ⟨S2048x1024, .f32⟩
  | _ => ⟨S2048x1024, .f32⟩

abbrev hbmTy0_2 (i : Nat) : BufTy := match i % 128 with
  | 0 => ⟨S2048x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call2_v0 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call3_v0 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_19 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_20 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_21 : Ref sig .tc := ⟨.hbm, 142, rfl⟩
abbrev main_v106 : Ref sig .tc := ⟨.hbm, 143, rfl⟩
abbrev main_v107 : Ref sig .tc := ⟨.hbm, 144, rfl⟩
abbrev main_cst_22 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_23 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_call4_v0 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_24 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_25 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_26 : Ref sig .tc := ⟨.hbm, 171, rfl⟩
abbrev main_v129 : Ref sig .tc := ⟨.hbm, 172, rfl⟩
abbrev main_v130 : Ref sig .tc := ⟨.hbm, 173, rfl⟩
abbrev main_cst_27 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_c_28 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_call5_v0 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_29 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_30 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_31 : Ref sig .tc := ⟨.hbm, 200, rfl⟩
abbrev main_v152 : Ref sig .tc := ⟨.hbm, 201, rfl⟩
abbrev main_v153 : Ref sig .tc := ⟨.hbm, 202, rfl⟩
abbrev main_cst_32 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_c_33 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_call6_v0 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_34 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_35 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_cst_36 : Ref sig .tc := ⟨.hbm, 229, rfl⟩
abbrev main_v175 : Ref sig .tc := ⟨.hbm, 230, rfl⟩
abbrev main_v176 : Ref sig .tc := ⟨.hbm, 231, rfl⟩
abbrev main_cst_37 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_c_38 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_call7_v0 : Ref sig .tc := ⟨.hbm, 243, rfl⟩
abbrev main_v186 : Ref sig .tc := ⟨.hbm, 244, rfl⟩
abbrev main_v187 : Ref sig .tc := ⟨.hbm, 245, rfl⟩
abbrev main_call8_v0 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_call9_v0 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩

abbrev nD : Nat := 1
abbrev τ : Topo := Topo.v7x

variable {F : FTy → Type} [FloatOps F]
-- ==== Front.lean ====
abbrev S1x2048x1024 : Shape := ⟨3, ![1, 2048, 1024]⟩
abbrev S1024 : Shape := ⟨1, ![1024]⟩
abbrev S1024x1024 : Shape := ⟨2, ![1024, 1024]⟩
abbrev S1024x8 : Shape := ⟨2, ![1024, 8]⟩
abbrev S2048x1024 : Shape := ⟨2, ![2048, 1024]⟩
abbrev S1x1024 : Shape := ⟨2, ![1, 1024]⟩
abbrev S1024x16x2x32 : Shape := ⟨4, ![1024, 16, 2, 32]⟩
abbrev S1024x2x16x32 : Shape := ⟨4, ![1024, 2, 16, 32]⟩
abbrev S1024x2x512 : Shape := ⟨3, ![1024, 2, 512]⟩
abbrev S1024x1x512 : Shape := ⟨3, ![1024, 1, 512]⟩
abbrev S1024x512 : Shape := ⟨2, ![1024, 512]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S256x32 : Shape := ⟨2, ![256, 32]⟩
abbrev S256x64 : Shape := ⟨2, ![256, 64]⟩
abbrev S2048x32 : Shape := ⟨2, ![2048, 32]⟩
abbrev S2048x64 : Shape := ⟨2, ![2048, 64]⟩
abbrev S2048x8 : Shape := ⟨2, ![2048, 8]⟩
abbrev S256x8 : Shape := ⟨2, ![256, 8]⟩
abbrev S2048x1 : Shape := ⟨2, ![2048, 1]⟩
abbrev S40x1 : Shape := ⟨2, ![40, 1]⟩
abbrev S1x1 : Shape := ⟨2, ![1, 1]⟩
abbrev S2048 : Shape := ⟨1, ![2048]⟩
abbrev S256x256 : Shape := ⟨2, ![256, 256]⟩
abbrev S1x8 : Shape := ⟨2, ![1, 8]⟩
abbrev S8 : Shape := ⟨1, ![8]⟩
abbrev S8x8 : Shape := ⟨2, ![8, 8]⟩
abbrev S40x8 : Shape := ⟨2, ![40, 8]⟩
abbrev S40 : Shape := ⟨1, ![40]⟩
abbrev S1 : Shape := ⟨1, ![1]⟩

abbrev nBuf : Space → Nat
  | .hbm => 40
  | .vmem => 47
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x8, .f32⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1024x16x2x32, .f32⟩
  | .hbm, ⟨12, _⟩ => ⟨S1024x2x16x32, .f32⟩
  | .hbm, ⟨13, _⟩ => ⟨S1024x2x512, .f32⟩
  | .hbm, ⟨14, _⟩ => ⟨S1024x16x2x32, .f32⟩
  | .hbm, ⟨15, _⟩ => ⟨S1024x2x16x32, .f32⟩
  | .hbm, ⟨16, _⟩ => ⟨S1024x2x512, .f32⟩
  | .hbm, ⟨17, _⟩ => ⟨S1024x1x512, .f32⟩
  | .hbm, ⟨18, _⟩ => ⟨S1024x512, .f32⟩
  | .hbm, ⟨19, _⟩ => ⟨S1024x1x512, .f32⟩
  | .hbm, ⟨20, _⟩ => ⟨S1024x512, .f32⟩
  | .hbm, ⟨21, _⟩ => ⟨S1024x1x512, .f32⟩
  | .hbm, ⟨22, _⟩ => ⟨S1024x512, .f32⟩
  | .hbm, ⟨23, _⟩ => ⟨S1024x1x512, .f32⟩
  | .hbm, ⟨24, _⟩ => ⟨S1024x512, .f32⟩
  | .hbm, ⟨25, _⟩ => ⟨S2048x512, .bf16⟩
  | .hbm, ⟨26, _⟩ => ⟨S2048x512, .bf16⟩
  | .hbm, ⟨27, _⟩ => ⟨S2048x512, .bf16⟩
  | .hbm, ⟨28, _⟩ => ⟨S2048x512, .bf16⟩
  | .hbm, ⟨29, _⟩ => ⟨S2048x1024, .bf16⟩
  | .hbm, ⟨30, _⟩ => ⟨S2048x1024, .bf16⟩
  | .hbm, ⟨31, _⟩ => ⟨S2048x1024, .f32⟩
  | .hbm, ⟨32, _⟩ => ⟨S2048x1024, .f32⟩
  | .hbm, ⟨33, _⟩ => ⟨S2048x8, .f32⟩
  | .hbm, ⟨34, _⟩ => ⟨S2048x1, .i32⟩
  | .hbm, ⟨35, _⟩ => ⟨S2048x1, .i32⟩
  | .hbm, ⟨36, _⟩ => ⟨S2048x1, .f32⟩
  | .hbm, ⟨37, _⟩ => ⟨S2048x1, .f32⟩
  | .hbm, ⟨38, _⟩ => ⟨S40x1, .i32⟩
  | .hbm, ⟨39, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x1024, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x1024, .bf16⟩
  | .local _ .vmem, ⟨17, _⟩ => ⟨S256x1024, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S2048x512, .bf16⟩
  | .local _ .vmem, ⟨23, _⟩ => ⟨S2048x512, .bf16⟩
  | .local _ .vmem, ⟨24, _⟩ => ⟨S2048x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .f32⟩
  | .local _ .vmem, ⟨30, _⟩ => ⟨S256x1024, .f32⟩
  | .local _ .vmem, ⟨31, _⟩ => ⟨S1024x1024, .f32⟩
  | .local _ .vmem, ⟨32, _⟩ => ⟨S1x1024, .f32⟩
  | .local _ .vmem, ⟨33, _⟩ => ⟨S1024x8, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x8, .f32⟩
  | .local _ .vmem, ⟨39, _⟩ => ⟨S256x8, .f32⟩
  | .local _ .vmem, ⟨40, _⟩ => ⟨S2048x8, .f32⟩
  | .local _ .vmem, ⟨41, _⟩ => ⟨S2048x1, .i32⟩
  | .local _ .vmem, ⟨42, _⟩ => ⟨S2048x1, .i32⟩
  | .local _ .vmem, ⟨43, _⟩ => ⟨S2048x1, .f32⟩
  | .local _ .vmem, ⟨44, _⟩ => ⟨S2048x1, .f32⟩
  | .local _ .vmem, ⟨45, _⟩ => ⟨S40x1, .i32⟩
  | .local _ .vmem, ⟨46, _⟩ => ⟨S1x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v20_3 : Ref sig .tc := ⟨.hbm, 37, rfl⟩
abbrev main_v20_4 : Ref sig .tc := ⟨.hbm, 38, rfl⟩
abbrev main_v20_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc3_stg0_0 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem5_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc3_sem0_0 : DmaSem sig := 40
abbrev cc3_sem1_0 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x8 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2048x1 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x1 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S40x1 .i32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]
-- ==== FrontIdeal.lean ====
variable {F : FTy → Type} [FloatOps F] [Named F]
def κ : String → Option EReal := fun
  | "mask" => some ⊥
  | "rope" => some (((-1 / 32) * (Real.log 10000) : ℝ) : EReal)
  | _ => none
-- ==== FrontReferenceIdeal.lean ====
abbrev S1x2048x1024 : Shape := ⟨3, ![1, 2048, 1024]⟩
abbrev S1024 : Shape := ⟨1, ![1024]⟩
abbrev S1024x1024 : Shape := ⟨2, ![1024, 1024]⟩
abbrev S1024x8 : Shape := ⟨2, ![1024, 8]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x1x2048x64 : Shape := ⟨4, ![1, 1, 2048, 64]⟩
abbrev S1x16x2048x32 : Shape := ⟨4, ![1, 16, 2048, 32]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S2048x1024 : Shape := ⟨2, ![2048, 1024]⟩
abbrev S2048x8 : Shape := ⟨2, ![2048, 8]⟩
abbrev S2048x2 : Shape := ⟨2, ![2048, 2]⟩
abbrev S1x8 : Shape := ⟨2, ![1, 8]⟩
abbrev S8 : Shape := ⟨1, ![8]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S1x2048x1024, .f32⟩
  | 1 => ⟨S1024, .f32⟩
  | 2 => ⟨S1024, .f32⟩
  | 3 => ⟨S1024x1024, .f32⟩
  | 4 => ⟨S1024x1024, .f32⟩
  | 5 => ⟨S1024x1024, .f32⟩
  | 6 => ⟨S1024x1024, .f32⟩
  | 7 => ⟨S1024x8, .f32⟩
  | 8 => ⟨S1x2048x1024, .f32⟩
  | 9 => ⟨S_, .f32⟩
  | 10 => ⟨S1x2048, .f32⟩
  | 11 => ⟨S1x2048x1, .f32⟩
  | 12 => ⟨S_, .f32⟩
  | 13 => ⟨S1x2048x1, .f32⟩
  | 14 => ⟨S1x2048x1, .f32⟩
  | 15 => ⟨S_, .f32⟩
  | 16 => ⟨S1x2048x1, .f32⟩
  | 17 => ⟨S1x2048x1, .f32⟩
  | 18 => ⟨S1x2048x1, .f32⟩
  | 19 => ⟨S1x2048x1024, .f32⟩
  | 20 => ⟨S1x2048x1024, .f32⟩
  | 21 => ⟨S1x1x1024, .f32⟩
  | 22 => ⟨S1x2048x1024, .f32⟩
  | 23 => ⟨S1x2048x1024, .f32⟩
  | 24 => ⟨S1x2048x1024, .f32⟩
  | 25 => ⟨S1x2048x16x64, .f32⟩
  | 26 => ⟨S1x16x2048x64, .f32⟩
  | 27 => ⟨S1x2048x1024, .f32⟩
  | 28 => ⟨S1x2048x16x64, .f32⟩
  | 29 => ⟨S1x16x2048x64, .f32⟩
  | 30 => ⟨S1x2048x1024, .f32⟩
  | 31 => ⟨S1x2048x16x64, .f32⟩
  | 32 => ⟨S1x16x2048x64, .f32⟩
  | 33 => ⟨S2048, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x64, .f32⟩
  | 56 => ⟨S2048x64, .f32⟩
  | 57 => ⟨S1x1x2048x64, .f32⟩
  | 58 => ⟨S2048x64, .f32⟩
  | 59 => ⟨S1x1x2048x64, .f32⟩
  | 60 => ⟨S1x16x2048x64, .f32⟩
  | 61 => ⟨S1x16x2048x64, .f32⟩
  | 62 => ⟨S1x16x2048x32, .f32⟩
  | 63 => ⟨S1x16x2048x32, .f32⟩
  | 64 => ⟨S1x16x2048x32, .f32⟩
  | 65 => ⟨S1x16x2048x64, .f32⟩
  | 66 => ⟨S1x16x2048x64, .f32⟩
  | 67 => ⟨S1x16x2048x64, .f32⟩
  | 68 => ⟨S1x16x2048x64, .f32⟩
  | 69 => ⟨S1x16x2048x64, .f32⟩
  | 70 => ⟨S1x16x2048x64, .f32⟩
  | 71 => ⟨S1x16x2048x32, .f32⟩
  | 72 => ⟨S1x16x2048x32, .f32⟩
  | 73 => ⟨S1x16x2048x32, .f32⟩
  | 74 => ⟨S1x16x2048x64, .f32⟩
  | 75 => ⟨S1x16x2048x64, .f32⟩
  | 76 => ⟨S1x16x2048x64, .f32⟩
  | 77 => ⟨S1x16x2048x64, .f32⟩
  | 78 => ⟨S1x16x2048x2048, .f32⟩
  | 79 => ⟨S_, .f32⟩
  | 80 => ⟨S1x16x2048x2048, .f32⟩
  | 81 => ⟨S1x16x2048x2048, .f32⟩
  | 82 => ⟨S_, .i1⟩
  | 83 => ⟨S2048x2048, .i1⟩
  | 84 => ⟨S2048x2048, .i32⟩
  | 85 => ⟨S_, .i32⟩
  | 86 => ⟨S2048x2048, .i32⟩
  | 87 => ⟨S2048x2048, .i32⟩
  | 88 => ⟨S2048x2048, .i32⟩
  | 89 => ⟨S2048x2048, .i1⟩
  | 90 => ⟨S_, .i1⟩
  | 91 => ⟨S2048x2048, .i1⟩
  | 92 => ⟨S2048x2048, .i1⟩
  | 93 => ⟨S1x1x2048x2048, .i1⟩
  | 94 => ⟨S_, .f32⟩
  | 95 => ⟨S_, .f32⟩
  | 96 => ⟨S1x16x2048x2048, .i1⟩
  | 97 => ⟨S1x16x2048x2048, .f32⟩
  | 98 => ⟨S1x16x2048x2048, .f32⟩
  | 99 => ⟨S_, .f32⟩
  | 100 => ⟨S1x16x2048, .f32⟩
  | 101 => ⟨S_, .f32⟩
  | 102 => ⟨S1x16x2048, .f32⟩
  | 103 => ⟨S1x16x2048, .f32⟩
  | 104 => ⟨S1x16x2048x1, .f32⟩
  | 105 => ⟨S1x16x2048x2048, .f32⟩
  | 106 => ⟨S1x16x2048x2048, .f32⟩
  | 107 => ⟨S1x16x2048x2048, .f32⟩
  | 108 => ⟨S_, .f32⟩
  | 109 => ⟨S1x16x2048, .f32⟩
  | 110 => ⟨S1x16x2048x1, .f32⟩
  | 111 => ⟨S1x16x2048x2048, .f32⟩
  | 112 => ⟨S1x16x2048x2048, .f32⟩
  | 113 => ⟨S1x16x2048x64, .f32⟩
  | 114 => ⟨S1x2048x16x64, .f32⟩
  | 115 => ⟨S1x2048x1024, .f32⟩
  | 116 => ⟨S1x2048x1024, .f32⟩
  | 117 => ⟨S1x2048x1024, .f32⟩
  | 118 => ⟨S1x2048x1024, .f32⟩
  | 119 => ⟨S_, .f32⟩
  | 120 => ⟨S1x2048, .f32⟩
  | 121 => ⟨S1x2048x1, .f32⟩
  | 122 => ⟨S_, .f32⟩
  | 123 => ⟨S1x2048x1, .f32⟩
  | 124 => ⟨S1x2048x1, .f32⟩
  | 125 => ⟨S_, .f32⟩
  | 126 => ⟨S1x2048x1, .f32⟩
  | 127 => ⟨S1x2048x1, .f32⟩
  | _ => ⟨S1x2048x1024, .f32⟩

abbrev hbmTy0_1 (i : Nat) : BufTy := match i % 128 with
  | 0 => ⟨S1x2048x1, .f32⟩
  | 1 => ⟨S1x2048x1024, .f32⟩
  | 2 => ⟨S1x2048x1024, .f32⟩
  | 3 => ⟨S1x1x1024, .f32⟩
  | 4 => ⟨S1x2048x1024, .f32⟩
  | 5 => ⟨S1x2048x1024, .f32⟩
  | 6 => ⟨S2048x1024, .f32⟩
  | 7 => ⟨S2048x8, .f32⟩
  | 8 => ⟨S_, .f32⟩
  | 9 => ⟨S2048, .f32⟩
  | 10 => ⟨S_, .f32⟩
  | 11 => ⟨S2048, .f32⟩
  | 12 => ⟨S2048, .f32⟩
  | 13 => ⟨S2048x1, .f32⟩
  | 14 => ⟨S2048x8, .f32⟩
  | 15 => ⟨S2048x8, .f32⟩
  | 16 => ⟨S2048x8, .f32⟩
  | 17 => ⟨S_, .f32⟩
  | 18 => ⟨S2048, .f32⟩
  | 19 => ⟨S2048x1, .f32⟩
  | 20 => ⟨S2048x8, .f32⟩
  | 21 => ⟨S2048x8, .f32⟩
  | 22 => ⟨S2048x2, .f32⟩
  | 23 => ⟨S2048x2, .i32⟩
  | 24 => ⟨S_, .f32⟩
  | 25 => ⟨S2048, .f32⟩
  | 26 => ⟨S2048x1, .f32⟩
  | 27 => ⟨S2048x2, .f32⟩
  | 28 => ⟨S2048x2, .f32⟩
  | 29 => ⟨S_, .f32⟩
  | 30 => ⟨S2048x8, .f32⟩
  | 31 => ⟨S2048x1, .i32⟩
  | 32 => ⟨S2048, .i32⟩
  | 33 => ⟨S2048x1, .i32⟩
  | 34 => ⟨S1x8, .i32⟩
  | 35 => ⟨S2048x8, .i32⟩
  | 36 => ⟨S2048x8, .i32⟩
  | 37 => ⟨S2048x8, .i1⟩
  | 38 => ⟨S2048x8, .f32⟩
  | 39 => ⟨S2048x8, .f32⟩
  | 40 => ⟨S2048x1, .i32⟩
  | 41 => ⟨S2048, .i32⟩
  | 42 => ⟨S2048x1, .i32⟩
  | 43 => ⟨S1x8, .i32⟩
  | 44 => ⟨S2048x8, .i32⟩
  | 45 => ⟨S2048x8, .i32⟩
  | 46 => ⟨S2048x8, .i1⟩
  | 47 => ⟨S2048x8, .f32⟩
  | 48 => ⟨S2048x8, .f32⟩
  | 49 => ⟨S_, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S_, .f32⟩
  | 60 => ⟨S8, .f32⟩
  | 61 => ⟨S8, .f32⟩
  | 62 => ⟨S8, .f32⟩
  | 63 => ⟨S_, .f32⟩
  | 64 => ⟨S_, .f32⟩
  | 65 => ⟨S_, .f32⟩
  | 66 => ⟨S_, .f32⟩
  | 67 => ⟨S2048x1024, .f32⟩
  | 68 => ⟨S2048x1, .f32⟩
  | 69 => ⟨S2048x1, .f32⟩
  | 70 => ⟨S1x1, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_c : Ref sig .tc := ⟨.hbm, 82, rfl⟩
abbrev main_v65 : Ref sig .tc := ⟨.hbm, 83, rfl⟩
abbrev main_call0_v0 : Ref sig .tc := ⟨.hbm, 84, rfl⟩
abbrev main_call0_c : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_c_0 : Ref sig .tc := ⟨.hbm, 90, rfl⟩
abbrev main_call0_v5 : Ref sig .tc := ⟨.hbm, 91, rfl⟩
abbrev main_v66 : Ref sig .tc := ⟨.hbm, 92, rfl⟩
abbrev main_v67 : Ref sig .tc := ⟨.hbm, 93, rfl⟩
abbrev main_cst_8 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v68 : Ref sig .tc := ⟨.hbm, 98, rfl⟩
abbrev main_cst_9 : Ref sig .tc := ⟨.hbm, 99, rfl⟩
abbrev main_v69 : Ref sig .tc := ⟨.hbm, 100, rfl⟩
abbrev main_cst_10 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_11 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_12 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_v89 : Ref sig .tc := ⟨.hbm, 124, rfl⟩
abbrev main_cst_14 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_15 : Ref sig .tc := ⟨.hbm, 136, rfl⟩
abbrev main_v100 : Ref sig .tc := ⟨.hbm, 137, rfl⟩
abbrev main_cst_16 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_17 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_values : Ref sig .tc := ⟨.hbm, 150, rfl⟩
abbrev main_indices : Ref sig .tc := ⟨.hbm, 151, rfl⟩
abbrev main_cst_18 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_19 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_call3_v0 : Ref sig .tc := ⟨.hbm, 170, rfl⟩
abbrev main_call3_v1 : Ref sig .tc := ⟨.hbm, 171, rfl⟩
abbrev main_call3_v2 : Ref sig .tc := ⟨.hbm, 172, rfl⟩
abbrev main_call3_v3 : Ref sig .tc := ⟨.hbm, 173, rfl⟩
abbrev main_call3_v4 : Ref sig .tc := ⟨.hbm, 174, rfl⟩
abbrev main_v122 : Ref sig .tc := ⟨.hbm, 175, rfl⟩
abbrev main_v123 : Ref sig .tc := ⟨.hbm, 176, rfl⟩
abbrev main_cst_20 : Ref sig .tc := ⟨.hbm, 177, rfl⟩
abbrev main_v124 : Ref sig .tc := ⟨.hbm, 178, rfl⟩
abbrev main_cst_21 : Ref sig .tc := ⟨.hbm, 179, rfl⟩
abbrev main_v125 : Ref sig .tc := ⟨.hbm, 180, rfl⟩
abbrev main_v126 : Ref sig .tc := ⟨.hbm, 181, rfl⟩
abbrev main_cst_22 : Ref sig .tc := ⟨.hbm, 182, rfl⟩
abbrev main_v127 : Ref sig .tc := ⟨.hbm, 183, rfl⟩
abbrev main_v128 : Ref sig .tc := ⟨.hbm, 184, rfl⟩
abbrev main_cst_23 : Ref sig .tc := ⟨.hbm, 185, rfl⟩
abbrev main_v129 : Ref sig .tc := ⟨.hbm, 186, rfl⟩
abbrev main_cst_24 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_cst_25 : Ref sig .tc := ⟨.hbm, 191, rfl⟩
abbrev main_v133 : Ref sig .tc := ⟨.hbm, 192, rfl⟩
abbrev main_cst_26 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩

abbrev nD : Nat := 1
abbrev τ : Topo := Topo.v7x

variable {F : FTy → Type} [FloatOps F]
-- ==== Experts.lean ====
abbrev S40 : Shape := ⟨1, ![40]⟩
abbrev S5120x1024 : Shape := ⟨2, ![5120, 1024]⟩
abbrev S8x1024x2048 : Shape := ⟨3, ![8, 1024, 2048]⟩
abbrev S8x2048x1024 : Shape := ⟨3, ![8, 2048, 1024]⟩
abbrev S128x1024 : Shape := ⟨2, ![128, 1024]⟩
abbrev S1x1024x2048 : Shape := ⟨3, ![1, 1024, 2048]⟩
abbrev S1 : Shape := ⟨1, ![1]⟩
abbrev S1x2048x1024 : Shape := ⟨3, ![1, 2048, 1024]⟩
abbrev S1024x2048 : Shape := ⟨2, ![1024, 2048]⟩
abbrev S128x2048 : Shape := ⟨2, ![128, 2048]⟩
abbrev S2048x1024 : Shape := ⟨2, ![2048, 1024]⟩

abbrev nBuf : Space → Nat
  | .hbm => 4
  | .vmem => 8
  | .smem => 1
  | _ => 0

abbrev bufTy : (tb : Table) → Fin (tcTables nBuf tb) → BufTy
  | .hbm, ⟨0, _⟩ => ⟨S5120x1024, .f32⟩
  | .hbm, ⟨1, _⟩ => ⟨S8x1024x2048, .f32⟩
  | .hbm, ⟨2, _⟩ => ⟨S8x2048x1024, .f32⟩
  | .hbm, ⟨3, _⟩ => ⟨S5120x1024, .f32⟩
  | .local _ .vmem, ⟨0, _⟩ => ⟨S128x1024, .f32⟩
  | .local _ .vmem, ⟨1, _⟩ => ⟨S128x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S128x1024, .f32⟩
  | .local _ .vmem, ⟨7, _⟩ => ⟨S128x1024, .f32⟩
  | .local _ .smem, ⟨0, _⟩ => ⟨S40, .i32⟩
  | _, _ => ⟨S5120x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sge v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S40 : Shape := ⟨1, ![40]⟩
abbrev S5120x1024 : Shape := ⟨2, ![5120, 1024]⟩
abbrev S8x1024x2048 : Shape := ⟨3, ![8, 1024, 2048]⟩
abbrev S8x2048x1024 : Shape := ⟨3, ![8, 2048, 1024]⟩
abbrev S40x128 : Shape := ⟨2, ![40, 128]⟩
abbrev S5120 : Shape := ⟨1, ![5120]⟩
abbrev S_ : Shape := ⟨0, ![]⟩
abbrev S1x1024x2048 : Shape := ⟨3, ![1, 1024, 2048]⟩
abbrev S1024x2048 : Shape := ⟨2, ![1024, 2048]⟩
abbrev S5120x2048 : Shape := ⟨2, ![5120, 2048]⟩
abbrev S1x2048x1024 : Shape := ⟨3, ![1, 2048, 1024]⟩
abbrev S2048x1024 : Shape := ⟨2, ![2048, 1024]⟩
abbrev S5120x1 : Shape := ⟨2, ![5120, 1]⟩

abbrev nBuf : Space → Nat
  | .hbm => 240
  | .vmem => 0
  | .smem => 0
  | _ => 0

abbrev hbmTy0_0 (i : Nat) : BufTy := match i % 128 with
  | 0 => ⟨S40, .i32⟩
  | 1 => ⟨S5120x1024, .f32⟩
  | 2 => ⟨S8x1024x2048, .f32⟩
  | 3 => ⟨S8x2048x1024, .f32⟩
  | 4 => ⟨S40x128, .i32⟩
  | 5 => ⟨S5120, .i32⟩
  | 6 => ⟨S_, .f32⟩
  | 7 => ⟨S5120x1024, .f32⟩
  | 8 => ⟨S1x1024x2048, .f32⟩
  | 9 => ⟨S1024x2048, .f32⟩
  | 10 => ⟨S5120x2048, .f32⟩
  | 11 => ⟨S5120x2048, .f32⟩
  | 12 => ⟨S5120x2048, .f32⟩
  | 13 => ⟨S_, .f32⟩
  | 14 => ⟨S5120x2048, .f32⟩
  | 15 => ⟨S5120x2048, .f32⟩
  | 16 => ⟨S5120x2048, .f32⟩
  | 17 => ⟨S_, .f32⟩
  | 18 => ⟨S5120x2048, .f32⟩
  | 19 => ⟨S5120x2048, .f32⟩
  | 20 => ⟨S5120x2048, .f32⟩
  | 21 => ⟨S_, .f32⟩
  | 22 => ⟨S5120x2048, .f32⟩
  | 23 => ⟨S5120x2048, .f32⟩
  | 24 => ⟨S_, .f32⟩
  | 25 => ⟨S5120x2048, .f32⟩
  | 26 => ⟨S5120x2048, .f32⟩
  | 27 => ⟨S5120x2048, .f32⟩
  | 28 => ⟨S1x2048x1024, .f32⟩
  | 29 => ⟨S2048x1024, .f32⟩
  | 30 => ⟨S5120x1024, .f32⟩
  | 31 => ⟨S_, .i32⟩
  | 32 => ⟨S5120, .i32⟩
  | 33 => ⟨S5120, .i1⟩
  | 34 => ⟨S5120x1, .i1⟩
  | 35 => ⟨S5120x1024, .i1⟩
  | 36 => ⟨S5120x1024, .f32⟩
  | 37 => ⟨S1x1024x2048, .f32⟩
  | 38 => ⟨S1024x2048, .f32⟩
  | 39 => ⟨S5120x2048, .f32⟩
  | 40 => ⟨S5120x2048, .f32⟩
  | 41 => ⟨S5120x2048, .f32⟩
  | 42 => ⟨S_, .f32⟩
  | 43 => ⟨S5120x2048, .f32⟩
  | 44 => ⟨S5120x2048, .f32⟩
  | 45 => ⟨S5120x2048, .f32⟩
  | 46 => ⟨S_, .f32⟩
  | 47 => ⟨S5120x2048, .f32⟩
  | 48 => ⟨S5120x2048, .f32⟩
  | 49 => ⟨S5120x2048, .f32⟩
  | 50 => ⟨S_, .f32⟩
  | 51 => ⟨S5120x2048, .f32⟩
  | 52 => ⟨S5120x2048, .f32⟩
  | 53 => ⟨S_, .f32⟩
  | 54 => ⟨S5120x2048, .f32⟩
  | 55 => ⟨S5120x2048, .f32⟩
  | 56 => ⟨S5120x2048, .f32⟩
  | 57 => ⟨S1x2048x1024, .f32⟩
  | 58 => ⟨S2048x1024, .f32⟩
  | 59 => ⟨S5120x1024, .f32⟩
  | 60 => ⟨S_, .i32⟩
  | 61 => ⟨S5120, .i32⟩
  | 62 => ⟨S5120, .i1⟩
  | 63 => ⟨S5120x1, .i1⟩
  | 64 => ⟨S5120x1024, .i1⟩
  | 65 => ⟨S5120x1024, .f32⟩
  | 66 => ⟨S1x1024x2048, .f32⟩
  | 67 => ⟨S1024x2048, .f32⟩
  | 68 => ⟨S5120x2048, .f32⟩
  | 69 => ⟨S5120x2048, .f32⟩
  | 70 => ⟨S5120x2048, .f32⟩
  | 71 => ⟨S_, .f32⟩
  | 72 => ⟨S5120x2048, .f32⟩
  | 73 => ⟨S5120x2048, .f32⟩
  | 74 => ⟨S5120x2048, .f32⟩
  | 75 => ⟨S_, .f32⟩
  | 76 => ⟨S5120x2048, .f32⟩
  | 77 => ⟨S5120x2048, .f32⟩
  | 78 => ⟨S5120x2048, .f32⟩
  | 79 => ⟨S_, .f32⟩
  | 80 => ⟨S5120x2048, .f32⟩
  | 81 => ⟨S5120x2048, .f32⟩
  | 82 => ⟨S_, .f32⟩
  | 83 => ⟨S5120x2048, .f32⟩
  | 84 => ⟨S5120x2048, .f32⟩
  | 85 => ⟨S5120x2048, .f32⟩
  | 86 => ⟨S1x2048x1024, .f32⟩
  | 87 => ⟨S2048x1024, .f32⟩
  | 88 => ⟨S5120x1024, .f32⟩
  | 89 => ⟨S_, .i32⟩
  | 90 => ⟨S5120, .i32⟩
  | 91 => ⟨S5120, .i1⟩
  | 92 => ⟨S5120x1, .i1⟩
  | 93 => ⟨S5120x1024, .i1⟩
  | 94 => ⟨S5120x1024, .f32⟩
  | 95 => ⟨S1x1024x2048, .f32⟩
  | 96 => ⟨S1024x2048, .f32⟩
  | 97 => ⟨S5120x2048, .f32⟩
  | 98 => ⟨S5120x2048, .f32⟩
  | 99 => ⟨S5120x2048, .f32⟩
  | 100 => ⟨S_, .f32⟩
  | 101 => ⟨S5120x2048, .f32⟩
  | 102 => ⟨S5120x2048, .f32⟩
  | 103 => ⟨S5120x2048, .f32⟩
  | 104 => ⟨S_, .f32⟩
  | 105 => ⟨S5120x2048, .f32⟩
  | 106 => ⟨S5120x2048, .f32⟩
  | 107 => ⟨S5120x2048, .f32⟩
  | 108 => ⟨S_, .f32⟩
  | 109 => ⟨S5120x2048, .f32⟩
  | 110 => ⟨S5120x2048, .f32⟩
  | 111 => ⟨S_, .f32⟩
  | 112 => ⟨S5120x2048, .f32⟩
  | 113 => ⟨S5120x2048, .f32⟩
  | 114 => ⟨S5120x2048, .f32⟩
  | 115 => ⟨S1x2048x1024, .f32⟩
  | 116 => ⟨S2048x1024, .f32⟩
  | 117 => ⟨S5120x1024, .f32⟩
  | 118 => ⟨S_, .i32⟩
  | 119 => ⟨S5120, .i32⟩
  | 120 => ⟨S5120, .i1⟩
  | 121 => ⟨S5120x1, .i1⟩
  | 122 => ⟨S5120x1024, .i1⟩
  | 123 => ⟨S5120x1024, .f32⟩
  | 124 => ⟨S1x1024x2048, .f32⟩
  | 125 => ⟨S1024x2048, .f32⟩
  | 126 => ⟨S5120x2048, .f32⟩
  | 127 => ⟨S5120x2048, .f32⟩
  | _ => ⟨S40, .i32⟩

abbrev hbmTy0_1 (i : Nat) : BufTy := match i % 128 with
  | 0 => ⟨S5120x2048, .f32⟩
  | 1 => ⟨S_, .f32⟩
  | 2 => ⟨S5120x2048, .f32⟩
  | 3 => ⟨S5120x2048, .f32⟩
  | 4 => ⟨S5120x2048, .f32⟩
  | 5 => ⟨S_, .f32⟩
  | 6 => ⟨S5120x2048, .f32⟩
  | 7 => ⟨S5120x2048, .f32⟩
  | 8 => ⟨S5120x2048, .f32⟩
  | 9 => ⟨S_, .f32⟩
  | 10 => ⟨S5120x2048, .f32⟩
  | 11 => ⟨S5120x2048, .f32⟩
  | 12 => ⟨S_, .f32⟩
  | 13 => ⟨S5120x2048, .f32⟩
  | 14 => ⟨S5120x2048, .f32⟩
  | 15 => ⟨S5120x2048, .f32⟩
  | 16 => ⟨S1x2048x1024, .f32⟩
  | 17 => ⟨S2048x1024, .f32⟩
  | 18 => ⟨S5120x1024, .f32⟩
  | 19 => ⟨S_, .i32⟩
  | 20 => ⟨S5120, .i32⟩
  | 21 => ⟨S5120, .i1⟩
  | 22 => ⟨S5120x1, .i1⟩
  | 23 => ⟨S5120x1024, .i1⟩
  | 24 => ⟨S5120x1024, .f32⟩
  | 25 => ⟨S1x1024x2048, .f32⟩
  | 26 => ⟨S1024x2048, .f32⟩
  | 27 => ⟨S5120x2048, .f32⟩
  | 28 => ⟨S5120x2048, .f32⟩
  | 29 => ⟨S5120x2048, .f32⟩
  | 30 => ⟨S_, .f32⟩
  | 31 => ⟨S5120x2048, .f32⟩
  | 32 => ⟨S5120x2048, .f32⟩
  | 33 => ⟨S5120x2048, .f32⟩
  | 34 => ⟨S_, .f32⟩
  | 35 => ⟨S5120x2048, .f32⟩
  | 36 => ⟨S5120x2048, .f32⟩
  | 37 => ⟨S5120x2048, .f32⟩
  | 38 => ⟨S_, .f32⟩
  | 39 => ⟨S5120x2048, .f32⟩
  | 40 => ⟨S5120x2048, .f32⟩
  | 41 => ⟨S_, .f32⟩
  | 42 => ⟨S5120x2048, .f32⟩
  | 43 => ⟨S5120x2048, .f32⟩
  | 44 => ⟨S5120x2048, .f32⟩
  | 45 => ⟨S1x2048x1024, .f32⟩
  | 46 => ⟨S2048x1024, .f32⟩
  | 47 => ⟨S5120x1024, .f32⟩
  | 48 => ⟨S_, .i32⟩
  | 49 => ⟨S5120, .i32⟩
  | 50 => ⟨S5120, .i1⟩
  | 51 => ⟨S5120x1, .i1⟩
  | 52 => ⟨S5120x1024, .i1⟩
  | 53 => ⟨S5120x1024, .f32⟩
  | 54 => ⟨S1x1024x2048, .f32⟩
  | 55 => ⟨S1024x2048, .f32⟩
  | 56 => ⟨S5120x2048, .f32⟩
  | 57 => ⟨S5120x2048, .f32⟩
  | 58 => ⟨S5120x2048, .f32⟩
  | 59 => ⟨S_, .f32⟩
  | 60 => ⟨S5120x2048, .f32⟩
  | 61 => ⟨S5120x2048, .f32⟩
  | 62 => ⟨S5120x2048, .f32⟩
  | 63 => ⟨S_, .f32⟩
  | 64 => ⟨S5120x2048, .f32⟩
  | 65 => ⟨S5120x2048, .f32⟩
  | 66 => ⟨S5120x2048, .f32⟩
  | 67 => ⟨S_, .f32⟩
  | 68 => ⟨S5120x2048, .f32⟩
  | 69 => ⟨S5120x2048, .f32⟩
  | 70 => ⟨S_, .f32⟩
  | 71 => ⟨S5120x2048, .f32⟩
  | 72 => ⟨S5120x2048, .f32⟩
  | 73 => ⟨S5120x2048, .f32⟩
  | 74 => ⟨S1x2048x1024, .f32⟩
  | 75 => ⟨S2048x1024, .f32⟩
  | 76 => ⟨S5120x1024, .f32⟩
  | 77 => ⟨S_, .i32⟩
  | 78 => ⟨S5120, .i32⟩
  | 79 => ⟨S5120, .i1⟩
  | 80 => ⟨S5120x1, .i1⟩
  | 81 => ⟨S5120x1024, .i1⟩
  | 82 => ⟨S5120x1024, .f32⟩
  | 83 => ⟨S1x1024x2048, .f32⟩
  | 84 => ⟨S1024x2048, .f32⟩
  | 85 => ⟨S5120x2048, .f32⟩
  | 86 => ⟨S5120x2048, .f32⟩
  | 87 => ⟨S5120x2048, .f32⟩
  | 88 => ⟨S_, .f32⟩
  | 89 => ⟨S5120x2048, .f32⟩
  | 90 => ⟨S5120x2048, .f32⟩
  | 91 => ⟨S5120x2048, .f32⟩
  | 92 => ⟨S_, .f32⟩
  | 93 => ⟨S5120x2048, .f32⟩
  | 94 => ⟨S5120x2048, .f32⟩
  | 95 => ⟨S5120x2048, .f32⟩
  | 96 => ⟨S_, .f32⟩
  | 97 => ⟨S5120x2048, .f32⟩
  | 98 => ⟨S5120x2048, .f32⟩
  | 99 => ⟨S_, .f32⟩
  | 100 => ⟨S5120x2048, .f32⟩
  | 101 => ⟨S5120x2048, .f32⟩
  | 102 => ⟨S5120x2048, .f32⟩
  | 103 => ⟨S1x2048x1024, .f32⟩
  | 104 => ⟨S2048x1024, .f32⟩
  | 105 => ⟨S5120x1024, .f32⟩
  | 106 => ⟨S_, .i32⟩
  | 107 => ⟨S5120, .i32⟩
  | 108 => ⟨S5120, .i1⟩
  | 109 => ⟨S5120x1, .i1⟩
  | 110 => ⟨S5120x1024, .i1⟩
  | 111 => ⟨S5120x1024, .f32⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call1_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call2_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_14 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_16 : Ref sig .tc := ⟨.hbm, 108, rfl⟩
abbrev main_v83 : Ref sig .tc := ⟨.hbm, 109, rfl⟩
abbrev main_v84 : Ref sig .tc := ⟨.hbm, 110, rfl⟩
abbrev main_cst_17 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_18 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_call3_v0 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_19 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_20 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_cst_22 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_c_23 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_call4_v0 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_24 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_25 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_26 : Ref sig .tc := ⟨.hbm, 166, rfl⟩
abbrev main_v129 : Ref sig .tc := ⟨.hbm, 167, rfl⟩
abbrev main_v130 : Ref sig .tc := ⟨.hbm, 168, rfl⟩
abbrev main_cst_27 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_c_28 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_call5_v0 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_29 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_30 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_31 : Ref sig .tc := ⟨.hbm, 195, rfl⟩
abbrev main_v152 : Ref sig .tc := ⟨.hbm, 196, rfl⟩
abbrev main_v153 : Ref sig .tc := ⟨.hbm, 197, rfl⟩
abbrev main_cst_32 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_c_33 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_call6_v0 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_34 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_35 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_36 : Ref sig .tc := ⟨.hbm, 224, rfl⟩
abbrev main_v175 : Ref sig .tc := ⟨.hbm, 225, rfl⟩
abbrev main_v176 : Ref sig .tc := ⟨.hbm, 226, rfl⟩
abbrev main_cst_37 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_c_38 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_call7_v0 : Ref sig .tc := ⟨.hbm, 238, rfl⟩
abbrev main_v186 : Ref sig .tc := ⟨.hbm, 239, rfl⟩

abbrev nD : Nat := 1
abbrev τ : Topo := Topo.v7x

variable {F : FTy → Type} [FloatOps F]
-- ==== Proof.FrontMath.lean ====
module

public import Idealize.ShloMosaic.Lib.Pointwise

@[expose] public section
noncomputable section
namespace Cert.FrontMath
open Idealize.ShloMosaic

/-! Extended reals that are real numbers, and the laws of a softmax's weights among them. -/

/-- A real number, not an infinity. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.sub {x y : EReal} (hx : IsReal x) (hy : IsReal y) : IsReal (x - y) := by
  obtain ⟨a, rfl⟩ := hx; obtain ⟨b, rfl⟩ := hy; exact ⟨a - b, by push_cast; rfl⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩
theorem IsReal.ne_bot {x : EReal} (h : IsReal x) : x ≠ ⊥ := by obtain ⟨a, rfl⟩ := h; exact EReal.coe_ne_bot a
theorem IsReal.ne_top {x : EReal} (h : IsReal x) : x ≠ ⊤ := by obtain ⟨a, rfl⟩ := h; exact EReal.coe_ne_top a
theorem isReal_of_ne {x : EReal} (h : x ≠ ⊥) (h' : x ≠ ⊤) : IsReal x := ⟨x.toReal, (EReal.coe_toReal h' h).symm⟩

/-! ### The literals -/

theorem lit_1024 : Ideal.ofBits .f32 1149239296#32 = ((1024 : ℝ) : EReal) := by
  simp [Ideal.ofBits, Ideal.ieee, -EReal.coe_mul]; norm_num
theorem lit_eps : ∃ e : ℝ, 0 < e ∧ Ideal.ofBits .f32 897988541#32 = (e : EReal) := by
  refine ⟨8796093 * (2 : ℝ) ^ (-43 : ℤ), by positivity, ?_⟩
  simp [Ideal.ofBits, Ideal.ieee, -EReal.coe_mul]
theorem lit_neg_inf : Ideal.ofBits .f32 4286578688#32 = ⊥ := by simp [Ideal.ofBits, Ideal.ieee]
theorem lit_eighth : Ideal.ofBits .f32 1040187392#32 = ((1 / 8 : ℝ) : EReal) := by
  simp [Ideal.ofBits, Ideal.ieee, -EReal.coe_mul]; norm_num
theorem lit_8 : Ideal.ofBits .f32 1090519040#32 = ((8 : ℝ) : EReal) := by
  simp [Ideal.ofBits, Ideal.ieee, -EReal.coe_mul]; norm_num
theorem lit_10000 : Ideal.ofBits .f32 1176256512#32 = ((10000 : ℝ) : EReal) := by
  simp [Ideal.ofBits, Ideal.ieee, -EReal.coe_mul]; norm_num
theorem lit_2 : Ideal.ofBits .f32 1073741824#32 = ((2 : ℝ) : EReal) := by
  simp [Ideal.ofBits, Ideal.ieee, -EReal.coe_mul]; norm_num
theorem lit_64 : Ideal.ofBits .f32 1115684864#32 = ((64 : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_4096 : Ideal.ofBits .f32 0x45800000#32 = ((4096 : ℝ) : EReal) := by
  simp [Ideal.ofBits, Ideal.ieee, -EReal.coe_mul]; norm_num

/-! ### The norm by root mean square -/

/-- A row over its root mean square, times the weights. -/
def rms (a w : Fin 1024 → EReal) (x : Fin 1024) : EReal :=
  a x * Ideal.rsqrt (Ideal.div (∑ x, a x * a x) (Ideal.ofBits .f32 1149239296#32) + Ideal.ofBits .f32 897988541#32) * w x

theorem isReal_rms {a w : Fin 1024 → EReal} (ha : ∀ x, IsReal (a x)) (hw : ∀ x, IsReal (w x)) (x : Fin 1024) :
    IsReal (rms a w x) := by
  refine ((ha x).mul ?_).mul (hw x)
  choose g hg using ha
  obtain ⟨e, he, hE⟩ := lit_eps
  have h0 : (0 : ℝ) ≤ ∑ x, g x * g x := Finset.sum_nonneg fun i _ => mul_self_nonneg _
  have : (∑ x, a x * a x) = ((∑ x, g x * g x : ℝ) : EReal) := by
    rw [coe_sum]; exact Finset.sum_congr rfl fun i _ => by rw [hg, EReal.coe_mul]
  rw [this, lit_1024, hE, Ideal.div_coe (by norm_num), ← EReal.coe_mul, ← EReal.coe_add, Ideal.rsqrt_coe,
    if_neg (by nlinarith), if_neg (by nlinarith)]
  exact IsReal.coe _

/-- A row times a matrix. -/
def lin {n m : ℕ} (a : Fin n → EReal) (W : Fin n → Fin m → EReal) (c : Fin m) : EReal := ∑ x, a x * W x c

theorem isReal_lin {n m : ℕ} {a : Fin n → EReal} {W : Fin n → Fin m → EReal} (ha : ∀ x, IsReal (a x))
    (hW : ∀ x c, IsReal (W x c)) (c : Fin m) : IsReal (lin a W c) := IsReal.sum fun x => (ha x).mul (hW x c)

/-! ### Softmax -/

/-- Exponentials of a row below its maximum. -/
def pexp {n : ℕ} (f : Fin n → EReal) (k : Fin n) : EReal := Ideal.exp (f k - Finset.fold max ⊥ f Finset.univ)

/-- A row whose entries are real or −∞, one of them real: its exponentials are real, not negative, and one is positive. -/
theorem pexp_real {n : ℕ} {f : Fin n → EReal} (hf : ∀ k, IsReal (f k) ∨ f k = ⊥) (k0 : Fin n) (h0 : IsReal (f k0)) :
    ∃ g : Fin n → ℝ, (∀ k, pexp f k = (g k : EReal)) ∧ (∀ k, 0 ≤ g k) ∧ (∀ k, IsReal (f k) → 0 < g k) := by
  have hM : IsReal (Finset.fold max ⊥ f Finset.univ) := by
    refine isReal_of_ne (fun h => ?_) (fun h => ?_)
    · have : f k0 ≤ Finset.fold max ⊥ f Finset.univ :=
        Finset.le_fold_max _ |>.mpr (Or.inr ⟨k0, Finset.mem_univ _, le_refl _⟩)
      rw [h] at this
      exact h0.ne_bot (le_bot_iff.mp this)
    · have : Finset.fold max ⊥ f Finset.univ < ⊤ := Finset.fold_max_lt _ |>.mpr ⟨bot_lt_top, fun k _ => by
        rcases hf k with h | h
        · exact lt_top_iff_ne_top.mpr h.ne_top
        · rw [h]; exact bot_lt_top⟩
      exact absurd h this.ne
  obtain ⟨M, hM⟩ := hM
  have : ∀ k, ∃ r : ℝ, pexp f k = (r : EReal) ∧ 0 ≤ r ∧ (IsReal (f k) → 0 < r) := by
    intro k
    unfold pexp
    rw [hM]
    rcases hf k with ⟨a, ha⟩ | h
    · rw [ha, ← EReal.coe_sub, Ideal.exp_coe]
      exact ⟨_, rfl, (Real.exp_pos _).le, fun _ => Real.exp_pos _⟩
    · rw [h]
      refine ⟨0, by simp, le_refl _, fun hr => absurd rfl hr.ne_bot⟩
  choose g h1 h2 h3 using this
  exact ⟨g, h1, h2, h3⟩

/-- Weighing first and dividing after is dividing first. -/
theorem weigh_div {n : ℕ} {p v : Fin n → EReal} {g : Fin n → ℝ} (hp : ∀ k, p k = (g k : EReal)) (hg : ∀ k, 0 ≤ g k)
    (k0 : Fin n) (h0 : 0 < g k0) (hv : ∀ k, IsReal (v k)) :
    Ideal.div (∑ k, p k * v k) (∑ k, p k) = ∑ k, Ideal.div (p k) (∑ k, p k) * v k := by
  choose u hu using hv
  have hl : (0 : ℝ) < ∑ k, g k := Finset.sum_pos' (fun k _ => hg k) ⟨k0, Finset.mem_univ _, h0⟩
  have e : ∑ k, p k = ((∑ k, g k : ℝ) : EReal) := by rw [coe_sum]; exact Finset.sum_congr rfl fun k _ => hp k
  have e2 : ∑ k, p k * v k = ((∑ k, g k * u k : ℝ) : EReal) := by
    rw [coe_sum]; exact Finset.sum_congr rfl fun k _ => by rw [hp, hu, EReal.coe_mul]
  rw [e, e2, Ideal.div_coe hl.ne', ← EReal.coe_mul, Finset.sum_mul, coe_sum]
  refine Finset.sum_congr rfl fun k _ => ?_
  rw [Ideal.div_coe hl.ne', hp, hu, ← EReal.coe_mul, ← EReal.coe_mul]
  congr 1
  ring

/-- The weighed row is real. -/
theorem isReal_weigh {n : ℕ} {p v : Fin n → EReal} {g : Fin n → ℝ} (hp : ∀ k, p k = (g k : EReal)) (hg : ∀ k, 0 ≤ g k)
    (k0 : Fin n) (h0 : 0 < g k0) (hv : ∀ k, IsReal (v k)) : IsReal (Ideal.div (∑ k, p k * v k) (∑ k, p k)) := by
  have hl : (0 : ℝ) < ∑ k, g k := Finset.sum_pos' (fun k _ => hg k) ⟨k0, Finset.mem_univ _, h0⟩
  have e : ∑ k, p k = ((∑ k, g k : ℝ) : EReal) := by rw [coe_sum]; exact Finset.sum_congr rfl fun k _ => hp k
  rw [e, Ideal.div_coe hl.ne']
  exact (IsReal.sum fun k => IsReal.mul (by rw [hp]; exact IsReal.coe _) (hv k)).mul (IsReal.coe _)

/-! ### The turning angle -/

/-- The angle of position `s` in the lane pair `j`: `s` over ten thousand to the `j / 32`. -/
def angle (s : ℕ) (j : ℕ) : ℝ := s * Real.exp (j * (-1 / 32 * Real.log 10000))

theorem angle_eq (s j : ℕ) :
    ((s : ℝ) : EReal) * Ideal.div 1 (Ideal.pow (Ideal.ofBits .f32 1176256512#32)
      (Ideal.div (Ideal.ofBits .f32 1073741824#32 * ((j : ℝ) : EReal)) (Ideal.ofBits .f32 1115684864#32))) = (angle s j : EReal) := by
  rw [lit_10000, lit_2, lit_64, Ideal.div_coe (by norm_num), ← EReal.coe_mul, ← EReal.coe_mul, Ideal.pow_coe_coe]
  have hp : (0 : ℝ) < Real.rpow 10000 (2 * j * (1 / 64)) := Real.rpow_pos_of_pos (by norm_num) _
  rw [Ideal.div_coe hp.ne', one_mul, ← EReal.coe_mul]
  congr 1
  unfold angle
  congr 1
  rw [one_div]
  show ((10000 : ℝ) ^ (2 * (j : ℝ) * (1 / 64)))⁻¹ = _
  rw [← Real.rpow_neg (by norm_num), Real.rpow_def_of_pos (by norm_num)]
  congr 1
  ring

end Cert.FrontMath
-- ==== Proof.ExpertMath.lean ====
/-
  One expert's two products of a row, in the kernel's call and in the reference, entry by entry.
-/
module

public import proofs.«01_k».proof.Proof.Gen.KernelIdeal
public import proofs.«01_k».proof.Proof.Gen.KernelIdeal.Skeleton
public import proofs.«01_k».proof.Proof.Gen.ReferenceIdeal.Run
public import proofs.«01_k».proof.Proof.FrontMath

@[expose] public section

set_option maxRecDepth 8192

noncomputable section

namespace Cert.ExpertMath

open Idealize.ShloMosaic Idealize.SL.Sem Cert.FrontMath

/-- The activation between the products, with the tanh. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

/-- An expert's two products of a row. -/
def ffn (x : Fin 1024 → EReal) (W1 : Fin 1024 → Fin 2048 → EReal) (W2 : Fin 2048 → Fin 1024 → EReal) : Fin 1024 → EReal :=
  lin (fun f => gelu (lin x W1 f)) W2

section
open Cert.KernelIdeal Cert.KernelIdeal.Gen

theorem pay_at (x : FVec Ideal S128x1024 .f32) (W1 : FVec Ideal S1x1024x2048 .f32) (W2 : FVec Ideal S1x2048x1024 .f32) (r : Fin 128) (d : Fin 1024) :
    k0_pay1 (F := Ideal) x W1 W2 (ix2 r d)
      = ffn (fun k => x (ix2 r k)) (fun k f => W1 (ix3 0 k f)) (fun f k => W2 (ix3 0 f k)) d := by
  pointwise [k0_pay1]
  rfl
end

open Cert.ReferenceIdeal Cert.ReferenceIdeal.Value Cert.ReferenceIdeal.Facts₀
variable [Cert.ReferenceIdeal.Facts]

/-- One expert's term of the reference: its first product, the activation, its second product. -/
def hid (o : Fin 3 → ℕ) (h : S8x1024x2048.Slices o S1x1024x2048) (x : FVec Ideal S5120x1024 .f32) (w : FVec Ideal S8x1024x2048 .f32) : FVec Ideal S5120x2048 .f32 :=
  Host.dotGeneral dot_S5120x1024_S1024x2048_S5120x2048_1_0_0_1_n_n none x (shapeCast _ (extractStridedSlice S1x1024x2048 o w h) shapeCasts_S1x1024x2048_S1024x2048)

def act (z : FVec Ideal S5120x2048 .f32) : FVec Ideal S5120x2048 .f32 :=
  mulf z (mulf (broadcastInDim S5120x2048 ![] bcast_S_S5120x2048 (constant S_ .f32 0x3F000000#32)) (addf (broadcastInDim S5120x2048 ![] bcast_S_S5120x2048 (constant S_ .f32 0x3F800000#32)) (Host.tanh (mulf (broadcastInDim S5120x2048 ![] bcast_S_S5120x2048 (constant S_ .f32 0x3F4C422A#32)) (addf z (mulf (broadcastInDim S5120x2048 ![] bcast_S_S5120x2048 (constant S_ .f32 0x3D372713#32)) (mulf (mulf z z) z)))))))

def outp (o : Fin 3 → ℕ) (h : S8x2048x1024.Slices o S1x2048x1024) (z : FVec Ideal S5120x2048 .f32) (w : FVec Ideal S8x2048x1024 .f32) : FVec Ideal S5120x1024 .f32 :=
  Host.dotGeneral dot_S5120x2048_S2048x1024_S5120x1024_1_0_0_1_n_n none (act z) (shapeCast _ (extractStridedSlice S1x2048x1024 o w h) shapeCasts_S1x2048x1024_S2048x1024)

/-- The rows of expert `k` take its term, the others what they had. -/
def pick (b : IVec S5120 32) (k : BitVec 32) (y z : FVec Ideal S5120x1024 .f32) : FVec Ideal S5120x1024 .f32 :=
  select (broadcastInDim S5120x1024 ![0, 1] bcast_S5120x1_S5120x1024_0_1 (broadcastInDim S5120x1 ![0] bcast_S5120_S5120x1_0 (cmpi .eq b (broadcastInDim S5120 ![] bcast_S_S5120 (constantI S_ 32 k))))) y z

theorem hid_at (e : Fin 8) (h : S8x1024x2048.Slices ![e.val, 0, 0] S1x1024x2048) (x : FVec Ideal S5120x1024 .f32) (w : FVec Ideal S8x1024x2048 .f32) (s : Fin 5120) (f : Fin 2048) :
    hid ![e.val, 0, 0] h x w (ix2 s f) = lin (fun k => x (ix2 s k)) (fun k f => w (ix3 e k f)) f := by
  pointwise [hid]
  rfl

theorem act_at (z : FVec Ideal S5120x2048 .f32) (s : Fin 5120) (f : Fin 2048) : act z (ix2 s f) = gelu (z (ix2 s f)) := by
  pointwise [act]
  unfold gelu
  rw [mul_assoc (z (ix2 s f)) (z (ix2 s f)) (z (ix2 s f))]

theorem outp_at (e : Fin 8) (h : S8x2048x1024.Slices ![e.val, 0, 0] S1x2048x1024) (z : FVec Ideal S5120x2048 .f32) (w : FVec Ideal S8x2048x1024 .f32) (s : Fin 5120) (d : Fin 1024) :
    outp ![e.val, 0, 0] h z w (ix2 s d) = lin (fun f => gelu (z (ix2 s f))) (fun f k => w (ix3 e f k)) d := by
  pointwise [outp]
  simp only [act_at]
  rfl

theorem pick_at (b : IVec S5120 32) (k : BitVec 32) (y z : FVec Ideal S5120x1024 .f32) (s : Fin 5120) (d : Fin 1024) :
    pick b k y z (ix2 s d) = if b (ix1 s) = k then y (ix2 s d) else z (ix2 s d) := by
  pointwise [pick]
  unfold Scalar.select IntOp.cmpi
  by_cases h : b (ix1 s) = k
  · simp [h]
  · have hb : (b (ix1 s) == k) = false := beq_eq_false_iff_ne.mpr h
    simp [h, hb]

/-- Every row's entry of the table: its block's. -/
def spread (T : IVec S40 32) : IVec S5120 32 :=
  shapeCast _ (broadcastInDim S40x128 ![0] bcast_S40_S40x128_0 T) shapeCasts_S40x128_S5120

theorem spread_at (T : IVec S40 32) (s : Fin 5120) : spread T (ix1 s) = T (ix1 ⟨s.val / 128, by omega⟩) := by
  pointwise [spread]

/-- The reference's rows of the experts: expert after expert takes its rows. -/
def nested (b : IVec S5120 32) (x : FVec Ideal S5120x1024 .f32) (w1 : FVec Ideal S8x1024x2048 .f32) (w2 : FVec Ideal S8x2048x1024 .f32) : FVec Ideal S5120x1024 .f32 :=
  pick b 7#32 (outp _ slices_S8x2048x1024_S1x2048x1024_7_0_0 (hid _ slices_S8x1024x2048_S1x1024x2048_7_0_0 x w1) w2)
  (pick b 6#32 (outp _ slices_S8x2048x1024_S1x2048x1024_6_0_0 (hid _ slices_S8x1024x2048_S1x1024x2048_6_0_0 x w1) w2)
  (pick b 5#32 (outp _ slices_S8x2048x1024_S1x2048x1024_5_0_0 (hid _ slices_S8x1024x2048_S1x1024x2048_5_0_0 x w1) w2)
  (pick b 4#32 (outp _ slices_S8x2048x1024_S1x2048x1024_4_0_0 (hid _ slices_S8x1024x2048_S1x1024x2048_4_0_0 x w1) w2)
  (pick b 3#32 (outp _ slices_S8x2048x1024_S1x2048x1024_3_0_0 (hid _ slices_S8x1024x2048_S1x1024x2048_3_0_0 x w1) w2)
  (pick b 2#32 (outp _ slices_S8x2048x1024_S1x2048x1024_2_0_0 (hid _ slices_S8x1024x2048_S1x1024x2048_2_0_0 x w1) w2)
  (pick b 1#32 (outp _ slices_S8x2048x1024_S1x2048x1024_1_0_0 (hid _ slices_S8x1024x2048_S1x1024x2048_1_0_0 x w1) w2)
  (pick b 0#32 (outp _ slices_S8x2048x1024_S1x2048x1024_0_0_0 (hid _ slices_S8x1024x2048_S1x1024x2048_0_0_0 x w1) w2)
    (broadcastInDim S5120x1024 ![] bcast_S_S5120x1024 (constant S_ .f32 0x00000000#32)))))))))

theorem term_at (e : Fin 8) (o : Fin 3 → ℕ) (ho : o = ![e.val, 0, 0]) (h2 : S8x2048x1024.Slices o S1x2048x1024) (h1 : S8x1024x2048.Slices o S1x1024x2048)
    (x : FVec Ideal S5120x1024 .f32) (w1 : FVec Ideal S8x1024x2048 .f32) (w2 : FVec Ideal S8x2048x1024 .f32) (s : Fin 5120) (d : Fin 1024) :
    outp o h2 (hid o h1 x w1) w2 (ix2 s d) = ffn (fun k => x (ix2 s k)) (fun k f => w1 (ix3 e k f)) (fun f k => w2 (ix3 e f k)) d := by
  subst ho
  rw [outp_at]
  simp only [hid_at]
  rfl

/-- A row's expert is the one whose number its entry is, and its term is what the row ends at. -/
theorem nested_at (b : IVec S5120 32) (x : FVec Ideal S5120x1024 .f32) (w1 : FVec Ideal S8x1024x2048 .f32) (w2 : FVec Ideal S8x2048x1024 .f32)
    (s : Fin 5120) (d : Fin 1024) (e : Fin 8) (he : b (ix1 s) = BitVec.ofNat 32 e.val) :
    nested b x w1 w2 (ix2 s d) = ffn (fun k => x (ix2 s k)) (fun k f => w1 (ix3 e k f)) (fun f k => w2 (ix3 e f k)) d := by
  unfold nested
  simp only [pick_at, he]
  fin_cases e
  · exact term_at 0 _ rfl _ _ x w1 w2 s d
  · exact term_at 1 _ rfl _ _ x w1 w2 s d
  · exact term_at 2 _ rfl _ _ x w1 w2 s d
  · exact term_at 3 _ rfl _ _ x w1 w2 s d
  · exact term_at 4 _ rfl _ _ x w1 w2 s d
  · exact term_at 5 _ rfl _ _ x w1 w2 s d
  · exact term_at 6 _ rfl _ _ x w1 w2 s d
  · exact term_at 7 _ rfl _ _ x w1 w2 s d

/-- The printed term of those rows. -/
theorem res_nested (V0 : Valuation τ sig (Elt Ideal)) :
    res_main_v186 V0 = nested (spread (V0 (Proc.tc.devRef main_arg1))) (V0 (Proc.tc.devRef main_arg2)) (V0 (Proc.tc.devRef main_arg3)) (V0 (Proc.tc.devRef main_arg4)) := rfl

end Cert.ExpertMath

end
-- ==== Proof.Base.lean ====
/-
  The undispatch kernel of the transformer block: the program as the launch theorem sees it, the resource
  algebra, the operands of the SparseCore call as values, and what a task reads and leaves.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Undisp

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the TensorCore's programs: the kernels' own and the two pipelines'. -/
abbrev ΛP [FloatOps F] : Labels := Pipeline.Sig Λ₀ (Fin 2) fun p => (pcfgs (F := F) p).Adm
/-- The one SparseCore call. -/
abbrev K [FloatOps F] : SparseCore.Cfg τ sig (ΛP (F := F)) 1 := sc (F := F)
/-- What those labels run. -/
abbrev D [FloatOps F] : Defs nD τ sig (Elt F) (ΛP (F := F)) := Pipeline.defs pcfgs defs₀
/-- No loop of the kernels needs a variant. -/
abbrev 𝒱₀ : Variants := Variants.none
abbrev 𝒱 : Variants := 𝒱₀.lift
abbrev v₀ : 𝒱.V := Sum.inl none

section
variable [FloatOps F]
/-- The call runs on both SparseCores, -/
theorem cores_eq : (K (F := F)).nCore 0 = 2 := rfl
/-- on all sixteen tiles of each. -/
theorem tiles_eq : (K (F := F)).nSub 0 = 16 := rfl

/-- The handshake semaphores are the launch's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩
end

/-! ## The resource algebra: the handshakes' rounds, the pipeline's rounds, the transfers' counters -/

abbrev UH : Type := URounds (GSem nD τ sig) ℕ
abbrev UPipe : Type := UR sig nD τ × Counters
abbrev UU : Type := UH × UPipe

/-- The handshakes' component. -/
abbrev EH : Emb UH (MT nD τ sig (HIx 1) (Elt F) ℕ UU ℕ) := embL
/-- The pipeline's component. -/
abbrev EP : Emb (UR sig nD τ) (MT nD τ sig (HIx 1) (Elt F) ℕ UU ℕ) := (Emb.inl : Emb (UR sig nD τ) UPipe).trans embR

local notation "𝕄" => MT nD τ sig (HIx 1) (Elt F) ℕ UU ℕ

instance EP_landsIn : (EP (F := F)).LandsIn (upEmb : UEmb _ (MT nD τ sig (HIx 1) (Elt F) ℕ UU ℕ)) := by
  unfold EP; infer_instance

/-! ## The buffers of the call -/

/-- The table of expert outputs as rows of 128 lanes; -/
abbrev yLoc (d : Dev nD) : Loc nD τ sig := (SparseCore.T d).loc main_v3
/-- the two lists of row numbers; -/
abbrev i0Loc (d : Dev nD) : Loc nD τ sig := (SparseCore.T d).loc main_v12
abbrev i1Loc (d : Dev nD) : Loc nD τ sig := (SparseCore.T d).loc main_v19
/-- the two arrays of gathered rows. -/
abbrev o0Loc (d : Dev nD) : Loc nD τ sig := (SparseCore.T d).loc main_v20_0
abbrev o1Loc (d : Dev nD) : Loc nD τ sig := (SparseCore.T d).loc main_v20_1

/-- The contents of the call's five arrays on every device when it starts: of the table, what its rows of a set hold. -/
structure Opnds (F : FTy → Type) where
  good : Dev nD → ℕ → Prop
  y : (d : Dev nD) → Buf (Elt F) (yLoc d)
  i0 : (d : Dev nD) → Buf (Elt F) (i0Loc d)
  i1 : (d : Dev nD) → Buf (Elt F) (i1Loc d)
  o0 : (d : Dev nD) → Buf (Elt F) (o0Loc d)
  o1 : (d : Dev nD) → Buf (Elt F) (o1Loc d)

/-- The table's index at row `n` (read modulo the number of rows) and lane `l`. -/
def rowAt (n : ℕ) (l : Fin 128) : S40960x128.Idx :=
  fun | 0 => ⟨n % 40960, Nat.mod_lt _ (by decide)⟩ | 1 => l | ⟨_ + 2, h⟩ => absurd h (Nat.not_lt.2 (Nat.le_add_left _ _))

/-- The one coordinate of a list's index. -/
def listAt (n : Fin 16384) : S16384.Idx := fun | 0 => n | ⟨_ + 1, h⟩ => absurd h (Nat.not_lt.2 (Nat.le_add_left _ _))

/-- The rows of `y` that the list `l` names, in the list's order. -/
def gathered (y : S40960x128.Idx → Elt F .f32) (l : S16384.Idx → BitVec 32) : S16384x128.Idx → Elt F .f32 :=
  fun j => y (rowAt (l (listAt (j 0))).toNat (j 1))

/-- Every word of both lists names a row of the table, one of the set. -/
def Opnds.Ok (X : Opnds F) : Prop := ∀ (d : Dev nD) (j : S16384.Idx),
  (((X.i0 d : S16384.Idx → BitVec 32) j).toNat < 40960 ∧ X.good d ((X.i0 d : S16384.Idx → BitVec 32) j).toNat)
    ∧ (((X.i1 d : S16384.Idx → BitVec 32) j).toNat < 40960 ∧ X.good d ((X.i1 d : S16384.Idx → BitVec 32) j).toNat)

/-- A table is right at the rows of the set. -/
def Opnds.Agrees (X : Opnds F) (d : Dev nD) (y : Buf (Elt F) (yLoc d)) : Prop :=
  ∀ (n : ℕ) (l : Fin 128), X.good d n → (y : S40960x128.Idx → Elt F .f32) (rowAt n l) = (X.y d : S40960x128.Idx → Elt F .f32) (rowAt n l)

/-- A list of rows of the set gathers the same from every such table. -/
theorem Opnds.Agrees.gathered {X : Opnds F} {d : Dev nD} {y : Buf (Elt F) (yLoc d)} (h : X.Agrees d y) (l : S16384.Idx → BitVec 32)
    (hl : ∀ j, X.good d (l j).toNat) : gathered y l = gathered (X.y d) l :=
  funext fun _ => h _ _ (hl _)

/-! ## The tasks' parts: thirty-two blocks of the lists and of the results, thirty-two shares of the table -/

local notation "yV" => (Memref.whole Cert.KernelIdeal.main_v3_scv : Memref Cert.KernelIdeal.sig Kind.scVector Space.hbm Cert.KernelIdeal.S40960x128 EltTy.f32)
local notation "i0V" => (Memref.whole Cert.KernelIdeal.main_v12_scv : Memref Cert.KernelIdeal.sig Kind.scVector Space.hbm Cert.KernelIdeal.S16384 EltTy.i32)
local notation "i1V" => (Memref.whole Cert.KernelIdeal.main_v19_scv : Memref Cert.KernelIdeal.sig Kind.scVector Space.hbm Cert.KernelIdeal.S16384 EltTy.i32)
local notation "o0V" => (Memref.whole Cert.KernelIdeal.main_v20_0_scv : Memref Cert.KernelIdeal.sig Kind.scVector Space.hbm Cert.KernelIdeal.S16384x128 EltTy.f32)
local notation "o1V" => (Memref.whole Cert.KernelIdeal.main_v20_1_scv : Memref Cert.KernelIdeal.sig Kind.scVector Space.hbm Cert.KernelIdeal.S16384x128 EltTy.f32)

theorem listDiv : 32 ∣ S16384.size 0 := ⟨512, rfl⟩
theorem outDiv : 32 ∣ S16384x128.size 0 := ⟨512, rfl⟩
/-- Block `w` of a list, and of a result. -/
abbrev listPart (w : Fin 32) : Rect S16384 := Rect.part (s := S16384) (a₀ := 0) listDiv w
abbrev outPart (w : Fin 32) : Rect S16384x128 := Rect.part (s := S16384x128) (a₀ := 0) outDiv w
abbrev listSet (w : Fin 32) : Finset S16384.Idx := (listPart w).set
abbrev outSet (w : Fin 32) : Finset S16384x128.Idx := (outPart w).set
/-- Share `w` of the table: a part of its left half. -/
abbrev tabShare (w : Fin 32) : PosShare TreeShare := ShareLeaves.leaf 5 fullShare.left w

/-- A share of a table that is right at the rows of the set. -/
def tabPart (X : Opnds F) (d : Dev nD) (w : Fin 32) : sProp 𝕄 :=
  iprop(∃ y : Buf (Elt F) (yLoc d), ⌜X.Agrees d y⌝ ∗ yLoc d ↦{tabShare w} y)

/-- What task `w` takes with it: its block of both lists, a share of the table, its block of both results; -/
def taskIn (X : Opnds F) (d : Dev nD) (w : Fin 32) : sProp 𝕄 :=
  iprop((i0Loc d ↦[listSet w]{fullShare} X.i0 d) ∗ (i1Loc d ↦[listSet w]{fullShare} X.i1 d) ∗ tabPart X d w
    ∗ (o0Loc d ↦[outSet w]{fullShare} X.o0 d) ∗ (o1Loc d ↦[outSet w]{fullShare} X.o1 d))
/-- and what it brings back: its blocks of the results hold the rows that the lists name. -/
def taskOut (X : Opnds F) (d : Dev nD) (w : Fin 32) : sProp 𝕄 :=
  iprop((i0Loc d ↦[listSet w]{fullShare} X.i0 d) ∗ (i1Loc d ↦[listSet w]{fullShare} X.i1 d) ∗ tabPart X d w
    ∗ (o0Loc d ↦[outSet w]{fullShare} (gathered (X.y d) (X.i0 d) : Buf (Elt F) (o0Loc d)))
    ∗ (o1Loc d ↦[outSet w]{fullShare} (gathered (X.y d) (X.i1 d) : Buf (Elt F) (o1Loc d))))

instance tabPart_storable (X : Opnds F) (d : Dev nD) (w : Fin 32) : BI.Storable (upEmb : UEmb _ 𝕄) (tabPart X d w) := by
  unfold tabPart; infer_instance
instance taskIn_storable (X : Opnds F) (d : Dev nD) (w : Fin 32) : BI.Storable (upEmb : UEmb _ 𝕄) (taskIn X d w) := by
  unfold taskIn; infer_instance
instance taskOut_storable (X : Opnds F) (d : Dev nD) (w : Fin 32) : BI.Storable (upEmb : UEmb _ 𝕄) (taskOut X d w) := by
  unfold taskOut; infer_instance

/-- The number of the task on tile `s` of SparseCore `c`. -/
def taskNo (c : Fin 2) (s : Fin 16) : Fin 32 := ⟨2 * s.val + c.val, by omega⟩

/-- The tasks' numbers count the tiles. -/
def taskEquiv : Fin 2 × Fin 16 ≃ Fin 32 where
  toFun p := taskNo p.1 p.2
  invFun w := (⟨w.val % 2, Nat.mod_lt _ (by decide)⟩, ⟨w.val / 2, by omega⟩)
  left_inv p := by
    obtain ⟨c, s⟩ := p
    refine Prod.ext (Fin.ext ?_) (Fin.ext ?_) <;> simp only [taskNo] <;> omega
  right_inv w := Fin.ext (by simp only [taskNo]; omega)

/-- Both SparseCores' tiles are the thirty-two tasks. -/
theorem tasks_join (Φ : Fin 32 → sProp 𝕄) :
    (bigSep Finset.univ fun c : Fin 2 => bigSep Finset.univ fun s : Fin 16 => Φ (taskNo c s)) = bigSep Finset.univ Φ := by
  rw [bigSep_univ_equiv taskEquiv Φ, bigSep_univ_prod]; rfl

theorem listParts_disjoint : ∀ i ∈ (Finset.univ : Finset (Fin 32)), ∀ j ∈ (Finset.univ : Finset (Fin 32)), i ≠ j → Disjoint (listSet i) (listSet j) :=
  fun _ _ _ _ h => Rect.part_disjoint listDiv h
theorem outParts_disjoint : ∀ i ∈ (Finset.univ : Finset (Fin 32)), ∀ j ∈ (Finset.univ : Finset (Fin 32)), i ≠ j → Disjoint (outSet i) (outSet j) :=
  fun _ _ _ _ h => Rect.part_disjoint outDiv h

theorem i0_parts (d : Dev nD) (f : Buf (Elt F) (i0Loc d)) :
    (i0Loc d ↦{fullShare} f : sProp 𝕄) = bigSep Finset.univ fun w : Fin 32 => i0Loc d ↦[listSet w]{fullShare} f := by
  rw [← pointsTo_biUnion Finset.univ (ℓ := i0Loc d) listSet listParts_disjoint]
  exact congrArg (fun I => (i0Loc d ↦[I]{fullShare} f : sProp 𝕄)) (Rect.biUnion_part listDiv).symm
theorem i1_parts (d : Dev nD) (f : Buf (Elt F) (i1Loc d)) :
    (i1Loc d ↦{fullShare} f : sProp 𝕄) = bigSep Finset.univ fun w : Fin 32 => i1Loc d ↦[listSet w]{fullShare} f := by
  rw [← pointsTo_biUnion Finset.univ (ℓ := i1Loc d) listSet listParts_disjoint]
  exact congrArg (fun I => (i1Loc d ↦[I]{fullShare} f : sProp 𝕄)) (Rect.biUnion_part listDiv).symm
theorem o0_parts (d : Dev nD) (f : Buf (Elt F) (o0Loc d)) :
    (o0Loc d ↦{fullShare} f : sProp 𝕄) = bigSep Finset.univ fun w : Fin 32 => o0Loc d ↦[outSet w]{fullShare} f := by
  rw [← pointsTo_biUnion Finset.univ (ℓ := o0Loc d) outSet outParts_disjoint]
  exact congrArg (fun I => (o0Loc d ↦[I]{fullShare} f : sProp 𝕄)) (Rect.biUnion_part outDiv).symm
theorem o1_parts (d : Dev nD) (f : Buf (Elt F) (o1Loc d)) :
    (o1Loc d ↦{fullShare} f : sProp 𝕄) = bigSep Finset.univ fun w : Fin 32 => o1Loc d ↦[outSet w]{fullShare} f := by
  rw [← pointsTo_biUnion Finset.univ (ℓ := o1Loc d) outSet outParts_disjoint]
  exact congrArg (fun I => (o1Loc d ↦[I]{fullShare} f : sProp 𝕄)) (Rect.biUnion_part outDiv).symm
theorem y_shares (d : Dev nD) (f : Buf (Elt F) (yLoc d)) :
    (yLoc d ↦{fullShare.left} f : sProp 𝕄) = bigSep Finset.univ fun w : Fin 32 => yLoc d ↦{tabShare w} f :=
  ShareLeaves.pointsTo_leaves Finset.univ f 5 fullShare.left

/-- The table's two halves. -/
theorem y_halves (d : Dev nD) (f : Buf (Elt F) (yLoc d)) :
    (yLoc d ↦{fullShare} f : sProp 𝕄) = iprop((yLoc d ↦{fullShare.left} f) ∗ yLoc d ↦{fullShare.right} f) :=
  BI.Entails.antisymm (pointsTo_share (PosShare.mem_left_op_right fullShare)).1 (pointsTo_share (PosShare.mem_left_op_right fullShare)).2

/-- Shares of tables beside a share of one table are shares of that one. -/
theorem tabs_agree (X : Opnds F) (d : Dev nD) (f : Buf (Elt F) (yLoc d)) (s : Finset (Fin 32)) :
    iprop((yLoc d ↦{fullShare.right} f) ∗ bigSep s (tabPart X d))
      ⊢ (iprop((yLoc d ↦{fullShare.right} f) ∗ bigSep s fun w => yLoc d ↦{tabShare w} f) : sProp 𝕄) := by
  induction s using Finset.induction_on with
  | empty => rw [bigSep_empty, bigSep_empty]
  | insert w s hw ih =>
    rw [SparseCore.bigSep_insert' hw, SparseCore.bigSep_insert' hw]
    have key : iprop((yLoc d ↦{fullShare.right} f) ∗ tabPart X d w) ⊢ (iprop((yLoc d ↦{fullShare.right} f) ∗ yLoc d ↦{tabShare w} f) : sProp 𝕄) := by
      unfold tabPart
      iintro ⟨Hf, %g, -, Hg⟩
      ihave %h := (pointsTo_agree (ℓ := yLoc d) (I := Finset.univ) (J := Finset.univ)) $$ [Hf Hg]
      · isplitl [Hf] <;> iassumption
      have e : f = g := funext fun i => (h i (Finset.mem_inter.mpr ⟨Finset.mem_univ i, Finset.mem_univ i⟩)).1
      subst e
      isplitl [Hf] <;> iassumption
    iintro ⟨Hf, Hw, Hs⟩
    ihave H := key $$ [Hf Hw]
    · isplitl [Hf] <;> iassumption
    icases H with ⟨Hf, Hw⟩
    ihave H := ih $$ [Hf Hs]
    · isplitl [Hf] <;> iassumption
    icases H with ⟨Hf, Hs⟩
    isplitl [Hf]; · iexact Hf
    isplitl [Hw] <;> iassumption

/-- Shares of a table that is right at the rows of the set. -/
theorem tabs_of (X : Opnds F) (d : Dev nD) (y : Buf (Elt F) (yLoc d)) (hy : X.Agrees d y) :
    (bigSep Finset.univ (fun w : Fin 32 => yLoc d ↦{tabShare w} y) : sProp 𝕄) ⊢ bigSep Finset.univ (tabPart X d) :=
  bigSep_mono fun w _ => show (yLoc d ↦{tabShare w} y : sProp 𝕄) ⊢ iprop(∃ y : Buf (Elt F) (yLoc d), ⌜X.Agrees d y⌝ ∗ yLoc d ↦{tabShare w} y) by
    iintro H; iexists y; isplitr; · ipureintro; exact hy
    iexact H

/-- The five arrays whole, the table right at the rows of the set, are what the tasks take beside half of the table; -/
theorem tasksIn_of (X : Opnds F) (d : Dev nD) (y : Buf (Elt F) (yLoc d)) (hy : X.Agrees d y) :
    iprop((i0Loc d ↦{fullShare} X.i0 d) ∗ (i1Loc d ↦{fullShare} X.i1 d) ∗ (yLoc d ↦{fullShare} y)
          ∗ (o0Loc d ↦{fullShare} X.o0 d) ∗ (o1Loc d ↦{fullShare} X.o1 d))
      ⊢ (iprop((yLoc d ↦{fullShare.right} y) ∗ bigSep Finset.univ (taskIn X d)) : sProp 𝕄) := by
  rw [i0_parts, i1_parts, y_halves, y_shares, o0_parts, o1_parts]
  show _ ⊢ iprop(_ ∗ bigSep Finset.univ fun w => taskIn X d w)
  simp only [taskIn, bigSep_sep']
  iintro ⟨H0, H1, ⟨Hl, Hr⟩, H2, H3⟩
  isplitl [Hr]; · iexact Hr
  isplitl [H0]; · iexact H0
  isplitl [H1]; · iexact H1
  isplitl [Hl]
  · iapply tabs_of X d y hy $$ Hl
  isplitl [H2] <;> iassumption

/-- and what the tasks bring back beside that half is the five arrays whole, the results at the gathered rows. -/
theorem of_tasksOut (X : Opnds F) (d : Dev nD) (y : Buf (Elt F) (yLoc d)) :
    iprop((yLoc d ↦{fullShare.right} y) ∗ bigSep Finset.univ (taskOut X d))
      ⊢ (iprop((i0Loc d ↦{fullShare} X.i0 d) ∗ (i1Loc d ↦{fullShare} X.i1 d) ∗ (yLoc d ↦{fullShare} y)
          ∗ (o0Loc d ↦{fullShare} (gathered (X.y d) (X.i0 d) : Buf (Elt F) (o0Loc d)))
          ∗ (o1Loc d ↦{fullShare} (gathered (X.y d) (X.i1 d) : Buf (Elt F) (o1Loc d)))) : sProp 𝕄) := by
  rw [i0_parts, i1_parts, y_halves, y_shares, o0_parts, o1_parts]
  show iprop(_ ∗ bigSep Finset.univ fun w => taskOut X d w) ⊢ _
  simp only [taskOut, bigSep_sep']
  iintro ⟨Hr, H0, H1, Hl, H2, H3⟩
  ihave H := (tabs_agree X d y Finset.univ) $$ [Hr Hl]
  · isplitl [Hr] <;> iassumption
  icases H with ⟨Hr, Hl⟩
  isplitl [H0]; · iexact H0
  isplitl [H1]; · iexact H1
  isplitl [Hr Hl]
  · isplitl [Hl] <;> iassumption
  isplitl [H2] <;> iassumption

/-! ## What the handshakes carry -/

section
variable [FloatOps F]

/-- Each SparseCore's tasks, whole; each tile's own. -/
def P (X : Opnds F) : (K (F := F)).Pay (nD := nD) (Val := Elt F) (Name := ℕ) (U := UU) where
  st := fun q d c => match q with | 0 => bigSep Finset.univ fun s : Fin 16 => taskIn X d (taskNo (Fin.cast cores_eq c) s)
  dn := fun q d c => match q with | 0 => bigSep Finset.univ fun s : Fin 16 => taskOut X d (taskNo (Fin.cast cores_eq c) s)
  go := fun q d c i => match q with | 0 => taskIn X d (taskNo (Fin.cast cores_eq c) (Fin.cast tiles_eq i))
  td := fun q d c i => match q with | 0 => taskOut X d (taskNo (Fin.cast cores_eq c) (Fin.cast tiles_eq i))
  x := fun _ _ => iprop(emp)

instance P_storable (X : Opnds F) : (P X).IsStorable where
  st q d c := match q with
    | 0 => (inferInstance : BI.Storable (upEmb : UEmb _ 𝕄) (bigSep Finset.univ fun s : Fin 16 => taskIn X d (taskNo (Fin.cast cores_eq c) s)))
  dn q d c := match q with
    | 0 => (inferInstance : BI.Storable (upEmb : UEmb _ 𝕄) (bigSep Finset.univ fun s : Fin 16 => taskOut X d (taskNo (Fin.cast cores_eq c) s)))
  go q d c i := match q with
    | 0 => taskIn_storable X d (taskNo (Fin.cast cores_eq c) (Fin.cast tiles_eq i))
  td q d c i := match q with
    | 0 => taskOut_storable X d (taskNo (Fin.cast cores_eq c) (Fin.cast tiles_eq i))

/-- A SparseCore's operands are its tiles', and its results theirs. -/
theorem vecSplit (X : Opnds F) : (K (F := F)).VecSplit' (P X) 0 := by
  intro d c
  show (bigSep Finset.univ fun s : Fin 16 => taskIn X d (taskNo (Fin.cast cores_eq c) s)) ⊢ |={Set.univ}=> iprop(
      (bigSep Finset.univ fun s : Fin 16 => taskIn X d (taskNo (Fin.cast cores_eq c) s))
      ∗ ((bigSep Finset.univ fun s : Fin 16 => taskOut X d (taskNo (Fin.cast cores_eq c) s))
          -∗ bigSep Finset.univ fun s : Fin 16 => taskOut X d (taskNo (Fin.cast cores_eq c) s)))
  iintro H; imodintro
  isplitl [H]; · iexact H
  iintro H; iexact H

/-- All the SparseCores' operands are the five arrays; -/
theorem st_eq (X : Opnds F) (d : Dev nD) :
    (bigSep Finset.univ fun c : Fin ((K (F := F)).nCore 0) => (P X).st 0 d c) = bigSep Finset.univ (taskIn X d) :=
  tasks_join (taskIn X d)
/-- and so with the results. -/
theorem dn_eq (X : Opnds F) (d : Dev nD) :
    (bigSep Finset.univ fun c : Fin ((K (F := F)).nCore 0) => (P X).dn 0 d c) = bigSep Finset.univ (taskOut X d) :=
  tasks_join (taskOut X d)

end

end Cert.Proof.Undisp

end
-- ==== Proof.Tile.lean ====
/-
  One task of the undispatch kernel, run at a symbolic tile: for either list, the block of the list fetched, the
  rows it names streamed out of the table, and the rows written to the task's block of the result — with what
  the results then hold.
-/
module

public import proofs.«01_k».proof.Proof.Base

@[expose] public section

noncomputable section

namespace Cert.Proof.Undisp

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "yV" => (Memref.whole Cert.KernelIdeal.main_v3_scv : Memref Cert.KernelIdeal.sig Kind.scVector Space.hbm Cert.KernelIdeal.S40960x128 EltTy.f32)
local notation "i0V" => (Memref.whole Cert.KernelIdeal.main_v12_scv : Memref Cert.KernelIdeal.sig Kind.scVector Space.hbm Cert.KernelIdeal.S16384 EltTy.i32)
local notation "i1V" => (Memref.whole Cert.KernelIdeal.main_v19_scv : Memref Cert.KernelIdeal.sig Kind.scVector Space.hbm Cert.KernelIdeal.S16384 EltTy.i32)
local notation "o0V" => (Memref.whole Cert.KernelIdeal.main_v20_0_scv : Memref Cert.KernelIdeal.sig Kind.scVector Space.hbm Cert.KernelIdeal.S16384x128 EltTy.f32)
local notation "o1V" => (Memref.whole Cert.KernelIdeal.main_v20_1_scv : Memref Cert.KernelIdeal.sig Kind.scVector Space.hbm Cert.KernelIdeal.S16384x128 EltTy.f32)
local notation "rV" => (Memref.whole Cert.KernelIdeal.cc1_scratch0 : Memref Cert.KernelIdeal.sig Kind.scVector Space.vmem Cert.KernelIdeal.S512x128 EltTy.f32)
local notation "nV" => (Memref.whole Cert.KernelIdeal.cc1_scratch1 : Memref Cert.KernelIdeal.sig Kind.scVector Space.vmem Cert.KernelIdeal.S512 EltTy.i32)

variable (X : Opnds F) (d : Dev nD) (L : grid1.Coords)

/-- The SparseCore and the tile of a grid point, -/
abbrev cV (L : grid1.Coords) : Fin τ.nSC := (L 0).castLE hcore1
abbrev jV (L : grid1.Coords) : Fin τ.nSub := (L 1).castLE hsub1
/-- and its task's number. -/
abbrev wL (L : grid1.Coords) : Fin 32 := taskNo ⟨(L 0).val, (L 0).isLt⟩ ⟨(L 1).val, (L 1).isLt⟩
/-- The vector subcore that runs it. -/
abbrev thr (d : Dev nD) (L : grid1.Coords) : Thread nD τ := V d (cV L) (jV L)

/-! ## The blocks as the task addresses them -/

abbrev listRect (L : grid1.Coords) : Rect S16384 := Rect.unit (s := S16384) (k1_off1 L) S512.size (k1_off1_inb L)
abbrev outRect (L : grid1.Coords) : Rect S16384x128 := Rect.unit (s := S16384x128) (k1_off2 L) S512x128.size (k1_off2_inb L)
abbrev i0K (L : grid1.Coords) : Memref sig .scVector .hbm S512 .i32 := (i0V).slice (listRect L) (fun _ => rfl)
abbrev i1K (L : grid1.Coords) : Memref sig .scVector .hbm S512 .i32 := (i1V).slice (listRect L) (fun _ => rfl)
abbrev o0K (L : grid1.Coords) : Memref sig .scVector .hbm S512x128 .f32 := (o0V).slice (outRect L) (fun _ => rfl)
abbrev o1K (L : grid1.Coords) : Memref sig .scVector .hbm S512x128 .f32 := (o1V).slice (outRect L) (fun _ => rfl)
/-- All of the table, as the stream addresses it. -/
abbrev yK : Memref sig .scVector .hbm S40960x128 .f32 :=
  (yV).slice (Rect.unit (s := S40960x128) ![0, 0] S40960x128.size inb_S40960x128_S40960x128_0_0) (fun _ => rfl)

theorem listRect_eq : listRect L = listPart (wL L) := by
  unfold listRect listPart Rect.part Rect.block
  congr 1 <;> funext a
  · rw [k1_off1_eq]
    match a with
    | 0 => simp [Shape.partIx, Shape.partSize, taskNo]; omega
  · match a with
    | 0 => simp [Shape.partSize]
theorem outRect_eq : outRect L = outPart (wL L) := by
  unfold outRect outPart Rect.part Rect.block
  congr 1 <;> funext a
  · rw [k1_off2_eq]
    match a with
    | 0 => simp [Shape.partIx, Shape.partSize, taskNo]; omega
    | 1 => simp [Shape.partIx, Shape.partSize]
  · match a with
    | 0 => simp [Shape.partSize]
    | 1 => simp [Shape.partSize]

theorem set_i0K : (i0K L).view.set = listSet (wL L) := by
  show ((View.whole (main_v12_scv : Ref sig .scVector)).slice (listRect L)).set = _
  rw [View.set_slice, listRect_eq]; exact Finset.map_refl
theorem set_i1K : (i1K L).view.set = listSet (wL L) := by
  show ((View.whole (main_v19_scv : Ref sig .scVector)).slice (listRect L)).set = _
  rw [View.set_slice, listRect_eq]; exact Finset.map_refl
theorem set_o0K : (o0K L).view.set = outSet (wL L) := by
  show ((View.whole (main_v20_0_scv : Ref sig .scVector)).slice (outRect L)).set = _
  rw [View.set_slice, outRect_eq]; exact Finset.map_refl
theorem set_o1K : (o1K L).view.set = outSet (wL L) := by
  show ((View.whole (main_v20_1_scv : Ref sig .scVector)).slice (outRect L)).set = _
  rw [View.set_slice, outRect_eq]; exact Finset.map_refl

theorem pts_i0K (f : Buf (Elt F) (i0Loc d)) :
    ((i0K L).view.loc (thr d L) ↦[(i0K L).view.set]{fullShare} f : sProp 𝕄) = i0Loc d ↦[listSet (wL L)]{fullShare} f := by
  rw [set_i0K]
theorem pts_i1K (f : Buf (Elt F) (i1Loc d)) :
    ((i1K L).view.loc (thr d L) ↦[(i1K L).view.set]{fullShare} f : sProp 𝕄) = i1Loc d ↦[listSet (wL L)]{fullShare} f := by
  rw [set_i1K]
theorem pts_o0K (f : Buf (Elt F) (o0Loc d)) :
    ((o0K L).view.loc (thr d L) ↦[(o0K L).view.set]{fullShare} f : sProp 𝕄) = o0Loc d ↦[outSet (wL L)]{fullShare} f := by
  rw [set_o0K]
theorem pts_o1K (f : Buf (Elt F) (o1Loc d)) :
    ((o1K L).view.loc (thr d L) ↦[(o1K L).view.set]{fullShare} f : sProp 𝕄) = o1Loc d ↦[outSet (wL L)]{fullShare} f := by
  rw [set_o1K]

/-! ## The subcore's own storage -/

abbrev cellG (d : Dev nD) (L : grid1.Coords) : GSem nD τ sig := (thr d L, .dma cc1_scratch2.sem)
abbrev cellA (d : Dev nD) (L : grid1.Coords) : GSem nD τ sig := (thr d L, .dma cc1_scoped0.sem)
abbrev cellB (d : Dev nD) (L : grid1.Coords) : GSem nD τ sig := (thr d L, .dma cc1_scoped1.sem)
abbrev cellC (d : Dev nD) (L : grid1.Coords) : GSem nD τ sig := (thr d L, .dma cc1_scoped2.sem)
abbrev cellE (d : Dev nD) (L : grid1.Coords) : GSem nD τ sig := (thr d L, .dma cc1_scoped3.sem)

/-- The five semaphores of the task are among the subcore's own. -/
theorem sems_split :
    (ownSems0 (thr d L) : sProp 𝕄)
      = iprop(semVal (cellG d L) 0 ∗ semVal (cellA d L) 0 ∗ semVal (cellB d L) 0 ∗ semVal (cellC d L) 0 ∗ semVal (cellE d L) 0
          ∗ bigSep ((((((ownCells (thr d L)).erase (cellG d L)).erase (cellA d L)).erase (cellB d L)).erase (cellC d L)).erase (cellE d L)) fun g => semVal g 0) := by
  have own (s : DmaSems sig S_) (h : (SemLoc.dma s.sem : SemLoc sig).isScoped .scVector = true) :
      ((thr d L, SemLoc.dma s.sem) : GSem nD τ sig) ∈ ownCells (thr d L) := mem_ownCells.mpr ⟨rfl, h⟩
  have ne (s s' : DmaSems sig S_) (h : (s.sem : DmaSem sig) ≠ s'.sem) :
      ((thr d L, SemLoc.dma s.sem) : GSem nD τ sig) ≠ (thr d L, SemLoc.dma s'.sem) := fun e => h (SemLoc.dma.inj (Prod.mk.inj e).2)
  unfold SparseCore.Cfg.ownSems0
  rw [SparseCore.bigSep_erase' (own cc1_scratch2 (by decide)),
    SparseCore.bigSep_erase' (Finset.mem_erase.mpr ⟨ne cc1_scoped0 cc1_scratch2 (by decide), own cc1_scoped0 (by decide)⟩),
    SparseCore.bigSep_erase' (Finset.mem_erase.mpr ⟨ne cc1_scoped1 cc1_scoped0 (by decide),
      Finset.mem_erase.mpr ⟨ne cc1_scoped1 cc1_scratch2 (by decide), own cc1_scoped1 (by decide)⟩⟩),
    SparseCore.bigSep_erase' (Finset.mem_erase.mpr ⟨ne cc1_scoped2 cc1_scoped1 (by decide), Finset.mem_erase.mpr ⟨ne cc1_scoped2 cc1_scoped0 (by decide),
      Finset.mem_erase.mpr ⟨ne cc1_scoped2 cc1_scratch2 (by decide), own cc1_scoped2 (by decide)⟩⟩⟩),
    SparseCore.bigSep_erase' (Finset.mem_erase.mpr ⟨ne cc1_scoped3 cc1_scoped2 (by decide), Finset.mem_erase.mpr ⟨ne cc1_scoped3 cc1_scoped1 (by decide),
      Finset.mem_erase.mpr ⟨ne cc1_scoped3 cc1_scoped0 (by decide), Finset.mem_erase.mpr ⟨ne cc1_scoped3 cc1_scratch2 (by decide), own cc1_scoped3 (by decide)⟩⟩⟩⟩)]

/-- The row buffer and the list buffer are among the subcore's own. -/
theorem bufs_split :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## What one gather leaves -/

/-- A one-axis index is its row-major position. -/
theorem rowMajor_list (k : Fin 512) (h : 512 = S512.numel) : ((S512.rowMajor.symm (k.cast h)) 0).val = k.val := by
  have e : ∀ x : S512.Idx, (S512.rowMajor x).val = (x 0).val := fun x => Shape.rowMajor_val_one x
  have := e (S512.rowMajor.symm (k.cast h))
  rw [Equiv.apply_symm_apply] at this
  exact this.symm

/-- The rows streamed for a block of the list, at an index of the block: the gathered rows at the block's place. -/
theorem gathered_block (y : S40960x128.Idx → Elt F .f32) (l : S16384.Idx → BitVec 32) (n : S512.Idx → BitVec 32)
    (hn : ∀ x, n x = l ((listRect L).emb x)) (hlt : ∀ x, (n x).toNat < 40960) (x : S512x128.Idx) :
    SparseCore.gatherPayload (F := F) (e := .f32) gathers_S40960x128_S512x128 ((yK).view.read (Elt F) y)
        (SparseCore.rows (F := F) (si := S512) n rfl hlt) x
      = gathered y l ((outRect L).emb x) := by
  unfold SparseCore.gatherPayload gathered
  show y ((yK).view.emb _) = _
  congr 1
  have hl : (listRect L).emb (S512.rowMajor.symm (Fin.cast rfl (x 0))) = listAt ((outRect L).emb x 0) := by
    funext a
    match a with
    | 0 =>
      refine Fin.ext ?_
      show k1_off1 L 0 + 1 * ((S512.rowMajor.symm (Fin.cast rfl (x 0))) 0).val = k1_off2 L 0 + 1 * (x 0).val
      have e1 : ((S512.rowMajor.symm (Fin.cast rfl (x 0))) 0).val = (x 0).val := rowMajor_list ⟨(x 0).val, (x 0).isLt⟩ rfl
      have e2 : k1_off1 L 0 = k1_off2 L 0 := by rw [k1_off1_eq, k1_off2_eq]; rfl
      exact congrArg₂ (fun a b => a + 1 * b) e2 e1
  funext a
  match a with
  | 0 =>
    refine Fin.ext ?_
    show 0 + 1 * (gathers_S40960x128_S512x128.idx _ x gathers_S40960x128_S512x128.axis).val = (l (listAt ((outRect L).emb x 0))).toNat % 40960
    rw [Shape.Gathers.idx_axis]
    show 0 + 1 * (n (S512.rowMajor.symm (Fin.cast rfl (x 0)))).toNat = _
    rw [Nat.mod_eq_of_lt (by rw [← hl, ← hn]; exact hlt _), ← hl, ← hn]; omega
  | 1 =>
    refine Fin.ext ?_
    show 0 + 1 * (gathers_S40960x128_S512x128.idx _ x 1).val = k1_off2 L 1 + 1 * (x 1).val
    rw [Shape.Gathers.idx_of_ne _ _ _ _ (by decide), k1_off2_eq]; simp

/-- A list's block, as the list buffer holds it, -/
def listBlock (l : S16384.Idx → BitVec 32) : S512.Idx → BitVec 32 := fun x => l ((listRect L).emb x)
/-- and the rows it names, as the row buffer holds them. -/
def rowBlock (y : S40960x128.Idx → Elt F .f32) (l : S16384.Idx → BitVec 32) : S512x128.Idx → Elt F .f32 :=
  fun x => gathered y l ((outRect L).emb x)

/-- What a block of the result holds once the streamed rows are written to it. -/
theorem written0 (f : Buf (Elt F) (o0Loc d)) (pay : (Rect.whole S512x128).shape.Idx → Elt F .f32)
    (hpay : pay = rowBlock L (X.y d) (X.i0 d)) :
    ((o0K L).view.loc (thr d L) ↦[(o0K L).view.set]{fullShare} (o0K L).view.writes (Elt F) f [⟨Rect.whole S512x128, pay⟩] : sProp 𝕄)
      ⊢ o0Loc d ↦[outSet (wL L)]{fullShare} (gathered (X.y d) (X.i0 d) : Buf (Elt F) (o0Loc d)) := by
  subst hpay
  refine Entails.of_eq (Eq.trans (pointsTo_congr fun j hj => ?_) (pts_o0K d L _))
  obtain ⟨x, -, rfl⟩ := Finset.mem_map.mp hj
  rw [View.writes_singleton]
  have he : (o0K L).view.emb x = ((o0K L).view.slice (Rect.whole S512x128)).emb x :=
    congrArg (o0K L).view.emb (Rect.emb_whole_apply S512x128 x).symm
  rw [he, View.write_emb_of_mem _ _ (Finset.mem_univ x), ← he]
  rfl
theorem written1 (f : Buf (Elt F) (o1Loc d)) (pay : (Rect.whole S512x128).shape.Idx → Elt F .f32)
    (hpay : pay = rowBlock L (X.y d) (X.i1 d)) :
    ((o1K L).view.loc (thr d L) ↦[(o1K L).view.set]{fullShare} (o1K L).view.writes (Elt F) f [⟨Rect.whole S512x128, pay⟩] : sProp 𝕄)
      ⊢ o1Loc d ↦[outSet (wL L)]{fullShare} (gathered (X.y d) (X.i1 d) : Buf (Elt F) (o1Loc d)) := by
  subst hpay
  refine Entails.of_eq (Eq.trans (pointsTo_congr fun j hj => ?_) (pts_o1K d L _))
  obtain ⟨x, -, rfl⟩ := Finset.mem_map.mp hj
  rw [View.writes_singleton]
  have he : (o1K L).view.emb x = ((o1K L).view.slice (Rect.whole S512x128)).emb x :=
    congrArg (o1K L).view.emb (Rect.emb_whole_apply S512x128 x).symm
  rw [he, View.write_emb_of_mem _ _ (Finset.mem_univ x), ← he]
  rfl

/-- The list buffer once the block has landed. -/
theorem landed0 (f : Buf (Elt F) ((thr d L).loc cc1_scratch1)) (pay : S512.Idx → Elt F .i32) (hpay : pay = (i0K L).view.read (Elt F) (X.i0 d)) :
    ((nV).view.loc (thr d L) ↦{fullShare} View.write (Elt F) (nV).view f pay Finset.univ : sProp 𝕄)
      ⊢ (nV).view.loc (thr d L) ↦{fullShare} (listBlock L (X.i0 d) : Buf (Elt F) ((thr d L).loc cc1_scratch1)) := by
  subst hpay; rw [View.write_whole_univ]; exact .rfl
theorem landed1 (f : Buf (Elt F) ((thr d L).loc cc1_scratch1)) (pay : S512.Idx → Elt F .i32) (hpay : pay = (i1K L).view.read (Elt F) (X.i1 d)) :
    ((nV).view.loc (thr d L) ↦{fullShare} View.write (Elt F) (nV).view f pay Finset.univ : sProp 𝕄)
      ⊢ (nV).view.loc (thr d L) ↦{fullShare} (listBlock L (X.i1 d) : Buf (Elt F) ((thr d L).loc cc1_scratch1)) := by
  subst hpay; rw [View.write_whole_univ]; exact .rfl

/-- The row buffer once the stream has landed. -/
theorem streamed (f : Buf (Elt F) ((thr d L).loc cc1_scratch0)) (y z : S40960x128.Idx → Elt F .f32) (l : S16384.Idx → BitVec 32)
    (hyz : gathered y l = gathered z l)
    (hlt : ∀ x, ((nV).view.read (Elt F) (listBlock L l : Buf (Elt F) ((thr d L).loc cc1_scratch1)) x).toNat < 40960) :
    ((rV).view.loc (thr d L) ↦{fullShare} View.write (Elt F) (rV).view f
        (SparseCore.gatherPayload (F := F) (e := .f32) gathers_S40960x128_S512x128 ((yK).view.read (Elt F) y)
          (SparseCore.rows (F := F) (si := S512) ((nV).view.read (Elt F) (listBlock L l : Buf (Elt F) ((thr d L).loc cc1_scratch1))) rfl hlt)) Finset.univ : sProp 𝕄)
      ⊢ (rV).view.loc (thr d L) ↦{fullShare} (rowBlock L z l : Buf (Elt F) ((thr d L).loc cc1_scratch0)) := by
  rw [View.write_whole_univ]
  exact Entails.of_eq (congrArg (fun f => ((rV).view.loc (thr d L) ↦{fullShare} f : sProp 𝕄))
    (funext fun x => (gathered_block L y l _ (fun _ => rfl) hlt x).trans (congrFun hyz _)))

set_option maxHeartbeats 4000000 in
/-- The task on the tile `L` of device `d`, from its parts of the call's arrays to the same parts with the rows
    that the lists name in its blocks of the results. -/
theorem tile_body (hF : (K (F := F)).Facts) (hok : X.Ok) (O : CellTallies nD τ sig (HIx 1)) (W : Waits sig (HIx 1)) (hO : ∀ g, O g none = 0) :
    iprop(levAts (K (F := F)).L (K (F := F)).lev ∗ emp ∗ taskIn X d (wL L)
        ∗ scopedBufs (thr d L) ∗ scopedSems0 (thr d L) ∗ owes (thr d L) O W)
      ⊢ wp frame (wpE (defs₀ (F := F)) 𝒱₀ (thr d L) none) Set.univ
          (cc1__k7_sc L yV (Memref.isWhole_whole _) i0V (Memref.isWhole_whole _) i1V (Memref.isWhole_whole _)
            o0V (Memref.isWhole_whole _) o1V (Memref.isWhole_whole _) rV (Memref.isWhole_whole _) nV (Memref.isWhole_whole _)
            cc1_scratch2 cc1_scoped0 cc1_scoped1 cc1_scoped2 cc1_scoped3)
          fun _ => iprop(taskOut X d (wL L)
            ∗ scopedBufs (thr d L) ∗ scopedSems0 (thr d L)
            ∗ ∃ W', ⌜∀ p ∈ W', p ∈ W ∨ p.2 = none⌝ ∗ owes (thr d L) O W') := by
  simp only [cc1__k7_sc_eq_skeleton]; unfold cc1__k7_sc_skel
  rw [(K (F := F)).scopedBufs_V hF d (cV L) (jV L), SparseCore.Cfg.scopedSems0_V (Val := Elt F) d (cV L) (jV L), sems_split, bufs_split]
  unfold taskIn taskOut tabPart
  have hN : ∀ h : S40960x128.Gathers 0 S512x128, ∑ j, ((rV).slice (S512x128.rowRect h.axis' j) (S512x128.stride_rowRect h.axis' j)).view.dmaCredit
      = (rV).view.dmaCredit := by decide
  iintro ⟨#Hlv, -, ⟨Hi0, Hi1, ⟨%y, %hy, Hy⟩, Ho0, Ho1⟩, ⟨⟨%fr, Hr⟩, ⟨%fn, Hn⟩, Hbufs⟩, ⟨HsG, HsA, HsB, HsC, HsE, Hsems⟩, HO⟩
  ihave Hmw := (show levAts (K (F := F)).L (K (F := F)).lev ⊢ Transfers.MayWaits (thr d L) (default : HIx 1) O from
    (K (F := F)).mayWaits_none (thr := thr d L) hO) $$ Hlv
  ihave Hi0' := (Entails.of_eq (pts_i0K (F := F) d L _).symm) $$ Hi0
  ihave Hi1' := (Entails.of_eq (pts_i1K (F := F) d L _).symm) $$ Hi1
  ihave Ho0' := (Entails.of_eq (pts_o0K (F := F) d L _).symm) $$ Ho0
  ihave Ho1' := (Entails.of_eq (pts_o1K (F := F) d L _).symm) $$ Ho1
  ihave Hy' := (show (yLoc d ↦{tabShare (wL L)} y : sProp 𝕄) ⊢ (yV).view.loc (thr d L) ↦{tabShare (wL L)} y from .rfl) $$ Hy
  ihave Hr' := (show ((thr d L).loc cc1_scratch0 ↦{fullShare} fr : sProp 𝕄) ⊢ (rV).view.loc (thr d L) ↦{fullShare} fr from .rfl) $$ Hr
  ihave Hn' := (show ((thr d L).loc cc1_scratch1 ↦{fullShare} fn : sProp 𝕄) ⊢ (nV).view.loc (thr d L) ↦{fullShare} fn from .rfl) $$ Hn
  have h0 : ∀ x, ((nV).view.read (Elt F) (listBlock L (X.i0 d) : Buf (Elt F) ((thr d L).loc cc1_scratch1)) x).toNat < 40960 := fun x => (hok d _).1.1
  have h1 : ∀ x, ((nV).view.read (Elt F) (listBlock L (X.i1 d) : Buf (Elt F) ((thr d L).loc cc1_scratch1)) x).toNat < 40960 := fun x => (hok d _).2.1
  sl_exec
  -- the rows that list 0 names
  ihave Hn0 := (landed0 X d L _ (tile_body.sl.dma0 X d L) rfl) $$ Hn'
  iapply (SparseCore.wp_gatherFromWhole countersEmb 𝒱₀ (thr d L) none (hg := gathers_S40960x128_S512x128) (src := yK) (dst := rV) (offs := nV)
      (fo := listBlock L (X.i0 d)) (fs := y) (default : HIx 1) (rV).view.dmaCredit (hN _) (by decide) h0) $$ [Hy' Hr' Hn0 HsG]
  · isplitl [Hy']; · iexact Hy'
    isplitl [Hr']; · iexact Hr'
    isplitl [Hn0]; · iexact Hn0
    iexact HsG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hy', Hn'⟩, HsG, HO⟩
  ihave Hr' := (streamed d L _ y (X.y d) (X.i0 d) (hy.gathered _ fun j => (hok d j).1.2) h0) $$ Hr'
  sl_exec
  -- the rows that list 1 names
  ihave Hn1 := (landed1 X d L _ (tile_body.sl.dma0_2 X d L) rfl) $$ Hn'
  iapply (SparseCore.wp_gatherFromWhole countersEmb 𝒱₀ (thr d L) none (hg := gathers_S40960x128_S512x128) (src := yK) (dst := rV) (offs := nV)
      (fo := listBlock L (X.i1 d)) (fs := y) (default : HIx 1) (rV).view.dmaCredit (hN _) (by decide) h1) $$ [Hy' Hr' Hn1 HsG]
  · isplitl [Hy']; · iexact Hy'
    isplitl [Hr']; · iexact Hr'
    isplitl [Hn1]; · iexact Hn1
    iexact HsG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hy', Hn'⟩, HsG, HO⟩
  ihave Hr' := (streamed d L _ y (X.y d) (X.i1 d) (hy.gathered _ fun j => (hok d j).2.2) h1) $$ Hr'
  sl_exec
  sl_step
  isplitl [Hi0' Hi1' Hy' Ho0' Ho1']
  · isplitl [Hi0']; · iapply (Entails.of_eq (pts_i0K (F := F) d L _)); iexact Hi0'
    isplitl [Hi1']; · iapply (Entails.of_eq (pts_i1K (F := F) d L _)); iexact Hi1'
    isplitl [Hy']
    · iexists y; isplitr; · ipureintro; exact hy
      iexact Hy'
    isplitl [Ho0']
    · iapply (written0 X d L (X.o0 d) (tile_body.sl.dma0_1 X d L) rfl); iexact Ho0'
    · iapply (written1 X d L (X.o1 d) (tile_body.sl.dma0_3 X d L) rfl); iexact Ho1'
  isplitl [Hn' Hr' Hbufs]
  · isplitl [Hr']; · iexists _; iexact Hr'
    isplitl [Hn']; · iexists _; iexact Hn'
    iexact Hbufs
  isplitl [HsG HsA HsB HsC HsE Hsems]
  · isplitl [HsG]; · iexact HsG
    isplitl [HsA]; · iexact HsA
    isplitl [HsB]; · iexact HsB
    isplitl [HsC]; · iexact HsC
    isplitl [HsE]; · iexact HsE
    iexact Hsems
  iexists _; isplitr
  swap; · iexact HO
  ipureintro; intro p hp
  simp only [Finset.mem_insert] at hp
  rcases hp with hp | hp | hp | hp | hp | hp | hp
  all_goals first | exact .inl hp | exact .inr (hp ▸ rfl)

end Cert.Proof.Undisp

end
-- ==== Proof.Obl.lean ====
/-
  The undispatch call's obligation at every tile, and the launch element of the certificate's ghost state.
-/
module

public import proofs.«01_k».proof.Proof.Tile
public import Idealize.ShloMosaic.Lib.Pipeline.Sound

@[expose] public section

noncomputable section

namespace Cert.Proof.Undisp

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The grid point of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The kernel's body on a vector subcore is the task at its grid point. -/
theorem defs₀_vector (c : Fin τ.nSC) (s : Fin τ.nSub) :
    defs₀ (F := F) (.scVector c s) 1 ()
      = SparseCore.onTile hcore1 hsub1 (fun c s => cc1__k7_sc (coordsV c s)
          (Memref.whole main_v3_scv) (Memref.isWhole_whole _) (Memref.whole main_v12_scv) (Memref.isWhole_whole _)
          (Memref.whole main_v19_scv) (Memref.isWhole_whole _) (Memref.whole main_v20_0_scv) (Memref.isWhole_whole _)
          (Memref.whole main_v20_1_scv) (Memref.isWhole_whole _) (Memref.whole cc1_scratch0) (Memref.isWhole_whole _)
          (Memref.whole cc1_scratch1) (Memref.isWhole_whole _) cc1_scratch2 cc1_scoped0 cc1_scoped1 cc1_scoped2 cc1_scoped3) ⟨⟩ c s := rfl

omit [FloatOps F] in
/-- Waits recorded at no call are allowed beside those at this call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task. -/
theorem tileObl (X : Opnds F) (hF : (K (F := F)).Facts) (hok : X.Ok) : (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) hF hok O W hO).trans (wp_mono frame _ _ fun _ => obl_post)

/-! ## The launch element -/

variable (adm : (p : Fin 2) → (pcfgs (F := F) p).Adm)

/-- The pipelines at their tables. -/
abbrev pcs : Fin 2 → Pipeline.Cfg sig Λ₀ := Pipeline.pin (pcfgs (F := F)) adm

/-- The handshakes' tokens, the pipelines' tokens, no counter. -/
def u₀ : UU := (initOf (K (F := F)).hsCells (K (F := F)).hsToks,
  (initOf (Pipeline.cells (pcs adm) (cellOf_inj adm)) (Pipeline.launchToks (pcs adm) (cellOf_inj adm)), 1))

/-- What @main on device `d` is dealt for a pipelined call: the call's cells and tokens. -/
abbrev G (p : Fin 2) (d : Dev nD) : sProp 𝕄 :=
  iprop(Pipeline.cellsGhost (pcs adm) (EP (F := F)) p d ∗ Pipeline.toksInit (pcs adm) (EP (F := F)) p d)

omit [FloatOps F] in
theorem bigSep_emp' {I : Type} (s : Finset I) : (bigSep s fun _ => iprop(emp)) = (iprop(emp) : sProp 𝕄) := bigSep_emp_const s

/-- The launch element dealt: the handshakes' to the launch, the pipelines' to @main on every device. -/
theorem hu₀ (X : Opnds F) : (ownU (u₀ adm) : sProp 𝕄)
    ⊢ |={Set.univ}=> iprop(BI.own (EH (initOf (K (F := F)).hsCells (K (F := F)).hsToks)) ∗ (bigSep Finset.univ fun d : Dev nD => iprop(G adm 0 d ∗ G adm 1 d))
        ∗ bigSep Finset.univ fun thr : Thread nD τ => bigSep Finset.univ fun q : Fin 1 => (P X).x q thr) := by
  unfold u₀
  iintro Hu
  ihave H := (ownU_pair (initOf (K (F := F)).hsCells (K (F := F)).hsToks)
    ((initOf (Pipeline.cells (pcs adm) (cellOf_inj adm)) (Pipeline.launchToks (pcs adm) (cellOf_inj adm)), 1) : UPipe)) $$ Hu
  icases H with ⟨HH, HR⟩
  ihave HR' := (own_pair_emb (embR : Emb UPipe 𝕄) (initOf (Pipeline.cells (pcs adm) (cellOf_inj adm)) (Pipeline.launchToks (pcs adm) (cellOf_inj adm))) (1 : Counters)) $$ HR
  icases HR' with ⟨HP, -⟩
  imod (Pipeline.fund_ghost (pcs adm) (EP (F := F)) (cellOf_inj adm)) $$ HP with ⟨Hg, Ht⟩
  imodintro
  isplitl [HH]; · iexact HH
  have two (Φ : Fin 2 → sProp 𝕄) : (bigSep Finset.univ Φ : sProp 𝕄) = iprop(Φ 0 ∗ Φ 1) := by
    rw [show (Finset.univ : Finset (Fin 2)) = insert 0 {1} from by decide, SparseCore.bigSep_insert' (by decide), bigSep_singleton]
  isplitl [Hg Ht]
  · simp only [bigSep_sep', two]
    icases Hg with ⟨Hg0, Hg1⟩
    icases Ht with ⟨Ht0, Ht1⟩
    isplitl [Hg0 Ht0]
    · isplitl [Hg0] <;> iassumption
    · isplitl [Hg1] <;> iassumption
  rw [show (bigSep Finset.univ fun thr : Thread nD τ => bigSep Finset.univ fun q : Fin 1 => (P (F := F) X).x q thr) = bigSep Finset.univ fun _ => iprop(emp) from
    bigSep_congr fun _ _ => bigSep_univ_of_subsingleton (0 : Fin 1), bigSep_emp']
  iempintro

end Cert.Proof.Undisp

end
-- ==== Proof.Expert.lean ====
/-
  The expert kernel on the TensorCore, at any table: its body at a point whose entry is an expert and at one whose entry
  is negative, what the pipeline over it leaves in the blocks of the former, and its region of @main.
-/
module

public import proofs.«01_k».proof.Proof.Base
public import Idealize.ShloMosaic.Lib.Pipeline.Regions
public import Idealize.ShloMosaic.Lib.Pipeline.DatRel
public import Idealize.ShloMosaic.Lib.Pipeline.ArrRel
public import Idealize.ShloMosaic.Lib.Pipeline.ValueKit
public import Idealize.ShloMosaic.Lib.VecWindow

@[expose] public section

set_option maxRecDepth 16384

noncomputable section

namespace Cert.Proof.Undisp

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat Cfg Window BodyObligationRel)

variable {F : FTy → Type} [FloatOps F] [∀ e, Nonempty (Elt F e)]

local notation "𝕄" => MT nD τ sig (HIx 1) (Elt F) ℕ UU ℕ

/-! ## The table -/

/-- The entry of a grid point. -/
def entry (i : grid0.Coords) : S40.Idx := ix1 (n0 := 40) (i 0)

/-- The table as the one prefetched operand. -/
def tab (T : S40.Idx → BitVec 32) : pre0.Contents (Elt F) := fun | ⟨0, _⟩ => T | ⟨_ + 1, h⟩ => absurd h (by simp)

omit [FloatOps F] in
theorem entry_eq (i : grid0.Coords) (x : S1.Idx) :
    (Rect.unit (s := S40) (k0_off1 i) S1.size (k0_off1_inb i)).emb x = entry i := by
  funext a
  apply Fin.ext
  have ha : a = 0 := Subsingleton.elim (α := Fin 1) _ _
  subst ha
  have hx : (x 0).val = 0 := by have := (x 0).isLt; change _ < 1 at this; omega
  have e := congrFun (k0_off1_eq i) 0
  change k0_off1 i 0 = (i 0).val at e
  rw [Rect.emb_apply]
  change k0_off1 i 0 + 1 * (x 0).val = (i 0).val
  omega

variable (T : S40.Idx → BitVec 32)

/-- The word a point finds in the table. -/
theorem word_eq (i : grid0.Coords) :
    (tab (F := F) T).at 0 (Rect.unit (s := S40) (k0_off1 i) S1.size (k0_off1_inb i)) numel1_S1 = T (entry i) :=
  congrArg T (entry_eq i _)

/-- Every entry is negative or names an expert: its larger with 0 does. -/
def TableOk : Prop := ∀ j, (Scalar.maxsi (T j) 0#32).toNat < 8

variable (hT : TableOk T)
include hT

theorem tr1_eq (i : grid0.Coords) : cc0_transform_1 k0_off1_inb numel1_S1 (tab (F := F) T) i = ![(Scalar.maxsi (T (entry i)) 0#32).toNat, 0, 0] := by
  rw [← word_eq (F := F) T i]
  rfl
theorem tr2_eq (i : grid0.Coords) : cc0_transform_2 k0_off1_inb numel1_S1 (tab (F := F) T) i = ![(Scalar.maxsi (T (entry i)) 0#32).toNat, 0, 0] := by
  rw [← word_eq (F := F) T i]
  rfl

/-- Every block is inside its array. -/
theorem ok_tab : ok0 (F := F) (tab T) := by
  have h := hT
  refine ⟨fun i => ⟨fun a => ?_, .inl rfl⟩, fun i => ⟨fun a => ?_, .inl rfl⟩⟩
  · rw [tr1_eq T hT i]
    have := h (entry i)
    fin_cases a
    · show ((Scalar.maxsi (T (entry i)) 0#32).toNat + 1) * 1 ≤ 8
      omega
    · show (0 + 1) * 1024 ≤ 1024
      omega
    · show (0 + 1) * 2048 ≤ 2048
      omega
  · rw [tr2_eq T hT i]
    have := h (entry i)
    fin_cases a
    · show ((Scalar.maxsi (T (entry i)) 0#32).toNat + 1) * 1 ≤ 8
      omega
    · show (0 + 1) * 2048 ≤ 2048
      omega
    · show (0 + 1) * 1024 ≤ 1024
      omega

/-- The table as contents the pipeline runs at, and the pipeline at them. -/
def adm0 : (pcfg0 (F := F)).Adm := ⟨tab T, ok_tab T hT⟩
omit hT
abbrev cfgA (a : (pcfg0 (F := F)).Adm) : Cfg sig Λ₀ := cfg0 (F := F) a

/-! ## The body -/

abbrev tbl : Memref sig .tc .smem S40 .i32 := Memref.whole main_arg1

omit [FloatOps F] [∀ e, Nonempty (Elt F e)] in
theorem ent_of_eq {P Q : sProp 𝕄} (h : P = Q) : P ⊢ Q := h ▸ .rfl

/-- A point whose entry names an expert: the three blocks read, the fourth left at the expert's product, the table only looked at. -/
theorem expert_body (c : Dev nD) (i : grid0.Coords)
    (M0 : Memref sig .tc .vmem S128x1024 .f32) (h0 : M0.IsWhole) (M1 : Memref sig .tc .vmem S1x1024x2048 .f32) (h1 : M1.IsWhole)
    (M2 : Memref sig .tc .vmem S1x2048x1024 .f32) (h2 : M2.IsWhole) (M3 : Memref sig .tc .vmem S128x1024 .f32) (h3 : M3.IsWhole)
    (X0 : S128x1024.Idx → Elt F .f32) (X1 : S1x1024x2048.Idx → Elt F .f32) (X2 : S1x2048x1024.Idx → Elt F .f32) (X3 : S128x1024.Idx → Elt F .f32)
    (hc : k0_cond1 (T (entry i)) = 1#1) (Q : PUnit → sProp 𝕄) :
    iprop(owns (c : Thread nD τ) M0 fullShare X0 ∗ owns (c : Thread nD τ) M1 fullShare X1 ∗ owns (c : Thread nD τ) M2 fullShare X2
        ∗ (tbl.view.loc (c : Thread nD τ) ↦{fullShare} T) ∗ owns (c : Thread nD τ) M3 fullShare X3
        ∗ (iprop(owns (c : Thread nD τ) M0 fullShare X0 ∗ owns (c : Thread nD τ) M1 fullShare X1 ∗ owns (c : Thread nD τ) M2 fullShare X2
            ∗ (tbl.view.loc (c : Thread nD τ) ↦{fullShare} T) ∗ owns (c : Thread nD τ) M3 fullShare (k0_pay1 X0 X1 X2)) -∗ Q ⟨⟩))
      ⊢ wp frame (wpE (defs₀ (F := F)) Variants.none (c : Thread nD τ) none) Set.univ
          (cc0__k6_body i tbl (Memref.isWhole_whole _) M0 h0 M1 h1 M2 h2 M3 h3) Q := by
  have k0_h1 : k0_cond1 (View.readAt (Elt F) tbl.view (Rect.unit (s := S40) (k0_off1 i) S1.size (k0_off1_inb i)).toLoadRect T
      (Shape.Idx.first (numel1_S1.symm ▸ Nat.one_pos))) = 1#1 := by
    rw [← hc]
    exact congrArg (fun j => k0_cond1 (T j)) (entry_eq i _)
  rw [cc0__k6_body_eq_skeleton]; unfold cc0__k6_body_skel
  unfold owns
  rw [h0.set_eq_univ, h1.set_eq_univ, h2.set_eq_univ, h3.set_eq_univ]
  iintro ⟨⟨%f0, %e0, H0⟩, ⟨%f1, %e1, H1⟩, ⟨%f2, %e2, H2⟩, HT, ⟨%f3, %e3, H3⟩, Hk⟩
  subst e0 e1 e2
  have hT0 : tbl.IsWhole := Memref.isWhole_whole _
  sl_exec (disch := first | (guard_target = k0_cond1 _ = _; exact k0_h1))
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [HT]; · iexact HT
  iexists _; isplitr; swap; · iexact H3
  ipureintro
  rw [View.read_writes_full]
  rw [View.readAt_full M0.view f0, View.readAt_full M1.view f1, View.readAt_full M2.view f2]

/-- A point whose entry does not: the table looked at, nothing else touched. -/
theorem skip_body (c : Dev nD) (i : grid0.Coords)
    (M0 : Memref sig .tc .vmem S128x1024 .f32) (h0 : M0.IsWhole) (M1 : Memref sig .tc .vmem S1x1024x2048 .f32) (h1 : M1.IsWhole)
    (M2 : Memref sig .tc .vmem S1x2048x1024 .f32) (h2 : M2.IsWhole) (M3 : Memref sig .tc .vmem S128x1024 .f32) (h3 : M3.IsWhole)
    (hc : ¬ k0_cond1 (T (entry i)) = 1#1) (Q : PUnit → sProp 𝕄) :
    iprop((tbl.view.loc (c : Thread nD τ) ↦{fullShare} T) ∗ (iprop(tbl.view.loc (c : Thread nD τ) ↦{fullShare} T) -∗ Q ⟨⟩))
      ⊢ wp frame (wpE (defs₀ (F := F)) Variants.none (c : Thread nD τ) none) Set.univ
          (cc0__k6_body i tbl (Memref.isWhole_whole _) M0 h0 M1 h1 M2 h2 M3 h3) Q := by
  have k0_h1 : ¬ k0_cond1 (View.readAt (Elt F) tbl.view (Rect.unit (s := S40) (k0_off1 i) S1.size (k0_off1_inb i)).toLoadRect T
      (Shape.Idx.first (numel1_S1.symm ▸ Nat.one_pos))) = 1#1 := fun h => hc <| by
    rw [← h]
    exact congrArg (fun j => k0_cond1 (T j)) (entry_eq i _).symm
  rw [cc0__k6_body_eq_skeleton]; unfold cc0__k6_body_skel
  iintro ⟨HT, Hk⟩
  have hT0 : tbl.IsWhole := Memref.isWhole_whole _
  sl_exec (disch := first | (guard_target = ¬ k0_cond1 _ = _; exact k0_h1))
  sl_step
  iapply Hk
  iexact HT

/-! ## The proof data, at the contents the region is entered with -/

variable (V : (c : Dev nD) → (b : Ref sig .tc) → Buf (Elt F) ((c : Thread nD τ).loc b)) (b : ℕ) (O : Dev nD → CellTallies nD τ sig (HIx 1))
variable (a : (pcfg0 (F := F)).Adm)

/-- Window `w`'s block at point `t` of its array's contents. -/
abbrev blkX (c : Dev nD) (w : Fin 4) (t : Fin (cfgA a).N) :
    (((cfgA a).win w).xblock ((cfgA a).grid.coords t)).Idx → Elt F ((cfgA a).win w).elt :=
  (((cfgA a).win w).blk t).view.read (Elt F) (V c (Pipeline.arrRef spec0 w))

/-- The inputs' buffers are left as fetched, the result's, where it is stored, at the expert's product of the three blocks;
    the core owes `O` throughout, and the waits it has recorded stay below the bound `b`. -/
def datX (c : Dev nD) : Dat τ (Elt F) (HIx 1) ℕ UU ℕ (cfgA a) c where
  A w := V c (Pipeline.arrRef spec0 w)
  after w t := match w with
    | ⟨0, _⟩ => blkX V a c 0 t
    | ⟨1, _⟩ => blkX V a c 1 t
    | ⟨2, _⟩ => blkX V a c 2 t
    | ⟨3, _⟩ => k0_pay1 (blkX V a c 0 t) (blkX V a c 1 t) (blkX V a c 2 t)
  Φ _ := iprop((tbl.view.loc (c : Thread nD τ) ↦{fullShare} a.1 0)
    ∗ Pipeline.scopedRest (Ix := HIx 1) (Name := ℕ) (U := UU) (Lvl := ℕ) (Val := Elt F) spec0 c)
  q _ := fullShare
  owed _ := O c
  recorded _ := {p | (K (F := F)).lev ((c : Thread nD τ), p.1) p.2 ≤ b}

/-- The result's window is the one of which only this is said: -/
abbrev fgt : Fin 4 → Bool := fun | 0 => false | 1 => false | 2 => false | 3 => true

/-- where a point's entry names an expert, its block is left at the product. -/
def rel (c : Dev nD) : (w : Fin (cfgA a).W) → Fin (cfgA a).N → (((cfgA a).win w).block.Idx → Elt F ((cfgA a).win w).elt) → Prop
  | ⟨3, _⟩ => fun t X => k0_cond1 (a.1 0 (entry ((cfgA a).grid.coords t))) = 1#1 → X = k0_pay1 (blkX V a c 0 t) (blkX V a c 1 t) (blkX V a c 2 t)
  | _ => fun _ _ => True

/-- Every input's buffer holds its block when the body runs, fetched at that point or before. -/
theorem beforeX_0 (c : Dev nD) (t : Fin (cfgA a).N) (d) : (datX V b O a c).before 0 t d = blkX V a c 0 t :=
  ((datX V b O a c).before_in_eq_fetched 0 rfl (fun _ => rfl) (fun _ _ _ => rfl) (fun t => by rw [show (datX V b O a c).after 0 t = blkX V a c 0 t from rfl]; unfold Dat.blockOf; rfl) t d).trans
    (by unfold Dat.fetched Dat.blockOf; rfl)
theorem beforeX_1 (c : Dev nD) (t : Fin (cfgA a).N) (d) : (datX V b O a c).before 1 t d = blkX V a c 1 t :=
  ((datX V b O a c).before_in_eq_fetched 1 rfl (fun _ => rfl) (fun _ _ _ => rfl) (fun t => by rw [show (datX V b O a c).after 1 t = blkX V a c 1 t from rfl]; unfold Dat.blockOf; rfl) t d).trans
    (by unfold Dat.fetched Dat.blockOf; rfl)
theorem beforeX_2 (c : Dev nD) (t : Fin (cfgA a).N) (d) : (datX V b O a c).before 2 t d = blkX V a c 2 t :=
  ((datX V b O a c).before_in_eq_fetched 2 rfl (fun _ => rfl) (fun _ _ _ => rfl) (fun t => by rw [show (datX V b O a c).after 2 t = blkX V a c 2 t from rfl]; unfold Dat.blockOf; rfl) t d).trans
    (by unfold Dat.fetched Dat.blockOf; rfl)

/-- The body's obligation at every point. -/
theorem obligationX (c : Dev nD) :
    BodyObligationRel (datX V b O a c) (defs₀ (F := F)) 𝒱₀ (none : HIx 1) Set.univ fgt (rel V a c) := fun t => by
  rw [bigSep_W0, bigSep_W0]
  rw [show (datX V b O a c).Φ t.succ = (datX V b O a c).Φ t.castSucc from rfl,
    show (datX V b O a c).Φ t.castSucc = iprop((tbl.view.loc (c : Thread nD τ) ↦{fullShare} a.1 0)
      ∗ Pipeline.scopedRest (Ix := HIx 1) (Name := ℕ) (U := UU) (Lvl := ℕ) (Val := Elt F) spec0 c) from rfl,
    show (datX V b O a c).owesAt (none : HIx 1) t.succ = (datX V b O a c).owesAt (none : HIx 1) t.castSucc from rfl]
  iintro ⟨⟨HT, HR⟩, Howes, ⟨%d0, H0⟩, ⟨%d1, H1⟩, ⟨%d2, H2⟩, ⟨%Y3, -, H3⟩⟩
  ihave H0 := (ent_of_eq (congrArg (owns (c : Thread nD τ) (spec0_0.stage ((cfgA a).slots t 0)) fullShare) (beforeX_0 V b O a c t d0))) $$ H0
  ihave H1 := (ent_of_eq (congrArg (owns (c : Thread nD τ) (spec0_1.stage ((cfgA a).slots t 1)) fullShare) (beforeX_1 V b O a c t d1))) $$ H1
  ihave H2 := (ent_of_eq (congrArg (owns (c : Thread nD τ) (spec0_2.stage ((cfgA a).slots t 2)) fullShare) (beforeX_2 V b O a c t d2))) $$ H2
  by_cases hc : k0_cond1 (a.1 0 (entry ((cfgA a).grid.coords t))) = 1#1
  · iapply (expert_body (a.1 0) c ((cfgA a).grid.coords t) (spec0_0.stage ((cfgA a).slots t 0)) (hstage0_0 (((cfgA a).slots t 0).cast nbuf0_0))
      (spec0_1.stage ((cfgA a).slots t 1)) (hstage0_1 (((cfgA a).slots t 1).cast nbuf0_1))
      (spec0_2.stage ((cfgA a).slots t 2)) (hstage0_2 (((cfgA a).slots t 2).cast nbuf0_2))
      (spec0_3.stage ((cfgA a).slots t 3)) (hstage0_3 (((cfgA a).slots t 3).cast nbuf0_3))
      (blkX V a c 0 t) (blkX V a c 1 t) (blkX V a c 2 t) Y3 hc _)
    isplitl [H0]; · iexact H0
    isplitl [H1]; · iexact H1
    isplitl [H2]; · iexact H2
    isplitl [HT]; · iexact HT
    isplitl [H3]; · iexact H3
    iintro ⟨H0, H1, H2, HT, H3⟩
    isplitl [HT HR]
    · isplitl [HT] <;> iassumption
    isplitl [Howes]; · iexact Howes
    isplitl [H0]; · iexact H0
    isplitl [H1]; · iexact H1
    isplitl [H2]; · iexact H2
    iexists (k0_pay1 (blkX V a c 0 t) (blkX V a c 1 t) (blkX V a c 2 t))
    isplitr
    · ipureintro; exact fun _ => rfl
    iexact H3
  · iapply (skip_body (a.1 0) c ((cfgA a).grid.coords t) (spec0_0.stage ((cfgA a).slots t 0)) (hstage0_0 (((cfgA a).slots t 0).cast nbuf0_0))
      (spec0_1.stage ((cfgA a).slots t 1)) (hstage0_1 (((cfgA a).slots t 1).cast nbuf0_1))
      (spec0_2.stage ((cfgA a).slots t 2)) (hstage0_2 (((cfgA a).slots t 2).cast nbuf0_2))
      (spec0_3.stage ((cfgA a).slots t 3)) (hstage0_3 (((cfgA a).slots t 3).cast nbuf0_3)) hc _)
    isplitl [HT]; · iexact HT
    iintro HT
    isplitl [HT HR]
    · isplitl [HT] <;> iassumption
    isplitl [Howes]; · iexact Howes
    isplitl [H0]; · iexact H0
    isplitl [H1]; · iexact H1
    isplitl [H2]; · iexact H2
    iexists Y3
    isplitr
    · ipureintro; exact fun h => absurd h hc
    iexact H3

end Cert.Proof.Undisp

end
-- ==== Proof.Region.lean ====
/-
  The combine kernel on the TensorCore: its body at a symbolic grid point, what the pipeline over it leaves in the
  result's array, and its region of @main.
-/
module

public import proofs.«01_k».proof.Proof.Expert
public import Idealize.ShloMosaic.Lib.Pipeline.Regions
public import Idealize.ShloMosaic.Lib.Pipeline.ValueKit
public import Idealize.ShloMosaic.Lib.VecWindow

@[expose] public section

noncomputable section

namespace Cert.Proof.Undisp

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F] [∀ e, Nonempty (Elt F e)]

local notation "𝕄" => MT nD τ sig (HIx 1) (Elt F) ℕ UU ℕ

/-! ## The body -/

/-- One point of the combine kernel: the five blocks read, the sixth left at their combination. -/
theorem combine_body (c : Dev nD) (i : grid2.Coords)
    (M0 : Memref sig .tc .vmem S256x1024 .f32) (h0 : M0.IsWhole) (M1 : Memref sig .tc .vmem S256x1024 .f32) (h1 : M1.IsWhole)
    (M2 : Memref sig .tc .vmem S256x1024 .f32) (h2 : M2.IsWhole) (M3 : Memref sig .tc .vmem S256x1 .f32) (h3 : M3.IsWhole)
    (M4 : Memref sig .tc .vmem S256x1 .f32) (h4 : M4.IsWhole) (M5 : Memref sig .tc .vmem S256x1024 .f32) (h5 : M5.IsWhole)
    (X0 X1 X2 : S256x1024.Idx → Elt F .f32) (X3 X4 : S256x1.Idx → Elt F .f32) (X5 : S256x1024.Idx → Elt F .f32) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ (iprop(owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4
            ∗ owns (c : Thread nD τ) M5 fullShare (k2_pay1 X0 X3 X1 X4 X2)) -∗ Q ⟨⟩))
      ⊢ wp frame (wpE (defs₀ (F := F)) Variants.none (c : Thread nD τ) none) Set.univ
          (cc2__k8_body i M0 h0 M1 h1 M2 h2 M3 h3 M4 h4 M5 h5) Q := by
  simp only [cc2__k8_body_eq_skeleton]; unfold cc2__k8_body_skel
  unfold owns
  rw [h0.set_eq_univ, h1.set_eq_univ, h2.set_eq_univ, h3.set_eq_univ, h4.set_eq_univ, h5.set_eq_univ]
  iintro ⟨⟨%f0, %e0, H0⟩, ⟨%f1, %e1, H1⟩, ⟨%f2, %e2, H2⟩, ⟨%f3, %e3, H3⟩, ⟨%f4, %e4, H4⟩, ⟨%f5, %e5, H5⟩, Hk⟩
  subst e0 e1 e2 e3 e4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr; swap; · iexact H5
  ipureintro
  rw [View.read_writes_full]
  rw [View.readAt_full M0.view f0, View.readAt_full M1.view f1, View.readAt_full M2.view f2, View.readAt_full M3.view f3, View.readAt_full M4.view f4]

/-! ## The proof data, at the contents the region is entered with -/

variable (V : (c : Dev nD) → (b : Ref sig .tc) → Buf (Elt F) ((c : Thread nD τ).loc b)) (b : ℕ)

/-- Window `w`'s block at point `t` of its array's contents. -/
abbrev iblk (c : Dev nD) (w : Fin 6) (t : Fin cfg2.N) : ((cfg2.win w).xblock (cfg2.grid.coords t)).Idx → Elt F (cfg2.win w).elt :=
  ((cfg2.win w).blk t).view.read (Elt F) (V c (Pipeline.arrRef spec2 w))

/-- The inputs' buffers are left as fetched, the result's at the combination of the five blocks; the core owes nothing,
    and the waits it has recorded stay below the bound `b`. -/
def dat (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k2_pay1 (iblk V c 0 t) (iblk V c 3 t) (iblk V c 1 t) (iblk V c 4 t) (iblk V c 2 t)
  Φ _ := Pipeline.scopedRest (Ix := HIx 1) (Name := ℕ) (U := UU) (Lvl := ℕ) (Val := Elt F) spec2 c
  q _ := fullShare
  owed _ := 0
  recorded _ := {p | (K (F := F)).lev ((c : Thread nD τ), p.1) p.2 ≤ b}

variable (adm : (p : Fin 2) → (pcfgs (F := F) p).Adm)

/-- The same as the family over the program's two pipelines, the other's not looked at. -/
def pdats : (p : Fin 2) → (c : Dev nD) → Dat τ (Elt F) (HIx 1) ℕ UU ℕ (Pipeline.pin (pcfgs (F := F)) adm p) c
  | ⟨0, _⟩ => fun c => datX V b (fun _ => 0) (adm 0) c
  | ⟨1, _⟩ => fun c => dat V b c
  | ⟨_ + 2, h⟩ => absurd h (Nat.not_lt.2 (Nat.le_add_left _ _))

/-- Every input's buffer holds its block when the body runs. -/
theorem before_0 (c : Dev nD) (t : Fin cfg2.N) (x) : (dat V b c).before 0 t x = iblk V c 0 t := (dat V b c).before_fetched 0 t (fetch2_0 t) x
theorem before_1 (c : Dev nD) (t : Fin cfg2.N) (x) : (dat V b c).before 1 t x = iblk V c 1 t := (dat V b c).before_fetched 1 t (fetch2_1 t) x
theorem before_2 (c : Dev nD) (t : Fin cfg2.N) (x) : (dat V b c).before 2 t x = iblk V c 2 t := (dat V b c).before_fetched 2 t (fetch2_2 t) x
theorem before_3 (c : Dev nD) (t : Fin cfg2.N) (x) : (dat V b c).before 3 t x = iblk V c 3 t := (dat V b c).before_fetched 3 t (fetch2_3 t) x
theorem before_4 (c : Dev nD) (t : Fin cfg2.N) (x) : (dat V b c).before 4 t x = iblk V c 4 t := (dat V b c).before_fetched 4 t (fetch2_4 t) x

/-- The body's obligation at every point. -/
theorem body_obligation (c : Dev nD) : BodyObligation (dat V b c) (defs₀ (F := F)) 𝒱₀ (none : HIx 1) Set.univ := fun t => by
  rw [bigSep_W2, bigSep_W2]
  rw [show (dat V b c).Φ t.succ = (dat V b c).Φ t.castSucc from rfl,
    show (dat V b c).owesAt (none : HIx 1) t.succ = (dat V b c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩⟩
  simp only [before_0, before_1, before_2, before_3, before_4]
  iapply (combine_body c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3))
    (st2_4 t) (hstage2_4 ((cfg2.slots t 4).cast nbuf2_4)) (st2_5 t) (hstage2_5 ((cfg2.slots t 5).cast nbuf2_5))
    (iblk V c 0 t) (iblk V c 1 t) (iblk V c 2 t) (iblk V c 3 t) (iblk V c 4 t) ((dat V b c).before 5 t d5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-! ## What the region leaves in the result's array -/

/-- A token's entry in a column of gates. -/
def gateAt (j : S2048x1024.Idx) : S2048x1.Idx :=
  fun | 0 => j 0 | 1 => ⟨0, by decide⟩ | ⟨_ + 2, h⟩ => absurd h (Nat.not_lt.2 (Nat.le_add_left _ _))

/-- The residual input and the two gathered rows of every token, each scaled by its gate, in the kernel's order. -/
def combined (x y0 y1 : S2048x1024.Idx → Elt F .f32) (g0 g1 : S2048x1.Idx → Elt F .f32) : S2048x1024.Idx → Elt F .f32 :=
  fun j => FloatOps.addf (FloatOps.addf (x j) (FloatOps.mulf (g0 (gateAt j)) (y0 j))) (FloatOps.mulf (g1 (gateAt j)) (y1 j))

/-- A block's row, in a column of gates' block. -/
def rowGate (y : S256x1024.Idx) : S256x1.Idx :=
  fun | 0 => y 0 | 1 => ⟨0, by decide⟩ | ⟨_ + 2, h⟩ => absurd h (Nat.not_lt.2 (Nat.le_add_left _ _))

/-- The combination of five blocks, at an index. -/
theorem pay_apply (v0 : S256x1024.Idx → Elt F .f32) (v1 : S256x1.Idx → Elt F .f32) (v2 : S256x1024.Idx → Elt F .f32)
    (v7 : S256x1.Idx → Elt F .f32) (v8 : S256x1024.Idx → Elt F .f32) (y : S256x1024.Idx) :
    k2_pay1 v0 v1 v2 v7 v8 y = FloatOps.addf (FloatOps.addf (v0 y) (FloatOps.mulf (v1 (rowGate y)) (v2 y))) (FloatOps.mulf (v7 (rowGate y)) (v8 y)) := by
  have hb : ∀ v : S256x1.Idx → Elt F .f32, broadcastTo S256x1024 v broadcasts_S256x1_S256x1024 y = v (rowGate y) := fun v =>
    broadcastTo_apply v _ y (rowGate y) fun a => match a with | 0 => rfl | 1 => rfl
  unfold k2_pay1
  simp only [shapeCast_self]
  show FloatOps.addf (FloatOps.addf (v0 y) (FloatOps.mulf (broadcastTo S256x1024 v1 broadcasts_S256x1_S256x1024 y) (v2 y)))
    (FloatOps.mulf (broadcastTo S256x1024 v7 broadcasts_S256x1_S256x1024 y) (v8 y)) = _
  rw [hb, hb]

/-- Point `t`'s blocks all begin at row `256 * t`. -/
theorem index_0 : ∀ t : Fin cfg2.N, win2_0.index t = ![(grid2.coords t 0).val, 0] := (by decide +kernel : ∀ t : Fin grid2.N, _)
theorem index_1 : ∀ t : Fin cfg2.N, win2_1.index t = ![(grid2.coords t 0).val, 0] := (by decide +kernel : ∀ t : Fin grid2.N, _)
theorem index_2 : ∀ t : Fin cfg2.N, win2_2.index t = ![(grid2.coords t 0).val, 0] := (by decide +kernel : ∀ t : Fin grid2.N, _)
theorem index_3 : ∀ t : Fin cfg2.N, win2_3.index t = ![(grid2.coords t 0).val, 0] := (by decide +kernel : ∀ t : Fin grid2.N, _)
theorem index_4 : ∀ t : Fin cfg2.N, win2_4.index t = ![(grid2.coords t 0).val, 0] := (by decide +kernel : ∀ t : Fin grid2.N, _)
theorem index_5 : ∀ t : Fin cfg2.N, win2_5.index t = ![(grid2.coords t 0).val, 0] := (by decide +kernel : ∀ t : Fin grid2.N, _)

/-- The region leaves the result's array at the combination of the five arrays. -/
theorem arrAt_out (c : Dev nD) : (dat V b c).arrAt 5 cfg2.N
    = combined (V c main_arg0) (V c main_v21) (V c main_v22) (V c main_arg7) (V c main_arg8) := by
  refine (dat V b c).arrAt_eq_of_covers 5 _ (by decide +kernel) fun t hf y => ?_
  blk_simp
  rw [show (dat V b c).after 5 t y = k2_pay1 (iblk V c 0 t) (iblk V c 3 t) (iblk V c 1 t) (iblk V c 4 t) (iblk V c 2 t) y from rfl, pay_apply]
  unfold combined
  have e0 : (win2_0.blk t).view.emb y = (win2_5.blk t).view.emb y := by blk_ext [index_0, index_5]
  have e1 : (win2_1.blk t).view.emb y = (win2_5.blk t).view.emb y := by blk_ext [index_1, index_5]
  have e2 : (win2_2.blk t).view.emb y = (win2_5.blk t).view.emb y := by blk_ext [index_2, index_5]
  have e3 : (win2_3.blk t).view.emb (rowGate y) = gateAt ((win2_5.blk t).view.emb y) := by blk_ext [index_3, index_5, rowGate, gateAt]
  have e4 : (win2_4.blk t).view.emb (rowGate y) = gateAt ((win2_5.blk t).view.emb y) := by blk_ext [index_4, index_5, rowGate, gateAt]
  show FloatOps.addf (FloatOps.addf (V c main_arg0 ((win2_0.blk t).view.emb y)) (FloatOps.mulf (V c main_arg7 ((win2_3.blk t).view.emb (rowGate y))) (V c main_v21 ((win2_1.blk t).view.emb y))))
    (FloatOps.mulf (V c main_arg8 ((win2_4.blk t).view.emb (rowGate y))) (V c main_v22 ((win2_2.blk t).view.emb y))) = _
  rw [e0, e1, e2, e3, e4]

/-! ## The region of @main -/

/-- The TensorCore's arrays that @main's host code reads and writes. -/
def ucRefs : Finset (DevRef τ sig) := (StableHlo.tcRefs τ sig).filter fun b => ¬ b.isScoped

/-- Those arrays at a valuation are the launch's unscoped buffers at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- What the core owes and has waited for, before and after the region. -/
abbrev owesBelow (c : Dev nD) : sProp 𝕄 :=
  iprop(∃ W, ⌜(K (F := F)).WBelow (c : Thread nD τ) W b⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The combine region: from the arrays at `V` to the arrays at `Vp`, which is `V` with the combination in the result's. -/
def reg (hVp_out : ∀ c, Vp c main_v23 = combined (V c main_arg0) (V c main_v21) (V c main_v22) (V c main_arg7) (V c main_arg8))
    (hVp_ne : ∀ c (r : Ref sig .tc), r ≠ main_v23 → Vp c r = V c r) :
    Pipeline.RegionSeg (pcfgs (F := F)) adm (pdats V b adm) (none : HIx 1) defs₀ 𝒱₀ (K (F := F)).L (K (F := F)).lev 1 where
  win := (launch2 (F := F)).win.to₀
  block_pos := (launch2 (F := F)).block_pos
  stage_whole := (launch2 (F := F)).stage_whole
  K := PEmpty
  osem k := k.elim
  ho := Pipeline.OwnSemFacts.none _
  hbody c := (body_obligation V b c).loose
  hwaits := Pipeline.hwaits_of_owed_zero _ _ _ _ (K (F := F)).L (K (F := F)).lev 1 fun _ _ => rfl
  pre c := iprop(unscopedBufs c (V c) ∗ owesBelow b c)
  post c := iprop(unscopedBufs c (Vp c) ∗ owesBelow b c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V b adm) (launch2 (F := F)).win (launch2 (F := F)).arr_whole c
      ((pdats V b adm 1 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V b adm 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V b adm 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2 (F := F)).win (launch2 (F := F)).arr_whole c
      (pdats V b adm) ((pdats V b adm 1 c).share_full fun _ => rfl) (V c) (Vp c) ((pdats V b adm 1 c).arrAt · cfg2.N)
      (fun w => by
        fin_cases w
        · exact ((pdats V b adm 1 c).arrAt_in 0 rfl _).trans (hVp_ne c main_arg0 (by decide)).symm
        · exact ((pdats V b adm 1 c).arrAt_in 1 rfl _).trans (hVp_ne c main_v21 (by decide)).symm
        · exact ((pdats V b adm 1 c).arrAt_in 2 rfl _).trans (hVp_ne c main_v22 (by decide)).symm
        · exact ((pdats V b adm 1 c).arrAt_in 3 rfl _).trans (hVp_ne c main_arg7 (by decide)).symm
        · exact ((pdats V b adm 1 c).arrAt_in 4 rfl _).trans (hVp_ne c main_arg8 (by decide)).symm
        · exact (arrAt_out V b c).trans (hVp_out c).symm)
      (fun r hr => hVp_ne c r fun h => hr (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.Undisp

end
-- ==== Proof.ExpertRegion.lean ====
/-
  What the expert pipeline leaves in the result's array, and its region of @main.
-/
module

public import proofs.«01_k».proof.Proof.Region

@[expose] public section

set_option maxRecDepth 16384

noncomputable section

namespace Cert.Proof.Undisp

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat Cfg Window)

variable {F : FTy → Type} [FloatOps F] [∀ e, Nonempty (Elt F e)]

local notation "𝕄" => MT nD τ sig (HIx 1) (Elt F) ℕ UU ℕ

variable (V : (c : Dev nD) → (b : Ref sig .tc) → Buf (Elt F) ((c : Thread nD τ).loc b)) (b : ℕ) (O : Dev nD → CellTallies nD τ sig (HIx 1))

/-! ## What the pipeline leaves -/

section
variable (a : (pcfg0 (F := F)).Adm)

/-- The entry of a row's block. -/
def entryOf (j : S5120x1024.Idx) : S40.Idx := ix1 (n0 := 40) ⟨(j 0).val / 128, by have := (j 0).isLt; change _ < 5120 at this; omega⟩

/-- The point of a row's block, -/
def ptOf (j : S5120x1024.Idx) : Fin (cfgA a).N := ⟨(j 0).val / 128, by
  have := (j 0).isLt; change _ < 5120 at this
  have h : (cfgA a).N = 40 := N_0
  omega⟩

/-- and the row in it. -/
def inBlk (j : S5120x1024.Idx) : S128x1024.Idx := ix2 (n0 := 128) (n1 := 1024) ⟨(j 0).val % 128, Nat.mod_lt _ (by decide)⟩ (j 1)

/-- Every row through its expert, as the pipeline computes it. -/
def made (c : Dev nD) : S5120x1024.Idx → Elt F .f32 := fun j =>
  k0_pay1 (blkX V a c 0 (ptOf a j)) (blkX V a c 1 (ptOf a j)) (blkX V a c 2 (ptOf a j)) (inBlk j)

/-- An array that has that at every row whose entry names an expert. -/
def Made (c : Dev nD) (y : S5120x1024.Idx → Elt F .f32) : Prop :=
  ∀ j, k0_cond1 (a.1 0 (entryOf j)) = 1#1 → y j = made V a c j

theorem coords_val : ∀ t : Fin grid0.N, (grid0.coords t 0).val = t.val := by decide +kernel
theorem tr3_eq : ∀ i : grid0.Coords, cc0_transform_3 i = ![(i 0).val, 0] := by decide +kernel
theorem idxX_3 (t : Fin (cfgA a).N) : ((cfgA a).win 3).index t = ![(grid0.coords t 0).val, 0] := tr3_eq _

/-- The table of zeros: the result's window is the same at any table. -/
def zeros : (pcfg0 (F := Ideal)).Adm := adm0 (fun _ => 0#32) (fun _ => (by decide : (Scalar.maxsi 0#32 0#32).toNat < 8))

theorem coversX : ((cfgA a).win 3).Covers :=
  (by decide +kernel : ((cfgA zeros).win 3).Covers)

/-- The data of the expert pipeline, with its result's window so described. -/
abbrev rdatX (c : Dev nD) : RDat τ (Elt F) (HIx 1) ℕ UU ℕ (cfgA a) c := (datX V b O a c).toRRel fgt (rel V a c)

/-- The pipeline leaves such an array. -/
theorem made_of (c : Dev nD) (after : (w' : Fin (cfgA a).W) → Fin (cfgA a).N → ((cfgA a).win w').block.Idx → Elt F ((cfgA a).win w').elt)
    (h : ∀ u : Fin (cfgA a).N, ((cfgA a).win 3).flush u = true → (rdatX V b O a c).Leaves 3 u (after 3 u)) :
    Made V a c (((rdatX V b O a c).withAfter after).arrAt 3 (cfgA a).N) := by
  refine fun i => ((rdatX V b O a c).withAfter after).arrAt_forall_of_covers 3
    (fun (i : S5120x1024.Idx) (v : Elt F .f32) => k0_cond1 (a.1 0 (entryOf i)) = 1#1 → v = made V a c i) (coversX a) (fun t hf (y : S128x1024.Idx) => ?_) i
  have hy0 := (y 0).isLt
  change _ < 128 at hy0
  have ht0 : t.val < 40 := t.isLt
  have he : (((cfgA a).win 3).blk t).view.emb y = ix2 (n0 := 5120) (n1 := 1024) ⟨t.val * 128 + (y 0).val, by omega⟩ (y 1) := by
    have hv : (grid0.coords t 0).val = t.val := coords_val t
    blk_ext [idxX_3 a t, hv]
  rw [he]
  intro hc
  have ht : ptOf a (ix2 (n0 := 5120) (n1 := 1024) ⟨t.val * 128 + (y 0).val, by omega⟩ (y 1)) = t := Fin.ext (by
    show (t.val * 128 + (y 0).val) / 128 = t.val
    omega)
  have hb : inBlk (ix2 (n0 := 5120) (n1 := 1024) ⟨t.val * 128 + (y 0).val, by omega⟩ (y 1)) = y := by
    funext x
    match x with
    | 0 => exact Fin.ext (by
        show (t.val * 128 + (y 0).val) % 128 = (y 0).val
        omega)
    | 1 => rfl
  have hent : entryOf (ix2 (n0 := 5120) (n1 := 1024) ⟨t.val * 128 + (y 0).val, by omega⟩ (y 1)) = entry ((cfgA a).grid.coords t) := by
    funext x
    match x with
    | 0 => exact Fin.ext (by
        show (t.val * 128 + (y 0).val) / 128 = (grid0.coords t 0).val
        rw [coords_val]; omega)
  have hX : after 3 t = k0_pay1 (blkX V a c 0 t) (blkX V a c 1 t) (blkX V a c 2 t) :=
    (datX V b O a c).toRRel_leaves (fgt := fgt) (Rl := rel V a c) (w := 3) rfl (h t hf) (hent ▸ hc)
  unfold made
  rw [ht, hb]
  exact congrFun hX y
end

/-! ## The region of @main -/

variable (adm : (p : Fin 2) → (pcfgs (F := F) p).Adm)

/-- The family over the program's two pipelines, the other's not looked at. -/
def rdats : (p : Fin 2) → (c : Dev nD) → RDat τ (Elt F) (HIx 1) ℕ UU ℕ (Pipeline.pin (pcfgs (F := F)) adm p) c
  | ⟨0, _⟩ => fun c => rdatX V b O (adm 0) c
  | ⟨1, _⟩ => fun c => (dat V b c).toR
  | ⟨_ + 2, h⟩ => absurd h (Nat.not_lt.2 (Nat.le_add_left _ _))

/-- What the core owes and has waited for, before and after the region. -/
abbrev owesX (c : Dev nD) : sProp 𝕄 :=
  iprop(∃ W, ⌜(K (F := F)).WBelow (c : Thread nD τ) W b⌝ ∗ owes (c : Thread nD τ) (O c) W)

theorem prefHeldX (c : Dev nD) (q : PosShare TreeShare) (v : pre0.Contents (Elt F)) :
    (Pipeline.prefHeld (Ix := HIx 1) (Name := ℕ) (U := UU) (Lvl := ℕ) pre0 c (fun _ => q) v : sProp 𝕄)
      = iprop(tbl.view.loc (c : Thread nD τ) ↦{q} v 0) := by
  unfold Pipeline.prefHeld
  rw [show (Finset.univ : Finset (Fin 1)) = {(0 : Fin 1)} from by decide, bigSep_singleton]
  rfl

/-- The arrays after the pipeline, each at some contents it may then hold. -/
theorem arraysX (c : Dev nD) (n : ℕ) : ((rdatX V b O (adm 0) c).arraysAt n : sProp 𝕄)
    ⊢ iprop(∃ A, ⌜∀ w, (rdatX V b O (adm 0) c).ArrAt w n (A w)⌝ ∗ (rdatX V b O (adm 0) c).arrays A) := by
  unfold RDat.arraysAt RDat.arrays
  refine (BI.bigSep_exists_pi Finset.univ _).trans ?_
  iintro ⟨%A, H⟩
  ihave H' := (BI.bigSep_pure_sep Finset.univ (fun w => (rdatX V b O (adm 0) c).ArrAt w n (A w)) _) $$ H
  icases H' with ⟨%h, H⟩
  iexists A
  isplitr
  · ipureintro; exact fun w => h w (Finset.mem_univ w)
  iexact H

variable (Vp : (c : Dev nD) → (S5120x1024.Idx → Elt F .f32) → (b : Ref sig .tc) → Buf (Elt F) ((c : Thread nD τ).loc b))

set_option backward.isDefEq.respectTransparency.types false in
/-- The expert region: from the arrays at `V` to the arrays at `Vp`, which is `V` with some array so made in the result's. -/
def regX (hO : ∀ c (g : GSem nD τ sig) (i : HIx 1), 0 < O c g i → 0 < (K (F := F)).lev g i)
    (htab : ∀ c, V c main_arg1 = (adm 0).1 0)
    (hVp_out : ∀ c y, Vp c y main_v2 = y)
    (hVp_ne : ∀ c y (r : Ref sig .tc), r ≠ main_v2 → Vp c y r = V c r) :
    Pipeline.RDat.RegionSeg (pcfgs (F := F)) adm (rdats V b O adm) (none : HIx 1) defs₀ 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := (obligationX V b O (adm 0) c).toRRel
  hwaits c := Pipeline.RDat.cellsWaits_of_cut _ (rdats V b O adm) (none : HIx 1) 0 c 0 (O c) (fun _ => rfl) (fun _ _ => Finset.mem_univ _)
    (fun _ _ => le_rfl) fun g i h => ⟨Finset.mem_univ _, hO c g i h⟩
  pre c := iprop(unscopedBufs c (V c) ∗ owesX b O c)
  post c := iprop(∃ y, ⌜Made V (adm 0) c y⌝ ∗ unscopedBufs c (Vp c y) ∗ owesX b O c)
  X _ := BI.emp
  Y c := iprop(tbl.view.loc (c : Thread nD τ) ↦{fullShare} (adm 0).1 0)
  Z c := Pipeline.unscopedRestP (Ix := HIx 1) (Name := ℕ) (U := UU) (Lvl := ℕ) pre0 spec0 c (V c)
  hentry c := by
    rw [Pipeline.ownSems0_none]
    have hsplit := Pipeline.RDat.arrays_of_unscopedBufs (p := 0) (pcfgs (F := F)) adm (rdats V b O adm) (launch0 (F := F)).win (launch0 (F := F)).arr_whole c
      ((datX V b O (adm 0) c).share_full fun _ => rfl) (V c) fun _ => rfl
    have htbl := ent_of_eq (Pipeline.unscopedRest_split (Ix := HIx 1) (Name := ℕ) (U := UU) (Lvl := ℕ) (launch0 (F := F)).pre c (V c))
    have hpf : (Pipeline.prefHeld (Ix := HIx 1) (Name := ℕ) (U := UU) (Lvl := ℕ) pre0 c (fun _ => fullShare) (fun k => V c (pre0.ref k)) : sProp 𝕄)
        ⊢ Pipeline.prefHeld pre0 c (fun _ => fullShare) (adm 0).1 := by
      rw [prefHeldX, prefHeldX]
      exact ent_of_eq (congrArg (fun v : Buf (Elt F) (tbl.view.loc (c : Thread nD τ)) => (tbl.view.loc (c : Thread nD τ) ↦{fullShare} v : sProp 𝕄)) (htab c))
    iintro ⟨⟨Hub, %W, %hW, HO⟩, -, -⟩
    ihave H := hsplit $$ Hub
    icases H with ⟨Ha, Hrest⟩
    ihave H := htbl $$ Hrest
    icases H with ⟨Ht, Hrest⟩
    imodintro
    isplitl [Ha]; · iexact Ha
    isplitl [Ht]; · iapply hpf; iexact Ht
    isplitl [HO]
    · unfold Pipeline.RDat.owesAt Pipeline.owesWithin
      iexists W; isplitr; · ipureintro; exact fun p hp => Or.inl (hW p hp)
      iexact HO
    isplitr; · iempintro
    iexact Hrest
  hin c := by
    rw [show (rdats V b O adm 0 c).Φ 0 = iprop((tbl.view.loc (c : Thread nD τ) ↦{fullShare} (adm 0).1 0)
      ∗ Pipeline.scopedRest (Ix := HIx 1) (Name := ℕ) (U := UU) (Lvl := ℕ) (Val := Elt F) spec0 c) from rfl]
    have hpf := ent_of_eq (prefHeldX (F := F) c fullShare (adm 0).1)
    iintro ⟨-, Ht, Hr⟩
    isplitl [Ht]; · iapply hpf; iexact Ht
    iexact Hr
  hout c := by
    rw [Pipeline.ownSems0_none, show (rdats V b O adm 0 c).Φ (Fin.last _) = iprop((tbl.view.loc (c : Thread nD τ) ↦{fullShare} (adm 0).1 0)
      ∗ Pipeline.scopedRest (Ix := HIx 1) (Name := ℕ) (U := UU) (Lvl := ℕ) (Val := Elt F) spec0 c) from rfl]
    iintro ⟨Ht, Hr⟩
    isplitl [Ht]; · iexact Ht
    isplitr; · iempintro
    iexact Hr
  hexit c := by
    have hopen : ((rdats V b O adm 0 c).arraysAt (Pipeline.pin (pcfgs (F := F)) adm 0).N : sProp 𝕄) ⊢ _ :=
      arraysX V b O adm c (cfgA (adm 0)).N
    have hpf := ent_of_eq (prefHeldX (F := F) c fullShare (adm 0).1).symm
    have hpf' : (Pipeline.prefHeld (Ix := HIx 1) (Name := ℕ) (U := UU) (Lvl := ℕ) pre0 c (fun _ => fullShare) (adm 0).1 : sProp 𝕄)
        ⊢ Pipeline.prefHeld pre0 c (fun _ => fullShare) (fun k => V c (pre0.ref k)) := by
      rw [prefHeldX, prefHeldX]
      exact ent_of_eq (congrArg (fun v : Buf (Elt F) (tbl.view.loc (c : Thread nD τ)) => (tbl.view.loc (c : Thread nD τ) ↦{fullShare} v : sProp 𝕄)) (htab c).symm)
    have htbl := ent_of_eq (Pipeline.unscopedRest_split (Ix := HIx 1) (Name := ℕ) (U := UU) (Lvl := ℕ) (launch0 (F := F)).pre c (V c)).symm
    iintro ⟨Ha, HO, Ht, Hrest⟩
    ihave Ha := hopen $$ Ha
    icases Ha with ⟨%A, %hA, Ha⟩
    obtain ⟨after, hL, hG⟩ := RDat.ArrAt.exists_exact_all hA
    have hmade : Made V (adm 0) c (A 3) := by
      rw [hG 3]
      exact made_of V b O (adm 0) c after fun u hu => hL 3 u u.isLt hu
    have hin (w : Fin 4) (hw : ((cfgA (adm 0)).win w).isOut = false) : A w = V c (Pipeline.arrRef spec0 w) := by
      have h := hA w
      rw [(rdatX V b O (adm 0) c).ArrAt_in w hw] at h
      exact h
    have hjoin := Pipeline.unscopedBufs_of_arrays (p := 0) (pcfgs (F := F)) adm (Ix := HIx 1) (Name := ℕ) (U := UU) (Lvl := ℕ) (launch0 (F := F)).win (launch0 (F := F)).arr_whole c
      (pdats V b adm) ((pdats V b adm 0 c).share_full fun _ => rfl) (V c) (Vp c (A 3)) A
      (fun w => by
        fin_cases w
        · exact (hin 0 rfl).trans (hVp_ne c _ main_arg2 (by decide)).symm
        · exact (hin 1 rfl).trans (hVp_ne c _ main_arg3 (by decide)).symm
        · exact (hin 2 rfl).trans (hVp_ne c _ main_arg4 (by decide)).symm
        · exact (hVp_out c _).symm)
      (fun r hr => hVp_ne c _ r fun h => hr (h ▸ Finset.mem_image.mpr ⟨3, Finset.mem_univ _, rfl⟩))
    have harrs : ((rdatX V b O (adm 0) c).arrays A : sProp 𝕄) ⊢ (pdats V b adm 0 c).arrays A := by
      unfold RDat.arrays Dat.arrays
      have hs (w : Fin (cfgA (adm 0)).W) : (rdatX V b O (adm 0) c).share w = (pdats V b adm 0 c).share w :=
        ((datX V b O (adm 0) c).share_full (fun _ => rfl) w).trans ((datX V b (fun _ => 0) (adm 0) c).share_full (fun _ => rfl) w).symm
      refine bigSep_mono fun w _ => ent_of_eq ?_
      rw [hs w]
      rfl
    imodintro
    iexists (A 3)
    isplitr; · ipureintro; exact hmade
    isplitl [Ha Ht Hrest]
    · iapply hjoin
      isplitl [Ha]; · iapply harrs; iexact Ha
      iapply htbl
      isplitl [Ht]
      · iapply hpf'; iapply hpf; iexact Ht
      iexact Hrest
    unfold Pipeline.RDat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.Undisp

end
-- ==== Proof.Main.lean ====
/-
  @main on the TensorCore: the expert region, the host operations before the SparseCore call, the call, the two reshapes
  after it, the combine region; and the program's run, every array of the host code read at its end. What the expert
  region leaves at the rows of a skipped block is not known: every array from there on is a function of it.
-/
module

public import proofs.«01_k».proof.Proof.Obl
public import proofs.«01_k».proof.Proof.ExpertRegion
public import Idealize.ShloMosaic.Lib.Routing.Ops

@[expose] public section

noncomputable section

namespace Cert.Proof.Undisp

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The host operations -/

/-- The operations before the expert region: both columns of positions as lists; -/
abbrev opsP : List (HloOp τ sig (Elt F)) :=
  [StableHlo.reshape main_arg5 main_v0 (rfl : (.i32 : EltTy) = .i32) shapeCasts_S2048x1_S2048,
    StableHlo.reshape main_arg6 main_v1 (rfl : (.i32 : EltTy) = .i32) shapeCasts_S2048x1_S2048]
/-- those before the SparseCore call: the table as rows of 128 lanes, both lists of positions expanded; -/
abbrev opsA : List (HloOp τ sig (Elt F)) :=
  [StableHlo.reshape main_v2 main_v3 (rfl : (.f32 : EltTy) = .f32) shapeCasts_S5120x1024_S40960x128,
    StableHlo.nullary main_v4 (iotaInDim S8 32 0),
    StableHlo.unary main_v4 main_v5 (broadcastInDim S1x8 ![1] bcast_S8_S1x8_1 : (⟨S8, .i32⟩ : BufTy).Contents (Elt F) → (⟨S1x8, .i32⟩ : BufTy).Contents (Elt F)),
    StableHlo.unary main_v0 main_v6 (broadcastInDim S2048x1 ![0] bcast_S2048_S2048x1_0 : (⟨S2048, .i32⟩ : BufTy).Contents (Elt F) → (⟨S2048x1, .i32⟩ : BufTy).Contents (Elt F)),
    StableHlo.nullary main_c (constantI S_ 32 8#32),
    StableHlo.unary main_c main_v7 (broadcastInDim S2048x1 ![] bcast_S_S2048x1 : (⟨S_, .i32⟩ : BufTy).Contents (Elt F) → (⟨S2048x1, .i32⟩ : BufTy).Contents (Elt F)),
    StableHlo.binary main_v6 main_v7 main_v8 (muli : (⟨S2048x1, .i32⟩ : BufTy).Contents (Elt F) → (⟨S2048x1, .i32⟩ : BufTy).Contents (Elt F) → (⟨S2048x1, .i32⟩ : BufTy).Contents (Elt F)),
    StableHlo.unary main_v8 main_v9 (broadcastInDim S2048x8 ![0, 1] bcast_S2048x1_S2048x8_0_1 : (⟨S2048x1, .i32⟩ : BufTy).Contents (Elt F) → (⟨S2048x8, .i32⟩ : BufTy).Contents (Elt F)),
    StableHlo.unary main_v5 main_v10 (broadcastInDim S2048x8 ![0, 1] bcast_S1x8_S2048x8_0_1 : (⟨S1x8, .i32⟩ : BufTy).Contents (Elt F) → (⟨S2048x8, .i32⟩ : BufTy).Contents (Elt F)),
    StableHlo.binary main_v9 main_v10 main_v11 (addi : (⟨S2048x8, .i32⟩ : BufTy).Contents (Elt F) → (⟨S2048x8, .i32⟩ : BufTy).Contents (Elt F) → (⟨S2048x8, .i32⟩ : BufTy).Contents (Elt F)),
    StableHlo.reshape main_v11 main_v12 (rfl : (.i32 : EltTy) = .i32) shapeCasts_S2048x8_S16384,
    StableHlo.unary main_v1 main_v13 (broadcastInDim S2048x1 ![0] bcast_S2048_S2048x1_0 : (⟨S2048, .i32⟩ : BufTy).Contents (Elt F) → (⟨S2048x1, .i32⟩ : BufTy).Contents (Elt F)),
    StableHlo.nullary main_c_0 (constantI S_ 32 8#32),
    StableHlo.unary main_c_0 main_v14 (broadcastInDim S2048x1 ![] bcast_S_S2048x1 : (⟨S_, .i32⟩ : BufTy).Contents (Elt F) → (⟨S2048x1, .i32⟩ : BufTy).Contents (Elt F)),
    StableHlo.binary main_v13 main_v14 main_v15 (muli : (⟨S2048x1, .i32⟩ : BufTy).Contents (Elt F) → (⟨S2048x1, .i32⟩ : BufTy).Contents (Elt F) → (⟨S2048x1, .i32⟩ : BufTy).Contents (Elt F)),
    StableHlo.unary main_v15 main_v16 (broadcastInDim S2048x8 ![0, 1] bcast_S2048x1_S2048x8_0_1 : (⟨S2048x1, .i32⟩ : BufTy).Contents (Elt F) → (⟨S2048x8, .i32⟩ : BufTy).Contents (Elt F)),
    StableHlo.unary main_v5 main_v17 (broadcastInDim S2048x8 ![0, 1] bcast_S1x8_S2048x8_0_1 : (⟨S1x8, .i32⟩ : BufTy).Contents (Elt F) → (⟨S2048x8, .i32⟩ : BufTy).Contents (Elt F)),
    StableHlo.binary main_v16 main_v17 main_v18 (addi : (⟨S2048x8, .i32⟩ : BufTy).Contents (Elt F) → (⟨S2048x8, .i32⟩ : BufTy).Contents (Elt F) → (⟨S2048x8, .i32⟩ : BufTy).Contents (Elt F)),
    StableHlo.reshape main_v18 main_v19 (rfl : (.i32 : EltTy) = .i32) shapeCasts_S2048x8_S16384]
/-- those after it: both results back at rows of 1024 lanes. -/
abbrev opsB : List (HloOp τ sig (Elt F)) :=
  [StableHlo.reshape main_v20_0 main_v21 (rfl : (.f32 : EltTy) = .f32) shapeCasts_S16384x128_S2048x1024,
    StableHlo.reshape main_v20_1 main_v22 (rfl : (.f32 : EltTy) = .f32) shapeCasts_S16384x128_S2048x1024]

theorem main_eq (d : Dev nD) : main (F := F) d = (StableHlo.seq opsP >>= fun _ =>
    Prog.lift (.customCall (SparseCore.inner (Pipeline.entry 0)) ()) >>= fun _ => StableHlo.seq opsA >>= fun _ => (sc.run d 0) >>= fun _ =>
    StableHlo.seq opsB >>= fun _ => Prog.lift (.customCall (SparseCore.inner (Pipeline.entry 1)) ())) := by
  simp only [opsP, opsA, opsB, StableHlo.seq, bind_assoc, pure_bind]
  rfl

/-- An operation on the TensorCore's references touches the unscoped ones only. -/
theorem sub_uc (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem opsP_sub : (opsP (F := F)).Forall fun op => op.bufs ⊆ StableHlo.tcRefs τ sig := by
  simp [opsP, List.Forall]
theorem opsA_sub : (opsA (F := F)).Forall fun op => op.bufs ⊆ StableHlo.tcRefs τ sig := by
  simp [opsA, List.Forall]
theorem opsB_sub : (opsB (F := F)).Forall fun op => op.bufs ⊆ StableHlo.tcRefs τ sig := by
  simp [opsB, List.Forall]
theorem opsP_fresh : (opsP (F := F)).Forall fun op => op.fresh = ∅ := StableHlo.forall_fresh_of_map rfl
theorem opsA_fresh : (opsA (F := F)).Forall fun op => op.fresh = ∅ := StableHlo.forall_fresh_of_map rfl
theorem opsB_fresh : (opsB (F := F)).Forall fun op => op.fresh = ∅ := StableHlo.forall_fresh_of_map rfl

/-! ## The expansion of the positions -/

/-- Every position times eight, plus each of 0 to 7: the host code's expansion of a column of positions. -/
def expanded (p : S2048x1.Idx → BitVec 32) : S16384.Idx → BitVec 32 :=
  shapeCast S16384
    (addi
      (broadcastInDim S2048x8 ![0, 1] bcast_S2048x1_S2048x8_0_1
        (muli (broadcastInDim S2048x1 ![0] bcast_S2048_S2048x1_0 (shapeCast S2048 p shapeCasts_S2048x1_S2048))
          (broadcastInDim S2048x1 ![] bcast_S_S2048x1 (constantI S_ 32 8#32))))
      (broadcastInDim S2048x8 ![0, 1] bcast_S1x8_S2048x8_0_1 (broadcastInDim S1x8 ![1] bcast_S8_S1x8_1 (iotaInDim S8 32 0))))
    shapeCasts_S2048x8_S16384

/-! ## The arrays' contents as @main goes -/

variable (m : (ℓ : Loc nD τ sig) → Buf (Elt F) ℓ) (ρ : Dev nD → PrngReg)

/-- At launch; -/
def V0 (d : Dev nD) : Valuation τ sig (Elt F) := fun b => m (d, b)
/-- when the expert region is entered; -/
def V1 (d : Dev nD) : Valuation τ sig (Elt F) := StableHlo.after opsP (V0 m d)
/-- when it is done, having left `y`; -/
def V2 (d : Dev nD) (y : S5120x1024.Idx → Elt F .f32) : Valuation τ sig (Elt F) := Function.update (V1 m d) main_v2 y
/-- when the SparseCore call is made. -/
def VA (d : Dev nD) (y : S5120x1024.Idx → Elt F .f32) : Valuation τ sig (Elt F) := StableHlo.after opsA (V2 m d y)

theorem V1_eq (d : Dev nD) : V1 m d = StableHlo.after opsP (V0 m d) := rfl
theorem VA_eq (d : Dev nD) (y : S5120x1024.Idx → Elt F .f32) : VA m d y = StableHlo.after opsA (V2 m d y) := rfl

/-- The first list is the first column of positions, expanded; -/
theorem VA_v12 (d : Dev nD) (y : S5120x1024.Idx → Elt F .f32) : VA m d y main_v12 = expanded (m (d, Proc.devRef .tc main_arg5)) := by
  unfold VA
  after_results
  unfold V2
  rw [Function.update_of_ne (by decide)]
  unfold V1
  after_results
  rfl
/-- the second list is the second column, expanded; -/
theorem VA_v19 (d : Dev nD) (y : S5120x1024.Idx → Elt F .f32) : VA m d y main_v19 = expanded (m (d, Proc.devRef .tc main_arg6)) := by
  unfold VA
  after_results
  unfold V2
  rw [Function.update_of_ne (by decide)]
  unfold V1
  after_results
  rfl
/-- the table is the expert outputs, cut to rows of 128 lanes. -/
theorem VA_v3 (d : Dev nD) (y : S5120x1024.Idx → Elt F .f32) : VA m d y main_v3
    = (shapeCast S40960x128 y shapeCasts_S5120x1024_S40960x128 : S40960x128.Idx → Elt F .f32) := by
  unfold VA
  after_results
  unfold V2
  rw [Function.update_self]
  rfl

/-- An array that no operation before the expert region writes is as launched when it is entered, -/
theorem V1_of (d : Dev nD) (b : Ref sig .tc) (hb : ∀ op ∈ opsP (F := F), Proc.devRef .tc b ∉ op.writes) : V1 m d b = m (d, Proc.devRef .tc b) := by
  rw [V1_eq]
  exact StableHlo.after_of_forall_not_mem (b := Proc.devRef .tc b) _ _ hb
/-- and so when the call is made. -/
theorem VA_of (d : Dev nD) (y : S5120x1024.Idx → Elt F .f32) (b : Ref sig .tc) (hb : ∀ op ∈ opsP (F := F), Proc.devRef .tc b ∉ op.writes)
    (h2 : b ≠ main_v2) (hb' : ∀ op ∈ opsA (F := F), Proc.devRef .tc b ∉ op.writes) : VA m d y b = m (d, Proc.devRef .tc b) := by
  rw [VA_eq, StableHlo.after_of_forall_not_mem (b := Proc.devRef .tc b) _ _ hb']
  unfold V2
  rw [Function.update_of_ne (StableHlo.devRef_ne_of_ne h2), V1_of m d b hb]

theorem VA_arg0 (d : Dev nD) (y : S5120x1024.Idx → Elt F .f32) : VA m d y main_arg0 = m (d, Proc.devRef .tc main_arg0) :=
  VA_of m d y main_arg0 (by simp [opsP]) (by decide) (by simp [opsA])
theorem VA_arg1 (d : Dev nD) (y : S5120x1024.Idx → Elt F .f32) : VA m d y main_arg1 = m (d, Proc.devRef .tc main_arg1) :=
  VA_of m d y main_arg1 (by simp [opsP]) (by decide) (by simp [opsA])
theorem VA_arg2 (d : Dev nD) (y : S5120x1024.Idx → Elt F .f32) : VA m d y main_arg2 = m (d, Proc.devRef .tc main_arg2) :=
  VA_of m d y main_arg2 (by simp [opsP]) (by decide) (by simp [opsA])
theorem VA_arg3 (d : Dev nD) (y : S5120x1024.Idx → Elt F .f32) : VA m d y main_arg3 = m (d, Proc.devRef .tc main_arg3) :=
  VA_of m d y main_arg3 (by simp [opsP]) (by decide) (by simp [opsA])
theorem VA_arg4 (d : Dev nD) (y : S5120x1024.Idx → Elt F .f32) : VA m d y main_arg4 = m (d, Proc.devRef .tc main_arg4) :=
  VA_of m d y main_arg4 (by simp [opsP]) (by decide) (by simp [opsA])
theorem VA_arg5 (d : Dev nD) (y : S5120x1024.Idx → Elt F .f32) : VA m d y main_arg5 = m (d, Proc.devRef .tc main_arg5) :=
  VA_of m d y main_arg5 (by simp [opsP]) (by decide) (by simp [opsA])
theorem VA_arg6 (d : Dev nD) (y : S5120x1024.Idx → Elt F .f32) : VA m d y main_arg6 = m (d, Proc.devRef .tc main_arg6) :=
  VA_of m d y main_arg6 (by simp [opsP]) (by decide) (by simp [opsA])
theorem VA_arg7 (d : Dev nD) (y : S5120x1024.Idx → Elt F .f32) : VA m d y main_arg7 = m (d, Proc.devRef .tc main_arg7) :=
  VA_of m d y main_arg7 (by simp [opsP]) (by decide) (by simp [opsA])
theorem VA_arg8 (d : Dev nD) (y : S5120x1024.Idx → Elt F .f32) : VA m d y main_arg8 = m (d, Proc.devRef .tc main_arg8) :=
  VA_of m d y main_arg8 (by simp [opsP]) (by decide) (by simp [opsA])
theorem VA_v20_0 (d : Dev nD) (y : S5120x1024.Idx → Elt F .f32) : VA m d y main_v20_0 = m (d, Proc.devRef .tc main_v20_0) :=
  VA_of m d y main_v20_0 (by simp [opsP]) (by decide) (by simp [opsA])
theorem VA_v20_1 (d : Dev nD) (y : S5120x1024.Idx → Elt F .f32) : VA m d y main_v20_1 = m (d, Proc.devRef .tc main_v20_1) :=
  VA_of m d y main_v20_1 (by simp [opsP]) (by decide) (by simp [opsA])

theorem V1_arg1 (d : Dev nD) : V1 m d main_arg1 = m (d, Proc.devRef .tc main_arg1) := V1_of m d main_arg1 (by simp [opsP])
theorem V1_arg2 (d : Dev nD) : V1 m d main_arg2 = m (d, Proc.devRef .tc main_arg2) := V1_of m d main_arg2 (by simp [opsP])
theorem V1_arg3 (d : Dev nD) : V1 m d main_arg3 = m (d, Proc.devRef .tc main_arg3) := V1_of m d main_arg3 (by simp [opsP])
theorem V1_arg4 (d : Dev nD) : V1 m d main_arg4 = m (d, Proc.devRef .tc main_arg4) := V1_of m d main_arg4 (by simp [opsP])

attribute [local irreducible] V1 VA

/-- A valuation at the TensorCore's references. -/
abbrev atTc (W : (d : Dev nD) → Valuation τ sig (Elt F)) (c : Dev nD) (b : Ref sig .tc) : Buf (Elt F) ((c : Thread nD τ).loc b) := W c b

/-- The table of the blocks' experts. -/
def tabOf : S40.Idx → BitVec 32 := m ((0 : Dev nD), Proc.devRef .tc main_arg1)

variable (hT : TableOk (tabOf m))

/-- The pipelines' tables: the expert pipeline's, and none. -/
def adm : (p : Fin 2) → (pcfgs (F := F) p).Adm
  | ⟨0, _⟩ => adm0 (tabOf m) hT
  | ⟨1, _⟩ => cfg2.toPCfg_adm
  | ⟨_ + 2, h⟩ => absurd h (Nat.not_lt.2 (Nat.le_add_left _ _))

/-- Every row through its expert. -/
def rows (d : Dev nD) : S5120x1024.Idx → Elt F .f32 := made (atTc (V1 m)) (adm m hT 0) d

/-- The SparseCore call's operands: of the table, its rows from the blocks that are not skipped. -/
def X : Opnds F where
  good _ n := ∀ j : S5120x1024.Idx, (j 0).val = n % 40960 / 8 → k0_cond1 (tabOf m (entryOf j)) = 1#1
  y d := VA m d (rows m hT d) main_v3
  i0 d := VA m d (rows m hT d) main_v12
  i1 d := VA m d (rows m hT d) main_v19
  o0 d := VA m d (rows m hT d) main_v20_0
  o1 d := VA m d (rows m hT d) main_v20_1

/-- What the expert region leaves agrees with the table at those rows. -/
theorem agrees (d : Dev nD) (y : S5120x1024.Idx → Elt F .f32) (hy : Made (atTc (V1 m)) (adm m hT 0) d y) : (X m hT).Agrees d (VA m d y main_v3) := by
  intro n l hn
  have hl := l.isLt
  have hm : n % 40960 < 40960 := Nat.mod_lt _ (by decide)
  have at_row (z : S5120x1024.Idx → Elt F .f32) : (VA m d z main_v3 : S40960x128.Idx → Elt F .f32) (rowAt n l)
      = z (ValueIdx.ix2 (⟨n % 40960 / 8, by omega⟩ : Fin 5120) (⟨n % 40960 % 8 * 128 + l.val, by omega⟩ : Fin 1024)) := by
    rw [VA_v3]
    refine shapeCast_apply _ _ _ _ ?_
    rw [Shape.rowMajor_val_two, Shape.rowMajor_val_two]
    show n % 40960 / 8 * 1024 + (n % 40960 % 8 * 128 + l.val) = n % 40960 * 128 + l.val
    omega
  refine (at_row y).trans ((hy _ (hn _ rfl)).trans (at_row (rows m hT d)).symm)

variable (y : S5120x1024.Idx → Elt F .f32)

/-- The arrays when the call is done: its two results at the gathered rows; -/
def VB (d : Dev nD) : Valuation τ sig (Elt F) :=
  Function.update (Function.update (VA m d y) main_v20_0 (gathered ((X m hT).y d) ((X m hT).i0 d)))
    main_v20_1 (gathered ((X m hT).y d) ((X m hT).i1 d))
/-- when the combine region is entered; -/
def VC (d : Dev nD) : Valuation τ sig (Elt F) := StableHlo.after opsB (VB m hT y d)
/-- and at the end. -/
def VD (d : Dev nD) : Valuation τ sig (Elt F) :=
  Function.update (VC m hT y d) main_v23
    (combined (VC m hT y d main_arg0) (VC m hT y d main_v21) (VC m hT y d main_v22) (VC m hT y d main_arg7) (VC m hT y d main_arg8))

theorem VC_eq (d : Dev nD) : VC m hT y d = StableHlo.after opsB (VB m hT y d) := rfl

attribute [local irreducible] VB VC VD

/-! ## The call's five arrays out of all -/

/-- The five arrays. -/
def callRefs : Finset (DevRef τ sig) := {Proc.devRef .tc main_v12, Proc.devRef .tc main_v19, Proc.devRef .tc main_v3, Proc.devRef .tc main_v20_0, Proc.devRef .tc main_v20_1}

theorem callRefs_sub : callRefs ⊆ ucRefs := by
  intro b hb
  simp only [callRefs, Finset.mem_insert, Finset.mem_singleton] at hb
  rcases hb with rfl | rfl | rfl | rfl | rfl <;>
    exact Finset.mem_filter.mpr ⟨StableHlo.devRef_mem_tcRefs _, by decide⟩

theorem held_call (d : Dev nD) (W : Valuation τ sig (Elt F)) :
    (StableHlo.held (d : Thread nD τ) callRefs W : sProp 𝕄)
      = iprop((i0Loc d ↦{fullShare} W main_v12) ∗ (i1Loc d ↦{fullShare} W main_v19) ∗ (yLoc d ↦{fullShare} W main_v3)
          ∗ (o0Loc d ↦{fullShare} W main_v20_0) ∗ (o1Loc d ↦{fullShare} W main_v20_1)) := by
  unfold StableHlo.held callRefs
  rw [SparseCore.bigSep_insert' (by decide), SparseCore.bigSep_insert' (by decide), SparseCore.bigSep_insert' (by decide),
    SparseCore.bigSep_insert' (by decide), bigSep_singleton]

/-- All the arrays before the call: the call's operands beside half of the table and the rest; -/
theorem held_before (d : Dev nD) (hy : Made (atTc (V1 m)) (adm m hT 0) d y) :
    (StableHlo.held (d : Thread nD τ) ucRefs (VA m d y) : sProp 𝕄)
      ⊢ iprop(((yLoc d ↦{fullShare.right} VA m d y main_v3) ∗ bigSep Finset.univ fun c : Fin ((K (F := F)).nCore 0) => (P (X m hT)).st 0 d c)
          ∗ StableHlo.held (d : Thread nD τ) (ucRefs \ callRefs) (VA m d y)) := by
  have h1 : VA m d y main_v12 = (X m hT).i0 d := (VA_v12 m d y).trans (VA_v12 m d _).symm
  have h2 : VA m d y main_v19 = (X m hT).i1 d := (VA_v19 m d y).trans (VA_v19 m d _).symm
  have h3 : VA m d y main_v20_0 = (X m hT).o0 d := (VA_v20_0 m d y).trans (VA_v20_0 m d _).symm
  have h4 : VA m d y main_v20_1 = (X m hT).o1 d := (VA_v20_1 m d y).trans (VA_v20_1 m d _).symm
  rw [StableHlo.held_sub_split _ callRefs_sub, st_eq, held_call, h1, h2, h3, h4]
  have h := tasksIn_of (X m hT) d (VA m d y main_v3) (agrees m hT d y hy)
  iintro ⟨H, HR⟩
  isplitl [H]
  · iapply h; iexact H
  · iexact HR

/-- and after it. -/
theorem held_after (d : Dev nD) :
    iprop(((yLoc d ↦{fullShare.right} VA m d y main_v3) ∗ bigSep Finset.univ fun c : Fin ((K (F := F)).nCore 0) => (P (X m hT)).dn 0 d c)
          ∗ StableHlo.held (d : Thread nD τ) (ucRefs \ callRefs) (VA m d y))
      ⊢ (StableHlo.held (d : Thread nD τ) ucRefs (VB m hT y d) : sProp 𝕄) := by
  have h1 : (VB m hT y d) main_v12 = (X m hT).i0 d := by
    unfold VB; rw [Function.update_of_ne (by decide), Function.update_of_ne (by decide)]; exact (VA_v12 m d y).trans (VA_v12 m d _).symm
  have h2 : (VB m hT y d) main_v19 = (X m hT).i1 d := by
    unfold VB; rw [Function.update_of_ne (by decide), Function.update_of_ne (by decide)]; exact (VA_v19 m d y).trans (VA_v19 m d _).symm
  have h3 : (VB m hT y d) main_v3 = VA m d y main_v3 := by unfold VB; rw [Function.update_of_ne (by decide), Function.update_of_ne (by decide)]
  have h4 : (VB m hT y d) main_v20_0 = gathered ((X m hT).y d) ((X m hT).i0 d) := by unfold VB; rw [Function.update_of_ne (by decide), Function.update_self]
  have h5 : (VB m hT y d) main_v20_1 = gathered ((X m hT).y d) ((X m hT).i1 d) := by unfold VB; rw [Function.update_self]
  have hrest : (StableHlo.held (d : Thread nD τ) (ucRefs \ callRefs) (VB m hT y d) : sProp 𝕄) = StableHlo.held (d : Thread nD τ) (ucRefs \ callRefs) (VA m d y) :=
    StableHlo.held_congr _ fun b hb => by
      have hn := (Finset.mem_sdiff.mp hb).2
      simp only [callRefs, Finset.mem_insert, Finset.mem_singleton, not_or] at hn
      unfold VB
      rw [Function.update_of_ne hn.2.2.2.2, Function.update_of_ne hn.2.2.2.1]
  rw [StableHlo.held_sub_split _ callRefs_sub, dn_eq, held_call, h1, h2, h3, h4, h5, hrest]
  have h := of_tasksOut (X m hT) d (VA m d y main_v3)
  iintro ⟨H, HR⟩
  isplitl [H]
  · iapply h; iexact H
  · iexact HR

/-! ## The regions -/

/-- The bounds on what the core has waited for when the regions are entered, -/
abbrev bndX : ℕ := 8 * (SparseCore.Cfg.Blocks.one 1).fst 0
abbrev bnd : ℕ := 8 * (SparseCore.Cfg.Blocks.one 1).fst 1
/-- and what it owes when the first is. -/
abbrev owed (d : Dev nD) : CellTallies nD τ sig (HIx 1) := (K (F := F)).Otc d 0

/-- @main's expert region; -/
def regionX : Pipeline.RDat.RegionSeg (pcfgs (F := F)) (adm m hT) (rdats (atTc (V1 m)) bndX (owed (F := F)) (adm m hT)) (none : HIx 1) defs₀ 𝒱₀ (K (F := F)).L (K (F := F)).lev 0 :=
  regX (atTc (V1 m)) bndX (owed (F := F)) (adm m hT) (fun c z => atTc (fun d => V2 m d z) c)
    (fun c g i h => lt_of_lt_of_le (Nat.succ_pos _) ((K (F := F)).lev_of_Otc_pos h))
    (fun c => by
      obtain rfl : c = 0 := Subsingleton.elim _ _
      exact V1_arg1 m 0)
    (fun c z => by show V2 m c z main_v2 = _; unfold V2; rw [Function.update_self])
    (fun c z r h => by show V2 m c z r = V1 m c r; unfold V2; rw [Function.update_of_ne (StableHlo.devRef_ne_of_ne h)])

theorem regionX_pre (d : Dev nD) : (regionX m hT).pre d = iprop(unscopedBufs d (atTc (V1 m) d) ∗ owesX bndX (owed (F := F)) d) := rfl
theorem regionX_post (d : Dev nD) : (regionX m hT).post d = iprop(∃ z, ⌜Made (atTc (V1 m)) (adm m hT 0) d z⌝
    ∗ unscopedBufs d (atTc (fun d => V2 m d z) d) ∗ owesX bndX (owed (F := F)) d) := rfl

/-- its combine region. -/
def region : Pipeline.RegionSeg (pcfgs (F := F)) (adm m hT) (pdats (atTc (VC m hT y)) bnd (adm m hT)) (none : HIx 1) defs₀ 𝒱₀ (K (F := F)).L (K (F := F)).lev 1 :=
  reg (atTc (VC m hT y)) bnd (adm m hT) (atTc (VD m hT y))
    (fun c => by show VD m hT y c main_v23 = _; unfold VD; rw [Function.update_self])
    (fun c r h => by show VD m hT y c r = VC m hT y c r; unfold VD; rw [Function.update_of_ne (StableHlo.devRef_ne_of_ne h)])

theorem region_pre (d : Dev nD) : (region m hT y).pre d = iprop(unscopedBufs d (atTc (VC m hT y) d) ∗ owesBelow (F := F) bnd d) := rfl
theorem region_post (d : Dev nD) : (region m hT y).post d = iprop(unscopedBufs d (atTc (VD m hT y) d) ∗ owesBelow (F := F) bnd d) := rfl

/-- The TensorCore's state before the one call: what it owes, beside its part of the handshakes; -/
theorem tcSt_zero (d : Dev nD) : ∃ R : sProp 𝕄, (K (F := F)).tcSt EH d 0 = iprop(owesX bndX (owed (F := F)) d ∗ R) :=
  ⟨_, by unfold SparseCore.Cfg.tcSt; rfl⟩
/-- after it: nothing owed, beside its part of the handshakes. -/
theorem tcSt_one (d : Dev nD) : ∃ R : sProp 𝕄, (K (F := F)).tcSt EH d ((0 : Fin 1).val + 1) = iprop(owesBelow (F := F) bnd d ∗ R) :=
  have h0 : (K (F := F)).Otc d ((0 : Fin 1).val + 1) = 0 := Finset.sum_eq_zero fun q _ => if_neg (by have := q.isLt; simp)
  ⟨_, by unfold SparseCore.Cfg.tcSt; rw [h0]; rfl⟩

set_option backward.isDefEq.respectTransparency.types false in
/-- The expert region under the pipelines' table. -/
theorem regionX_wp₀ (d : Dev nD) (Q : PUnit → sProp 𝕄) :
    iprop((iprop(boundary (d : Thread nD τ) ∗ (regionX m hT).post d) -∗ Q ⟨⟩)
        ∗ boundary (d : Thread nD τ) ∗ (regionX m hT).pre d ∗ levAts (K (F := F)).L (K (F := F)).lev ∗ G (F := F) (adm m hT) 0 d)
      ⊢ wp frame (wpE (D (F := F)) 𝒱 (d : Thread nD τ) none) Set.univ
          (.op (.customCall (Pipeline.entry 0) ()) fun _ => .ret ⟨⟩ : Prog (TpuEff nD τ sig (Elt F) (ΛP (F := F)) .tc) PUnit) Q := by
  have hw := Pipeline.RDat.RegionSeg.wp (pcfgs (F := F)) (adm m hT) (rdats (atTc (V1 m)) bndX (owed (F := F)) (adm m hT)) (none : HIx 1) (cellOf_inj (adm m hT)) (EP (F := F)) defs₀ 𝒱₀ (K (F := F)).L (K (F := F)).lev
    (regionX m hT) d none (fun u h => nomatch h) (fun _ => (.ret ⟨⟩ : Prog (TpuEff nD τ sig (Elt F) (ΛP (F := F)) .tc) PUnit)) Q
  iintro ⟨Hk, Hb, Hpre, Hl, Hg, Ht⟩
  iapply hw
  isplitl [Hk]
  · iintro H
    rw [wp_ret]; imodintro
    iapply Hk; iexact H
  isplitl [Hb]; · iexact Hb
  isplitl [Hpre]; · iexact Hpre
  isplitl [Hl]; · iexact Hl
  isplitl [Hg]; · iexact Hg
  iexact Ht

set_option backward.isDefEq.respectTransparency.types false in
/-- The combine region under the pipelines' table. -/
theorem region_wp₀ (d : Dev nD) (Q : PUnit → sProp 𝕄) :
    iprop((iprop(boundary (d : Thread nD τ) ∗ (region m hT y).post d) -∗ Q ⟨⟩)
        ∗ boundary (d : Thread nD τ) ∗ (region m hT y).pre d ∗ levAts (K (F := F)).L (K (F := F)).lev ∗ G (F := F) (adm m hT) 1 d)
      ⊢ wp frame (wpE (D (F := F)) 𝒱 (d : Thread nD τ) none) Set.univ
          (.op (.customCall (Pipeline.entry 1) ()) fun _ => .ret ⟨⟩ : Prog (TpuEff nD τ sig (Elt F) (ΛP (F := F)) .tc) PUnit) Q := by
  have hw := Pipeline.RegionSeg.wp (pcfgs (F := F)) (adm m hT) (pdats (atTc (VC m hT y)) bnd (adm m hT)) (none : HIx 1) (cellOf_inj (adm m hT)) (EP (F := F)) defs₀ 𝒱₀ (K (F := F)).L (K (F := F)).lev
    (region m hT y) d none (fun u h => nomatch h) (fun _ => (.ret ⟨⟩ : Prog (TpuEff nD τ sig (Elt F) (ΛP (F := F)) .tc) PUnit)) Q
  iintro ⟨Hk, Hb, Hpre, Hl, Hg, Ht⟩
  iapply hw
  isplitl [Hk]
  · iintro H
    rw [wp_ret]; imodintro
    iapply Hk; iexact H
  isplitl [Hb]; · iexact Hb
  isplitl [Hpre]; · iexact Hpre
  isplitl [Hl]; · iexact Hl
  isplitl [Hg]; · iexact Hg
  iexact Ht

/-- The regions of @main, under the whole program's table. -/
theorem regionX_wp (d : Dev nD) (Q : PUnit → sProp 𝕄) :
    iprop((iprop(boundary (d : Thread nD τ) ∗ (regionX m hT).post d) -∗ Q ⟨⟩)
        ∗ boundary (d : Thread nD τ) ∗ (regionX m hT).pre d ∗ levAts (K (F := F)).L (K (F := F)).lev ∗ G (F := F) (adm m hT) 0 d)
      ⊢ wp frame (wpE ((K (F := F)).defs (D (F := F))) 𝒱 (d : Thread nD τ) none) Set.univ
          (Prog.lift (.customCall (SparseCore.inner (Pipeline.entry 0)) ())) Q :=
  BI.Entails.trans (regionX_wp₀ m hT d Q) ((K (F := F)).wp_liftProg (D (F := F)) 𝒱 (d : Thread nD τ) Set.univ none
    (.op (.customCall (Pipeline.entry 0) ()) fun _ => .ret ⟨⟩ : Prog (TpuEff nD τ sig (Elt F) (ΛP (F := F)) .tc) PUnit) Q)
theorem region_wp (d : Dev nD) (Q : PUnit → sProp 𝕄) :
    iprop((iprop(boundary (d : Thread nD τ) ∗ (region m hT y).post d) -∗ Q ⟨⟩)
        ∗ boundary (d : Thread nD τ) ∗ (region m hT y).pre d ∗ levAts (K (F := F)).L (K (F := F)).lev ∗ G (F := F) (adm m hT) 1 d)
      ⊢ wp frame (wpE ((K (F := F)).defs (D (F := F))) 𝒱 (d : Thread nD τ) none) Set.univ
          (Prog.lift (.customCall (SparseCore.inner (Pipeline.entry 1)) ())) Q :=
  BI.Entails.trans (region_wp₀ m hT y d Q) ((K (F := F)).wp_liftProg (D (F := F)) 𝒱 (d : Thread nD τ) Set.univ none
    (.op (.customCall (Pipeline.entry 1) ()) fun _ => .ret ⟨⟩ : Prog (TpuEff nD τ sig (Elt F) (ΛP (F := F)) .tc) PUnit) Q)

/-! ## @main -/

/-- What @main leaves: every array of the host code at its end, whatever the expert region left at the rows of skipped blocks. -/
abbrev FIN (d : Dev nD) : sProp 𝕄 := iprop(∃ z, StableHlo.held (d : Thread nD τ) ucRefs (VD m hT z d))

set_option backward.isDefEq.respectTransparency.types false in
/-- @main on device `d`'s TensorCore. -/
theorem hmain (κ : GSem nD τ sig → ℕ) (d : Dev nD) :
    iprop((K (F := F)).ctx EH (P (X m hT)) κ ∗ (K (F := F)).tcSt EH d 0 ∗ (K (F := F)).tcRes m ρ d ∗ iprop(G (F := F) (adm m hT) 0 d ∗ G (F := F) (adm m hT) 1 d))
      ⊢ wp frame (wpE ((K (F := F)).defs (D (F := F))) 𝒱 (SparseCore.T d) none) Set.univ (main d)
          fun _ => iprop((K (F := F)).tcSt EH d 1 ∗ FIN m hT d ∗ (K (F := F)).tcEnd d) := by
  unfold SparseCore.Cfg.tcRes SparseCore.Cfg.tcEnd
  rw [main_eq, show (unscopedBufs d (fun b => m ((SparseCore.T d).loc b)) : sProp 𝕄) = StableHlo.held (d : Thread nD τ) ucRefs (V0 m d) from unscopedBufs_held d (V0 m d)]
  iintro ⟨#Hctx, Hst, ⟨Hb, Hheld, Hts, -⟩, HG0, HG1⟩
  iapply (StableHlo.wp_seq 𝒱 none Set.univ d ucRefs _ opsP (fun op h => sub_uc op (List.forall_iff_forall_mem.mp opsP_sub op h)) (List.forall_iff_forall_mem.mp opsP_fresh) (V0 m d)) $$ [Hb Hheld]
  · isplitl [Hb] <;> iassumption
  rw [← V1_eq]
  iintro ⟨Hb, Hheld⟩
  obtain ⟨R0, hR0⟩ := tcSt_zero (F := F) d
  ihave Hst' := (Entails.of_eq hR0) $$ Hst
  icases Hst' with ⟨HO, Hst⟩
  rw [wp_bind]
  iapply (regionX_wp m hT d)
  rw [regionX_pre, regionX_post]
  isplitr [Hb Hheld HO HG0]
  swap
  · isplitl [Hb]; · iexact Hb
    isplitl [Hheld HO]
    · isplitl [Hheld]
      · iapply (Entails.of_eq (unscopedBufs_held d (V1 m d)).symm); iexact Hheld
      · iexact HO
    isplitr; · iapply ((K (F := F)).ctx_levAts κ); iexact Hctx
    iexact HG0
  iintro ⟨Hb, %y, %hy, Hheld, HO⟩
  ihave Hheld := (Entails.of_eq (unscopedBufs_held d (V2 m d y))) $$ Hheld
  ihave Hst := (Entails.of_eq hR0.symm) $$ [HO Hst]
  · isplitl [HO] <;> iassumption
  iapply (StableHlo.wp_seq 𝒱 none Set.univ d ucRefs _ opsA (fun op h => sub_uc op (List.forall_iff_forall_mem.mp opsA_sub op h)) (List.forall_iff_forall_mem.mp opsA_fresh) (V2 m d y)) $$ [Hb Hheld]
  · isplitl [Hb] <;> iassumption
  rw [← VA_eq]
  iintro ⟨Hb, Hheld⟩
  ihave H := (held_before m hT y d hy) $$ Hheld
  icases H with ⟨⟨Hhalf, Hin⟩, Hrest⟩
  rw [wp_bind]
  iapply ((K (F := F)).wp_run (D (F := F)) 𝒱 (EH := EH) (P := P (X m hT)) κ d 0)
  isplitr; · iexact Hctx
  isplitl [Hst]; · iexact Hst
  isplitl [Hin]; · iexact Hin
  iintro ⟨Hst, Hdn⟩
  ihave Hheld := (held_after m hT y d) $$ [Hhalf Hdn Hrest]
  · isplitl [Hhalf Hdn]
    · isplitl [Hhalf] <;> iassumption
    · iexact Hrest
  iapply (StableHlo.wp_seq 𝒱 none Set.univ d ucRefs _ opsB (fun op h => sub_uc op (List.forall_iff_forall_mem.mp opsB_sub op h)) (List.forall_iff_forall_mem.mp opsB_fresh) (VB m hT y d)) $$ [Hb Hheld]
  · isplitl [Hb] <;> iassumption
  rw [← VC_eq]
  iintro ⟨Hb, Hheld⟩
  obtain ⟨R, hR⟩ := tcSt_one (F := F) d
  ihave Hst' := (Entails.of_eq hR) $$ Hst
  icases Hst' with ⟨HO, Hst⟩
  iapply (region_wp m hT y d)
  rw [region_pre, region_post]
  isplitr [Hb Hheld HO HG1]
  · iintro ⟨Hb, Hheld, HO⟩
    isplitl [HO Hst]
    · iapply (Entails.of_eq hR.symm)
      isplitl [HO]; · iexact HO
      iexact Hst
    isplitl [Hheld]
    · iexists y
      iapply (Entails.of_eq (unscopedBufs_held d (VD m hT y d))); iexact Hheld
    isplitl [Hb] <;> iassumption
  isplitl [Hb]; · iexact Hb
  isplitl [Hheld HO]
  · isplitl [Hheld]
    · iapply (Entails.of_eq (unscopedBufs_held d (VC m hT y d)).symm); iexact Hheld
    · iexact HO
  isplitr; · iapply ((K (F := F)).ctx_levAts κ); iexact Hctx
  iexact HG1

/-- Every array of the host code at its end in the final state. -/
def fq (d : Dev nD) (s' : Phys nD τ sig (Elt F)) : Prop := ∃ z, ∀ b ∈ ucRefs, s'.mem.mem (d, b) = VD m hT z d b

theorem hfin (d : Dev nD) (s' : Phys nD τ sig (Elt F)) : iprop(FIN m hT d ∗ SI s') ⊢ (⌜fq m hT d s'⌝ : sProp 𝕄) := by
  have h (z : S5120x1024.Idx → Elt F .f32) : iprop(StableHlo.held (d : Thread nD τ) ucRefs (VD m hT z d) ∗ SI s')
      ⊢ (⌜∀ b ∈ ucRefs, s'.mem.mem (d, b) = VD m hT z d b⌝ : sProp 𝕄) := by
    iintro ⟨H, HSI⟩
    unfold StableHlo.held
    iapply (SI_pointsTo_bufs_agree (st := s') (c := d) (qs := fun _ => fullShare) (F := VD m hT z d) ucRefs)
    isplitl [HSI]; · iexact HSI
    iexact H
  iintro ⟨⟨%z, H⟩, HSI⟩
  ihave %hz := (h z) $$ [H HSI]
  · isplitl [H] <;> iassumption
  ipureintro
  exact ⟨z, hz⟩

/-- THE RUN: every array of the host code ends at what @main's steps make of it, every counter at zero. -/
theorem run_main (hok : (X m hT).Ok) :
    θ_run (Cert.KernelIdeal.defs (F := F)) (Cert.KernelIdeal.threads (F := F)) ⟨m, fun _ => 0, ρ⟩
      (fun r => (∀ d, ∃ z, ∀ b ∈ ucRefs, r.2.mem (d, b) = VD m hT z d b) ∧ r.2.sem = fun _ => 0) :=
  SparseCore.Cfg.θ_run_sc_quiescent (K := K (F := F)) (D := D (F := F)) (𝒱 := 𝒱) (EH := EH) (P := P (X m hT)) (A := ∅) facts v₀
    (fun q hq => match q with | 0 => nomatch hq)
    (fun q _ => match q with | 0 => tileObl (X m hT) facts hok)
    (fun q _ => match q with | 0 => SparseCore.Cfg.VecSplit.of_plain (vecSplit (X m hT)))
    m ρ main (fun d => iprop(G (F := F) (adm m hT) 0 d ∗ G (F := F) (adm m hT) 1 d)) (FIN m hT) (u₀ (F := F) (adm m hT))
    (sep_elim_left.trans (hu₀ (adm m hT) (X m hT))) (hmain m ρ hT) (fq m hT) (hfin m hT) _ (fun _ h hz => ⟨h, hz⟩)

end Cert.Proof.Undisp

end
-- ==== Proof.Values.lean ====
/-
  The arrays of the program's host code read back as functions of its nine arguments: the entries of an expanded list,
  the arrays the combine region reads, and the program's result.
-/
module

public import proofs.«01_k».proof.Proof.Main
public import Idealize.ShloMosaic.Lib.IdealHost
public import Idealize.ShloMosaic.Lib.Routing.Ops
public import Idealize.ShloMosaic.Lib.Pipeline.Value

@[expose] public section

noncomputable section

namespace Cert.Proof.Undisp

open Cert.KernelIdeal Cert.KernelIdeal.Gen

open Idealize.ShloMosaic Idealize.ShloMosaic.TcCoe
open Idealize.SL.Sem

variable {F : FTy → Type} [FloatOps F] [∀ e, Nonempty (Elt F e)]

/-! ## A list of positions, expanded -/

/-- Entry `8 r + k` of the expansion is eight times position `r`, plus `k`. -/
theorem expanded_apply (p : S2048x1.Idx → BitVec 32) (r : Fin 2048) (k : Fin 8) (j : S16384.Idx) (hj : (j 0).val = r.val * 8 + k.val) :
    expanded p j = p (ValueIdx.ix2 r (0 : Fin 1)) * 8#32 + BitVec.ofNat 32 k.val := by
  unfold expanded
  rw [shapeCast_apply _ _ j (ValueIdx.ix2 r k : S2048x8.Idx) (by
    rw [Shape.rowMajor_val_one, Shape.rowMajor_val_two, hj]; rfl)]
  show _ + _ = _
  congr 1
  · rw [broadcastInDim_apply _ _ _ _ (ValueIdx.ix2 r (0 : Fin 1) : S2048x1.Idx) (fun a => by
      match a with
      | ⟨0, _⟩ => rfl
      | ⟨1, _⟩ => rfl)]
    show _ * _ = _
    congr 1
    rw [broadcastInDim_apply _ _ _ _ (ValueIdx.ix1 r : S2048.Idx) (fun a => by
      match a with
      | ⟨0, _⟩ => rfl)]
    exact shapeCast_apply _ _ _ _ (by rw [Shape.rowMajor_val_one, Shape.rowMajor_val_two]; show r.val * 1 + 0 = r.val; omega)

/-! ## The arrays when the combine region is entered, and at the end -/

variable (m : (ℓ : Loc nD τ sig) → Buf (Elt F) ℓ) (hT : TableOk (tabOf m)) (y : S5120x1024.Idx → Elt F .f32)

/-- What no later operation writes is what it was when the SparseCore call is made, until the region is entered, -/
theorem VC_of (d : Dev nD) (b : Ref sig .tc) (h0 : b ≠ main_v20_0) (h1 : b ≠ main_v20_1) (h2 : b ≠ main_v21) (h3 : b ≠ main_v22) :
    VC m hT y d b = VA m d y b := by
  rw [VC_eq]
  refine (StableHlo.after_of_forall_not_mem (b := Proc.devRef .tc b) _ _ (fun op hop => ?_)).trans ?_
  · simp only [opsB, List.mem_cons, List.not_mem_nil, or_false] at hop
    rcases hop with rfl | rfl
    · simpa using StableHlo.devRef_ne_of_ne h2
    · simpa using StableHlo.devRef_ne_of_ne h3
  unfold VB
  rw [Function.update_of_ne (StableHlo.devRef_ne_of_ne h1), Function.update_of_ne (StableHlo.devRef_ne_of_ne h0)]

/-- and until the end. -/
theorem VD_of (d : Dev nD) (b : Ref sig .tc) (h0 : b ≠ main_v20_0) (h1 : b ≠ main_v20_1) (h2 : b ≠ main_v21) (h3 : b ≠ main_v22) (h4 : b ≠ main_v23) :
    VD m hT y d b = VA m d y b := by
  unfold VD
  rw [Function.update_of_ne (StableHlo.devRef_ne_of_ne h4), VC_of m hT y d b h0 h1 h2 h3]

/-- The rows a list of positions takes from the experts' rows, put back to 1024 lanes. -/
def taken (R : S5120x1024.Idx → Elt F .f32) (p : S2048x1.Idx → BitVec 32) : S2048x1024.Idx → Elt F .f32 :=
  shapeCast S2048x1024 (gathered (shapeCast S40960x128 R shapeCasts_S5120x1024_S40960x128) (expanded p)) shapeCasts_S16384x128_S2048x1024

/-- The first gathered rows; -/
theorem VC_v21 (d : Dev nD) : VC m hT y d main_v21 = taken (rows m hT d) (m (d, Proc.devRef .tc main_arg5)) := by
  have e : VB m hT y d main_v20_0 = gathered (VA m d (rows m hT d) main_v3) (VA m d (rows m hT d) main_v12) := by
    unfold VB; rw [Function.update_of_ne (by decide), Function.update_self]; rfl
  rw [VC_eq]
  after_results
  rw [e, VA_v3, VA_v12]
  rfl
/-- and the second. -/
theorem VC_v22 (d : Dev nD) : VC m hT y d main_v22 = taken (rows m hT d) (m (d, Proc.devRef .tc main_arg6)) := by
  have e : VB m hT y d main_v20_1 = gathered (VA m d (rows m hT d) main_v3) (VA m d (rows m hT d) main_v19) := by
    unfold VB; rw [Function.update_self]; rfl
  rw [VC_eq]
  after_results
  rw [e, VA_v3, VA_v19]
  rfl

/-- The program's result: the two taken rows, by their gates, added to the first argument. -/
theorem VD_v23 (d : Dev nD) : VD m hT y d main_v23
    = combined (m (d, Proc.devRef .tc main_arg0)) (taken (rows m hT d) (m (d, Proc.devRef .tc main_arg5)))
        (taken (rows m hT d) (m (d, Proc.devRef .tc main_arg6))) (m (d, Proc.devRef .tc main_arg7)) (m (d, Proc.devRef .tc main_arg8)) := by
  have e0 : VC m hT y d main_arg0 = m (d, Proc.devRef .tc main_arg0) := (VC_of m hT y d main_arg0 (by decide) (by decide) (by decide) (by decide)).trans (VA_arg0 m d y)
  have e7 : VC m hT y d main_arg7 = m (d, Proc.devRef .tc main_arg7) := (VC_of m hT y d main_arg7 (by decide) (by decide) (by decide) (by decide)).trans (VA_arg7 m d y)
  have e8 : VC m hT y d main_arg8 = m (d, Proc.devRef .tc main_arg8) := (VC_of m hT y d main_arg8 (by decide) (by decide) (by decide) (by decide)).trans (VA_arg8 m d y)
  unfold VD
  rw [Function.update_self, VC_v21, VC_v22, e0, e7, e8]

end Cert.Proof.Undisp

end
-- ==== Proof.Pre.lean ====
/-
  What the precondition says: no entry of the table is past the experts, each position is a row of the dispatched rows,
  and that row's block is not skipped. From it, every entry of both expanded lists is a row of the experts' rows, cut to
  rows of 128 lanes, out of a block that is not skipped.
-/
module

public import proofs.«01_k».proof.Proof.Values
public import proofs.«01_k».proof.Proof.Gen.Pre_in_range
public import Idealize.ShloMosaic.Lib.ReduceAll

@[expose] public section

noncomputable section

namespace Cert.Proof.Undisp

open Cert.KernelIdeal Cert.KernelIdeal.Gen

open Idealize.ShloMosaic Idealize.ShloMosaic.TcCoe
open Idealize.SL.Sem

variable {F : FTy → Type} [FloatOps F]

/-! ## Words -/

theorem ofBool_one (p : Bool) : (BitVec.ofBool p = 1#1) ↔ p = true := by cases p <;> decide

/-- A word that is at least 0 and below 5120, both read as signed, is below 5120. -/
theorem below_of_cmp (v : BitVec 32) (h0 : IntOp.cmpi .sge v 0#32 = 1#1) (h1 : IntOp.cmpi .slt v 5120#32 = 1#1) : v.toNat < 5120 := by
  simp only [IntOp.cmpi, ofBool_one, BitVec.sle_eq_decide, BitVec.slt_eq_decide, decide_eq_true_eq, BitVec.toInt_eq_toNat_cond,
    BitVec.toNat_ofNat, Nat.reducePow, Nat.reduceMod] at h0 h1
  omega

/-- A word that is at least 0 and below 8, both read as signed, is below 8. -/
theorem expert_of_cmp (v : BitVec 32) (h0 : IntOp.cmpi .sge v 0#32 = 1#1) (h1 : IntOp.cmpi .slt v 8#32 = 1#1) : v.toNat < 8 := by
  simp only [IntOp.cmpi, ofBool_one, BitVec.sle_eq_decide, BitVec.slt_eq_decide, decide_eq_true_eq, BitVec.toInt_eq_toNat_cond,
    BitVec.toNat_ofNat, Nat.reducePow, Nat.reduceMod] at h0 h1
  omega

/-- A word below 8, read as signed, names an expert once 0 stands in for the negative. -/
theorem clamped_of_cmp (v : BitVec 32) (h : IntOp.cmpi .slt v 8#32 = 1#1) : (Scalar.maxsi v 0#32).toNat < 8 := by
  show (if BitVec.slt 0#32 v then v else 0#32).toNat < 8
  by_cases hv : BitVec.slt 0#32 v
  · rw [if_pos hv]
    refine expert_of_cmp v ?_ h
    simp only [IntOp.cmpi, ofBool_one, BitVec.sle_eq_decide, BitVec.slt_eq_decide, decide_eq_true_eq] at hv ⊢
    omega
  · rw [if_neg hv]
    decide

/-- An expert's number is not negative: the point runs. -/
theorem runs_of_lt (v : BitVec 32) (h : v.toNat < 8) : k0_cond1 v = 1#1 := by
  obtain ⟨k, rfl⟩ : ∃ k : Fin 8, v = BitVec.ofNat 32 k.val := ⟨⟨v.toNat, h⟩, by simp⟩
  revert k
  decide

/-- A position's block, found by a shift. -/
theorem block_of_shift (v : BitVec 32) (h : v.toNat < 5120) : IntOp.shrsi .host v 7#32 = BitVec.ofNat 32 (v.toNat / 128) := by
  have hv : v.msb = false := by rw [BitVec.msb_eq_decide]; simp; omega
  show (if (7#32).toNat < 32 then v.sshiftRight' 7#32 else _) = _
  rw [if_pos (by decide)]
  show v.sshiftRight 7 = _
  rw [BitVec.sshiftRight_eq_of_msb_false hv]
  apply BitVec.eq_of_toNat_eq
  rw [BitVec.toNat_ushiftRight, BitVec.toNat_ofNat, Nat.shiftRight_eq_div_pow]
  show v.toNat / 128 = _
  omega

/-! ## The precondition -/

section
open Cert.Pre_in_range.Facts

/-- Whether an entry of the table is another block's than a position's, or is not negative. -/
def allowed (T : S40.Idx → BitVec 32) (p : S2048x1.Idx → BitVec 32) : IVec Cert.Pre_in_range.S2048x40 1 :=
  ori
    (cmpi .ne (broadcastInDim Cert.Pre_in_range.S2048x40 ![0, 1] bcast_S2048x1_S2048x40_0_1 (Host.shrsi p (broadcastInDim S2048x1 ![] Cert.Pre_in_range.Facts.bcast_S_S2048x1 (constantI S_ 32 7#32))))
      (broadcastInDim Cert.Pre_in_range.S2048x40 ![0, 1] bcast_S1x40_S2048x40_0_1 (broadcastInDim Cert.Pre_in_range.S1x40 ![1] bcast_S40_S1x40_1 (iotaInDim S40 32 0))))
    (broadcastInDim Cert.Pre_in_range.S2048x40 ![0, 1] bcast_S1x40_S2048x40_0_1
      (broadcastInDim Cert.Pre_in_range.S1x40 ![1] bcast_S40_S1x40_1 (cmpi .sge T (broadcastInDim S40 ![] bcast_S_S40 (constantI S_ 32 0#32)))))

theorem allowed_at (T : S40.Idx → BitVec 32) (p : S2048x1.Idx → BitVec 32) (r : Fin 2048) (j : Fin 40) :
    allowed T p (ValueIdx.ix2 r j) = IntOp.ori (IntOp.cmpi .ne (IntOp.shrsi .host (p (ValueIdx.ix2 r (0 : Fin 1))) 7#32) (BitVec.ofNat 32 j.val))
      (IntOp.cmpi .sge (T (ValueIdx.ix1 j)) 0#32) := by
  have over {α : Type} (x : S40.Idx → α) :
      broadcastInDim Cert.Pre_in_range.S2048x40 ![0, 1] bcast_S1x40_S2048x40_0_1 (broadcastInDim Cert.Pre_in_range.S1x40 ![1] bcast_S40_S1x40_1 x) (ValueIdx.ix2 r j) = x (ValueIdx.ix1 j) := by
    rw [broadcastInDim_apply _ _ _ _ (ValueIdx.ix2 (0 : Fin 1) j : Cert.Pre_in_range.S1x40.Idx) (fun a => by
      match a with
      | ⟨0, _⟩ => rfl
      | ⟨1, _⟩ => rfl)]
    exact broadcastInDim_apply _ _ _ _ (ValueIdx.ix1 j : S40.Idx) (fun a => by
      match a with
      | ⟨0, _⟩ => rfl)
  show IntOp.ori (IntOp.cmpi .ne _ _) _ = _
  rw [over, over, broadcastInDim_apply _ _ _ _ (ValueIdx.ix2 r (0 : Fin 1) : S2048x1.Idx) (fun a => by
      match a with
      | ⟨0, _⟩ => rfl
      | ⟨1, _⟩ => rfl)]
  rfl
end

/-- A column of positions that names rows of the table's blocks, and of those only ones that are not skipped. -/
def Named (T : S40.Idx → BitVec 32) (p : S2048x1.Idx → BitVec 32) : Prop :=
  ∀ i, (p i).toNat < 5120 ∧ ∀ j : Fin 40, j.val = (p i).toNat / 128 → (T (ValueIdx.ix1 j)).toNat < 8

theorem named_of (T : S40.Idx → BitVec 32) (p : S2048x1.Idx → BitVec 32) (hT : ∀ j, IntOp.cmpi .slt (T j) 8#32 = 1#1)
    (h0 : ∀ i, IntOp.cmpi .sge (p i) 0#32 = 1#1) (h1 : ∀ i, IntOp.cmpi .slt (p i) 5120#32 = 1#1) (ha : ∀ i, allowed T p i = 1#1) : Named T p := by
  intro i
  have hp := below_of_cmp (p i) (h0 i) (h1 i)
  refine ⟨hp, fun j hj => expert_of_cmp _ ?_ (hT _)⟩
  obtain ⟨r, rfl⟩ : ∃ r : Fin 2048, i = ValueIdx.ix2 r (0 : Fin 1) := ⟨i 0, funext fun a => by
    match a with
    | ⟨0, _⟩ => rfl
    | ⟨1, _⟩ => exact Subsingleton.elim (α := Fin 1) _ _⟩
  have h := ha (ValueIdx.ix2 r j)
  rw [allowed_at, block_of_shift _ hp, ← hj] at h
  have hne : IntOp.cmpi .ne (BitVec.ofNat 32 j.val) (BitVec.ofNat 32 j.val) = 0#1 := by simp [IntOp.cmpi]
  rw [hne] at h
  exact (BitVec.zero_or).symm.trans h

/-- What the precondition says. -/
theorem range_of_pre (x : FVec F S2048x1024 .f32) (T : IVec S40 32) (y : FVec F S5120x1024 .f32) (w1 : FVec F S8x1024x2048 .f32) (w2 : FVec F S8x2048x1024 .f32)
    (p0 p1 : IVec S2048x1 32) (g0 g1 : FVec F S2048x1 .f32)
    (h : Cert.Pre_in_range.fn (F := F) x T y w1 w2 p0 p1 g0 g1 = fun _ => 1#1) : TableOk T ∧ Named T p0 ∧ Named T p1 := by
  have e := congrFun h (fun a => a.elim0)
  simp only [Cert.Pre_in_range.fn, Cert.Pre_in_range.fn_part1, Cert.Pre_in_range.fn_part2] at e
  obtain ⟨e, a1⟩ := IntOp.andi_eq_one.1 e
  obtain ⟨e, a0⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e, e0⟩ := IntOp.andi_eq_one.1 e
  haveI : Subsingleton Cert.Pre_in_range.S_.Idx := ⟨fun a b => funext fun i => i.elim0⟩
  have hT : ∀ j, IntOp.cmpi .slt (T j) 8#32 = 1#1 := fun j => Host.reduce_andi_all _ _ _ _ _ e j
  exact ⟨fun j => clamped_of_cmp _ (hT j),
    named_of T p0 hT (fun i => Host.reduce_andi_all _ _ _ _ _ e0 i) (fun i => Host.reduce_andi_all _ _ _ _ _ e1 i) (fun i => Host.reduce_andi_all _ _ _ _ _ a0 i),
    named_of T p1 hT (fun i => Host.reduce_andi_all _ _ _ _ _ e2 i) (fun i => Host.reduce_andi_all _ _ _ _ _ e3 i) (fun i => Host.reduce_andi_all _ _ _ _ _ a1 i)⟩

/-! ## The expanded lists -/

/-- The value of an entry of an expanded list. -/
theorem expanded_toNat (p : S2048x1.Idx → BitVec 32) (hp : ∀ i, (p i).toNat < 5120) (r : Fin 2048) (k : Fin 8) (j : S16384.Idx)
    (hj : (j 0).val = r.val * 8 + k.val) : (expanded p j).toNat = (p (ValueIdx.ix2 r (0 : Fin 1))).toNat * 8 + k.val := by
  rw [expanded_apply p r k j hj]
  have := hp (ValueIdx.ix2 r (0 : Fin 1))
  simp only [BitVec.toNat_add, BitVec.toNat_mul, BitVec.toNat_ofNat]
  omega

/-- Every entry of an expanded list is a piece of a row at some position. -/
theorem expanded_piece (p : S2048x1.Idx → BitVec 32) (hp : ∀ i, (p i).toNat < 5120) (j : S16384.Idx) :
    ∃ i, (expanded p j).toNat / 8 = (p i).toNat := by
  have hj : (j 0).val < 16384 := (j 0).isLt
  refine ⟨ValueIdx.ix2 (⟨(j 0).val / 8, by omega⟩ : Fin 2048) (0 : Fin 1), ?_⟩
  rw [expanded_toNat p hp ⟨(j 0).val / 8, by omega⟩ ⟨(j 0).val % 8, by omega⟩ j (by show (j 0).val = (j 0).val / 8 * 8 + (j 0).val % 8; omega)]
  show (_ * 8 + (j 0).val % 8) / 8 = _
  omega

/-- Such a piece is of the cut table, and its row's block is not skipped. -/
theorem expanded_ok (T : S40.Idx → BitVec 32) (p : S2048x1.Idx → BitVec 32) (h : Named T p) (j : S16384.Idx) :
    (expanded p j).toNat < 40960 ∧ ∀ j' : S5120x1024.Idx, (j' 0).val = (expanded p j).toNat % 40960 / 8 → k0_cond1 (T (entryOf j')) = 1#1 := by
  obtain ⟨i, hi⟩ := expanded_piece p (fun i => (h i).1) j
  have hp := (h i).1
  refine ⟨by omega, fun j' hj' => runs_of_lt _ ?_⟩
  have hlt : (expanded p j).toNat % 40960 = (expanded p j).toNat := Nat.mod_eq_of_lt (by omega)
  exact (h i).2 _ (by show (j' 0).val / 128 = _; rw [hj', hlt, hi])

variable [∀ e, Nonempty (Elt F e)]

/-- Under the precondition the SparseCore call's lists are in range. -/
theorem ok_of_range (m : (ℓ : Loc nD τ sig) → Buf (Elt F) ℓ) (hT : TableOk (tabOf m))
    (h : ∀ d : Dev nD, Named (tabOf m) (m (d, Proc.devRef .tc main_arg5)) ∧ Named (tabOf m) (m (d, Proc.devRef .tc main_arg6))) :
    (X m hT).Ok := by
  intro d j
  constructor
  · have e : (X m hT).i0 d = expanded (m (d, Proc.devRef .tc main_arg5)) := VA_v12 m d _
    rw [e]
    exact expanded_ok _ _ (h d).1 j
  · have e : (X m hT).i1 d = expanded (m (d, Proc.devRef .tc main_arg6)) := VA_v19 m d _
    rw [e]
    exact expanded_ok _ _ (h d).2 j

end Cert.Proof.Undisp

end
-- ==== Proof.ExpertValue.lean ====
/-
  The rows the expert region makes over the reals: a row of a block that is not skipped is the dispatched row through
  the two products of its block's expert, which is the reference's.
-/
module

public import proofs.«01_k».proof.Proof.ExpertMath
public import proofs.«01_k».proof.Proof.Pre

@[expose] public section

set_option maxRecDepth 8192

noncomputable section

namespace Cert.Proof.Undisp

open Cert.KernelIdeal Cert.KernelIdeal.Gen

open Idealize.ShloMosaic Idealize.ShloMosaic.TcCoe Cert.FrontMath Cert.ExpertMath
open Idealize.SL.Sem

/-! ## The blocks a point reads -/

section
variable (V : (c : Dev nD) → (b : Ref sig .tc) → Buf (Elt Ideal) ((c : Thread nD τ).loc b))
variable (T : S40.Idx → BitVec 32) (hT : TableOk T) (c : Dev nD)

local notation "A" => adm0 (F := Ideal) T hT

/-- A point's number, -/
def pt (t : Fin (cfgA A).N) : Fin 40 := grid0.coords t 0

/-- its expert, -/
def expertAt (t : Fin (cfgA A).N) : Fin 8 := ⟨(Scalar.maxsi (T (entry ((cfgA A).grid.coords t))) 0#32).toNat, hT _⟩

/-- and its block's row in the whole. -/
def rowOf (i : Fin 40) (r : Fin 128) : Fin 5120 := ⟨i.val * 128 + r.val, by omega⟩

theorem tr0_eq : ∀ i : grid0.Coords, cc0_transform_0 i = ![(i 0).val, 0] := by decide +kernel

theorem idx_0 (t : Fin (cfgA A).N) : ((cfgA A).win (0 : Fin 4)).index t = ![(pt T hT t).val, 0] := tr0_eq _
theorem idx_1 (t : Fin (cfgA A).N) : ((cfgA A).win (1 : Fin 4)).index t = ![(expertAt T hT t).val, 0, 0] := tr1_eq T hT _
theorem idx_2 (t : Fin (cfgA A).N) : ((cfgA A).win (2 : Fin 4)).index t = ![(expertAt T hT t).val, 0, 0] := tr2_eq T hT _

theorem blk_0 (t : Fin (cfgA A).N) (r : Fin 128) (k : Fin 1024) :
    blkX V A c 0 t (ix2 r k) = V c main_arg2 (ix2 (rowOf (pt T hT t) r) k) := by
  blk_ext [blkX, idx_0 T hT t, rowOf]
theorem blk_1 (t : Fin (cfgA A).N) (k : Fin 1024) (f : Fin 2048) :
    blkX V A c 1 t (ix3 0 k f) = V c main_arg3 (ix3 (expertAt T hT t) k f) := by
  blk_ext [blkX, idx_1 T hT t]
theorem blk_2 (t : Fin (cfgA A).N) (f : Fin 2048) (k : Fin 1024) :
    blkX V A c 2 t (ix3 0 f k) = V c main_arg4 (ix3 (expertAt T hT t) f k) := by
  blk_ext [blkX, idx_2 T hT t]

/-- What a point computes, entry by entry. -/
theorem point_at (t : Fin (cfgA A).N) (r : Fin 128) (d : Fin 1024) :
    k0_pay1 (blkX V A c 0 t) (blkX V A c 1 t) (blkX V A c 2 t) (ix2 r d)
      = ffn (fun k => V c main_arg2 (ix2 (rowOf (pt T hT t) r) k)) (fun k f => V c main_arg3 (ix3 (expertAt T hT t) k f))
          (fun f k => V c main_arg4 (ix3 (expertAt T hT t) f k)) d := by
  refine (pay_at (blkX V A c 0 t) (blkX V A c 1 t) (blkX V A c 2 t) r d).trans ?_
  rw [show (fun k => blkX V A c 0 t (ix2 r k)) = fun k => V c main_arg2 (ix2 (rowOf (pt T hT t) r) k) from funext fun k => blk_0 V T hT c t r k,
    show (fun k f => blkX V A c 1 t (ix3 0 k f)) = fun k f => V c main_arg3 (ix3 (expertAt T hT t) k f) from
      funext fun k => funext fun f => blk_1 V T hT c t k f,
    show (fun f k => blkX V A c 2 t (ix3 0 f k)) = fun f k => V c main_arg4 (ix3 (expertAt T hT t) f k) from
      funext fun f => funext fun k => blk_2 V T hT c t f k]

/-- A row whose entry names an expert is the reference's. -/
theorem made_at (s : Fin 5120) (d : Fin 1024) (h : (T (ix1 ⟨s.val / 128, by omega⟩)).toNat < 8) :
    made V A c (ix2 s d) = nested (spread T) (V c main_arg2) (V c main_arg3) (V c main_arg4) (ix2 s d) := by
  have hpt : pt T hT (ptOf A (ix2 s d)) = ⟨s.val / 128, by omega⟩ := Fin.ext (coords_val _)
  have hrow : rowOf (pt T hT (ptOf A (ix2 s d))) ⟨s.val % 128, Nat.mod_lt _ (by decide)⟩ = s := by
    rw [hpt]
    exact Fin.ext (by show s.val / 128 * 128 + s.val % 128 = s.val; omega)
  have hent : T (entry ((cfgA A).grid.coords (ptOf A (ix2 s d)))) = T (ix1 ⟨s.val / 128, by omega⟩) := by
    refine congrArg T (funext fun a => ?_)
    match a with
    | ⟨0, _⟩ => exact hpt
  have hmax : ∀ k : Fin 8, Scalar.maxsi (BitVec.ofNat 32 k.val) 0#32 = BitVec.ofNat 32 k.val := by decide
  have he : T (ix1 ⟨s.val / 128, by omega⟩) = BitVec.ofNat 32 (expertAt T hT (ptOf A (ix2 s d))).val := by
    obtain ⟨k, hk⟩ : ∃ k : Fin 8, T (ix1 ⟨s.val / 128, by omega⟩) = BitVec.ofNat 32 k.val := ⟨⟨_, h⟩, by simp⟩
    show _ = BitVec.ofNat 32 (Scalar.maxsi (T (entry ((cfgA A).grid.coords (ptOf A (ix2 s d))))) 0#32).toNat
    rw [hent, hk, hmax]
    exact BitVec.eq_of_toNat_eq (by simp)
  refine (point_at V T hT c (ptOf A (ix2 s d)) ⟨s.val % 128, Nat.mod_lt _ (by decide)⟩ d).trans ?_
  rw [hrow]
  exact (nested_at _ _ _ _ s d _ ((spread_at T s).trans he)).symm
end

/-- The rows the region makes, of the program's arguments. -/
theorem rows_at (m : (ℓ : Loc nD τ sig) → Buf (Elt Ideal) ℓ) (hT : TableOk (tabOf m)) (c : Dev nD) (s : Fin 5120) (d : Fin 1024)
    (h : (tabOf m (ix1 ⟨s.val / 128, by omega⟩)).toNat < 8) :
    rows m hT c (ix2 s d) = nested (spread (tabOf m)) (m (c, Proc.devRef .tc main_arg2)) (m (c, Proc.devRef .tc main_arg3)) (m (c, Proc.devRef .tc main_arg4)) (ix2 s d) := by
  refine (made_at (atTc (V1 m)) (tabOf m) hT c s d h).trans ?_
  show nested _ (V1 m c main_arg2) (V1 m c main_arg3) (V1 m c main_arg4) _ = _
  rw [V1_arg2, V1_arg3, V1_arg4]

end Cert.Proof.Undisp

end
-- ==== Proof.Equation.lean ====
/-
  The value: the kernel's result is the reference's term of the same nine arguments. A token's row gathered in eight
  pieces of 128 lanes, put back together, is the row that the reference takes, and that row is the reference's expert's.
-/
module

public import proofs.«01_k».proof.Proof.ExpertValue
public import proofs.«01_k».proof.Proof.Gen.ReferenceIdeal
public import Idealize.ShloMosaic.Lib.Routing.Ops

@[expose] public section

noncomputable section

namespace Cert.Proof.Undisp

open Cert.KernelIdeal Cert.KernelIdeal.Gen

open Idealize.ShloMosaic Idealize.ShloMosaic.TcCoe
open Idealize.SL.Sem

variable {F : FTy → Type} [FloatOps F]

/-- The rows the kernel takes, at 1024 lanes: token `r`'s is the row at its position. -/
theorem rows_kernel (y : S5120x1024.Idx → Elt F .f32) (p : S2048x1.Idx → BitVec 32) (hp : ∀ i, (p i).toNat < 5120) (r : Fin 2048) (l : Fin 1024) :
    taken y p (ValueIdx.ix2 r l)
      = y (ValueIdx.ix2 (⟨(p (ValueIdx.ix2 r (0 : Fin 1))).toNat, hp _⟩ : Fin 5120) l) := by
  have hr := r.isLt
  have hl := l.isLt
  have hpr := hp (ValueIdx.ix2 r (0 : Fin 1))
  unfold taken
  rw [shapeCast_apply _ _ _ (ValueIdx.ix2 (⟨r.val * 8 + l.val / 128, by omega⟩ : Fin 16384) (⟨l.val % 128, by omega⟩ : Fin 128) : S16384x128.Idx) (by
    rw [Shape.rowMajor_val_two, Shape.rowMajor_val_two]
    show (r.val * 8 + l.val / 128) * 128 + l.val % 128 = r.val * 1024 + l.val
    omega)]
  unfold gathered
  rw [expanded_toNat p hp r ⟨l.val / 128, by omega⟩ _ rfl]
  refine shapeCast_apply _ _ _ _ ?_
  rw [Shape.rowMajor_val_two, Shape.rowMajor_val_two]
  show (p (ValueIdx.ix2 r (0 : Fin 1))).toNat * 1024 + l.val = ((p (ValueIdx.ix2 r (0 : Fin 1))).toNat * 8 + l.val / 128) % 40960 * 128 + l.val % 128
  omega

/-- The rows the reference takes: token `r`'s is the row at its position. -/
theorem rows_reference (y : S5120x1024.Idx → Elt F .f32) (p : S2048x1.Idx → BitVec 32) (hp : ∀ i, (p i).toNat < 5120) (r : Fin 2048) (l : Fin 1024) :
    Host.gather Cert.ReferenceIdeal.gather_S5120x1024_S2048x1_S2048x1024_1_0_n_n_0_1_11024 y
        (broadcastInDim Cert.ReferenceIdeal.S2048x1 ![0] Cert.ReferenceIdeal.Gen.bcast_S2048_S2048x1_0
          (shapeCast Cert.ReferenceIdeal.S2048 p Cert.ReferenceIdeal.Gen.shapeCasts_S2048x1_S2048)) (ValueIdx.ix2 r l)
      = y (ValueIdx.ix2 (⟨(p (ValueIdx.ix2 r (0 : Fin 1))).toNat, hp _⟩ : Fin 5120) l) := by
  refine Routing.gather_row _ rfl rfl rfl rfl rfl y _ r l _ ?_ (by decide)
  rw [broadcastInDim_apply _ _ _ _ (ValueIdx.ix1 r : S2048.Idx) (fun a => by
      match a with
      | ⟨0, _⟩ => rfl)]
  rw [shapeCast_apply _ _ _ (ValueIdx.ix2 r (0 : Fin 1) : S2048x1.Idx) (by
    rw [Shape.rowMajor_val_one, Shape.rowMajor_val_two]; show r.val * 1 + 0 = r.val; omega)]
  exact (BitVec.eq_of_toNat_eq (by simp))

/-- The reference's term of its experts' rows and the other arguments. -/
def refOut (x : S2048x1024.Idx → Elt F .f32) (y : S5120x1024.Idx → Elt F .f32) (p0 p1 : S2048x1.Idx → BitVec 32) (g0 g1 : S2048x1.Idx → Elt F .f32) :
    S2048x1024.Idx → Elt F .f32 :=
  addf (addf x (mulf (broadcastInDim Cert.ReferenceIdeal.S2048x1024 ![0, 1] Cert.ReferenceIdeal.Gen.bcast_S2048x1_S2048x1024_0_1 g0)
      (Host.gather Cert.ReferenceIdeal.gather_S5120x1024_S2048x1_S2048x1024_1_0_n_n_0_1_11024 y
        (broadcastInDim Cert.ReferenceIdeal.S2048x1 ![0] Cert.ReferenceIdeal.Gen.bcast_S2048_S2048x1_0
          (shapeCast Cert.ReferenceIdeal.S2048 p0 Cert.ReferenceIdeal.Gen.shapeCasts_S2048x1_S2048)))))
    (mulf (broadcastInDim Cert.ReferenceIdeal.S2048x1024 ![0, 1] Cert.ReferenceIdeal.Gen.bcast_S2048x1_S2048x1024_0_1 g1)
      (Host.gather Cert.ReferenceIdeal.gather_S5120x1024_S2048x1_S2048x1024_1_0_n_n_0_1_11024 y
        (broadcastInDim Cert.ReferenceIdeal.S2048x1 ![0] Cert.ReferenceIdeal.Gen.bcast_S2048_S2048x1_0
          (shapeCast Cert.ReferenceIdeal.S2048 p1 Cert.ReferenceIdeal.Gen.shapeCasts_S2048x1_S2048))))

/-- A gate spread over its token's row. -/
theorem gate_spread (g : S2048x1.Idx → Elt F .f32) (r : Fin 2048) (l : Fin 1024) :
    broadcastInDim Cert.ReferenceIdeal.S2048x1024 ![0, 1] Cert.ReferenceIdeal.Gen.bcast_S2048x1_S2048x1024_0_1 g (ValueIdx.ix2 r l)
      = g (gateAt (ValueIdx.ix2 r l)) :=
  broadcastInDim_apply _ _ _ _ _ (fun a => by
    match a with
    | ⟨0, _⟩ => rfl
    | ⟨1, _⟩ => rfl)

/-- The combination of the taken rows is the reference's term, where both take the same rows. -/
theorem combined_eq (x : S2048x1024.Idx → Elt F .f32) (y y' : S5120x1024.Idx → Elt F .f32) (p0 p1 : S2048x1.Idx → BitVec 32) (g0 g1 : S2048x1.Idx → Elt F .f32)
    (h0 : ∀ i, (p0 i).toNat < 5120) (h1 : ∀ i, (p1 i).toNat < 5120)
    (e0 : ∀ i l, y (ValueIdx.ix2 (⟨(p0 i).toNat, h0 i⟩ : Fin 5120) l) = y' (ValueIdx.ix2 (⟨(p0 i).toNat, h0 i⟩ : Fin 5120) l))
    (e1 : ∀ i l, y (ValueIdx.ix2 (⟨(p1 i).toNat, h1 i⟩ : Fin 5120) l) = y' (ValueIdx.ix2 (⟨(p1 i).toNat, h1 i⟩ : Fin 5120) l)) :
    combined x (taken y p0) (taken y p1) g0 g1 = refOut x y' p0 p1 g0 g1 := by
  funext j
  obtain ⟨r, l, rfl⟩ : ∃ (r : Fin 2048) (l : Fin 1024), j = ValueIdx.ix2 r l := ⟨j 0, j 1, funext fun a => by
    match a with
    | ⟨0, _⟩ => rfl
    | ⟨1, _⟩ => rfl⟩
  unfold combined refOut
  rw [rows_kernel y p0 h0, rows_kernel y p1 h1, e0, e1]
  show _ = FloatOps.addf (FloatOps.addf _ (FloatOps.mulf _ _)) (FloatOps.mulf _ _)
  rw [rows_reference y' p0 h0, rows_reference y' p1 h1, gate_spread, gate_spread]

/-- Both programs' result of the nine arguments, over the reals. -/
def outOf (x : S2048x1024.Idx → EReal) (T : S40.Idx → BitVec 32) (z : S5120x1024.Idx → EReal) (w1 : S8x1024x2048.Idx → EReal) (w2 : S8x2048x1024.Idx → EReal)
    (p0 p1 : S2048x1.Idx → BitVec 32) (g0 g1 : S2048x1.Idx → EReal) : S2048x1024.Idx → EReal :=
  refOut (F := Ideal) x (Cert.ExpertMath.nested (Cert.ExpertMath.spread T) z w1 w2) p0 p1 g0 g1

/-- The kernel's result. -/
theorem result_eq (m : (ℓ : Loc nD τ sig) → Buf (Elt Ideal) ℓ) (hT : TableOk (tabOf m)) (d : Dev nD)
    (h0 : Named (tabOf m) (m (d, Proc.devRef .tc main_arg5))) (h1 : Named (tabOf m) (m (d, Proc.devRef .tc main_arg6))) :
    combined (m (d, Proc.devRef .tc main_arg0)) (taken (rows m hT d) (m (d, Proc.devRef .tc main_arg5)))
        (taken (rows m hT d) (m (d, Proc.devRef .tc main_arg6))) (m (d, Proc.devRef .tc main_arg7)) (m (d, Proc.devRef .tc main_arg8))
      = outOf (m (d, Proc.devRef .tc main_arg0)) (tabOf m) (m (d, Proc.devRef .tc main_arg2)) (m (d, Proc.devRef .tc main_arg3)) (m (d, Proc.devRef .tc main_arg4))
          (m (d, Proc.devRef .tc main_arg5)) (m (d, Proc.devRef .tc main_arg6)) (m (d, Proc.devRef .tc main_arg7)) (m (d, Proc.devRef .tc main_arg8)) :=
  combined_eq _ _ _ _ _ _ _ (fun i => (h0 i).1) (fun i => (h1 i).1)
    (fun i l => rows_at m hT d _ l ((h0 i).2 _ rfl)) (fun i l => rows_at m hT d _ l ((h1 i).2 _ rfl))

end Cert.Proof.Undisp

end
-- ==== Proof.FrontTop.lean ====
module

public import Idealize.ShloMosaic.Lib.Pointwise
public import Idealize.ShloMosaic.Lib.SortFacts
public import Idealize.ShloMosaic.Lib.PlanTiles.StableSort

@[expose] public section
noncomputable section
namespace Cert.FrontTop
open Idealize.ShloMosaic

/-! The two greatest of eight: the kernel takes the first place of the maximum, covers it by −∞ and does so again;
the reference sorts. Both name the same two places. -/

/-- `a` is the first place of the greatest entry of `p`, and `b` that of the greatest of the others. -/
structure IsTop (p : Fin 8 → EReal) (a b : Fin 8) : Prop where
  top : ∀ j, j ≠ a → p j < p a ∨ (p j = p a ∧ a < j)
  ne : b ≠ a
  next : ∀ j, j ≠ a → j ≠ b → p j < p b ∨ (p j = p b ∧ b < j)

/-- The two places are determined. -/
theorem IsTop.unique {p : Fin 8 → EReal} {a b a' b' : Fin 8} (h : IsTop p a b) (h' : IsTop p a' b') :
    a' = a ∧ b' = b := by
  have ha : a' = a := by
    by_contra hne
    rcases h.top a' hne with h1 | ⟨h1, h2⟩ <;> rcases h'.top a (Ne.symm hne) with h3 | ⟨h3, h4⟩
    · exact lt_asymm h1 h3
    · exact absurd h3 (ne_of_gt h1)
    · exact absurd h1 (ne_of_gt h3)
    · exact lt_asymm h2 h4
  subst ha
  refine ⟨rfl, ?_⟩
  by_contra hne
  rcases h.next b' h'.ne hne with h1 | ⟨h1, h2⟩ <;> rcases h'.next b h.ne (Ne.symm hne) with h3 | ⟨h3, h4⟩
  · exact lt_asymm h1 h3
  · exact absurd h3 (ne_of_gt h1)
  · exact absurd h1 (ne_of_gt h3)
  · exact lt_asymm h2 h4

/-! ### The sort -/

/-- How many entries are below the entry at `k`. -/
def below (p : Fin 8 → EReal) (k : Fin 8) : ℕ := (Finset.univ.filter fun j => p j < p k).card

theorem below_lt_iff (p : Fin 8 → EReal) (x y : Fin 8) : below p y < below p x ↔ p y < p x := by
  constructor
  · intro h
    by_contra hn
    refine absurd h (not_lt.mpr (Finset.card_le_card fun j hj => ?_))
    simp only [Finset.mem_filter, Finset.mem_univ, true_and] at hj ⊢
    exact lt_of_lt_of_le hj (not_lt.mp hn)
  · intro h
    refine Finset.card_lt_card (Finset.ssubset_iff_subset_ne.mpr ⟨fun j hj => ?_, fun he => ?_⟩)
    · simp only [Finset.mem_filter, Finset.mem_univ, true_and] at hj ⊢
      exact hj.trans h
    · have : y ∈ Finset.univ.filter fun j => p j < p x := by simp [h]
      rw [← he] at this
      simp at this

/-- The first two positions of the stable sort, greater entries first, are the two places. -/
theorem isTop_sorted (p : Fin 8 → EReal) :
    IsTop p (sortedFrom (fun k k' => decide (p k' < p k)) 0) (sortedFrom (fun k k' => decide (p k' < p k)) 1) := by
  set B : Fin 8 → Fin 8 → Bool := fun k k' => decide (p k' < p k) with hB
  have e : B = fun x y => decide (below p y < below p x) := by
    funext x y; simp only [hB, below_lt_iff]
  have hp : (sortPositions 8 B).Pairwise (PlanTiles.Lex (below p) (· < ·)) := by
    rw [e]; exact PlanTiles.pairwise_stableSort_lex (below p) (· < ·) _ (List.pairwise_lt_finRange 8)
  have hlen := length_sortPositions 8 B
  have key : ∀ i j : Fin 8, i < j → p (sortedFrom B j) < p (sortedFrom B i)
      ∨ (p (sortedFrom B j) = p (sortedFrom B i) ∧ sortedFrom B i < sortedFrom B j) := by
    intro i j hij
    have := List.pairwise_iff_get.mp hp (i.cast hlen.symm) (j.cast hlen.symm) hij
    rcases this with h | ⟨h, h'⟩
    · exact Or.inl ((below_lt_iff p _ _).mp h)
    · refine Or.inr ⟨le_antisymm ?_ ?_, h'⟩
      · exact not_lt.mp fun hc => absurd ((below_lt_iff p _ _).mpr hc) (by
          show ¬ below p ((sortPositions 8 B).get _) < below p ((sortPositions 8 B).get _); omega)
      · exact not_lt.mp fun hc => absurd ((below_lt_iff p _ _).mpr hc) (by
          show ¬ below p ((sortPositions 8 B).get _) < below p ((sortPositions 8 B).get _); omega)
  refine ⟨fun j hj => ?_, fun hc => absurd (sortedFrom_injective B hc) (by decide), fun j hj hj' => ?_⟩
  · obtain ⟨i, rfl⟩ := sortedFrom_surjective B j
    have hi : i ≠ 0 := fun hc => hj (by rw [hc])
    exact key 0 i (Fin.pos_iff_ne_zero.mpr hi)
  · obtain ⟨i, rfl⟩ := sortedFrom_surjective B j
    have hi : i ≠ 0 := fun hc => hj (by rw [hc])
    have hi' : i ≠ 1 := fun hc => hj' (by rw [hc])
    exact key 1 i (by omega)

/-- The place of the greatest entry, and that of the second. -/
def first (p : Fin 8 → EReal) : Fin 8 := sortedFrom (fun k k' => decide (p k' < p k)) 0
def second (p : Fin 8 → EReal) : Fin 8 := sortedFrom (fun k k' => decide (p k' < p k)) 1

theorem isTop_first_second (p : Fin 8 → EReal) : IsTop p (first p) (second p) := isTop_sorted p

/-! ### The kernel's way -/

/-- The maximum as the running maximum leaves it. -/
theorem fold_max_eq (p : Fin 8 → EReal) (a : Fin 8) (h : ∀ j, p j ≤ p a) : Finset.fold max ⊥ p Finset.univ = p a :=
  le_antisymm (Finset.fold_max_le _ |>.mpr ⟨bot_le, fun j _ => h j⟩)
    (Finset.le_fold_max _ |>.mpr (Or.inr ⟨a, Finset.mem_univ a, le_refl _⟩))

/-- The first place at which `P` holds, as the running minimum of place words leaves it. -/
theorem fold_min_eq (P : Fin 8 → Prop) [DecidablePred P] (a : Fin 8) (ha : P a) (h : ∀ j, j < a → ¬ P j) :
    Finset.fold IntOp.minsi (2147483647#32) (fun x => if P x then BitVec.ofNat 32 x.val else 8#32) Finset.univ
      = BitVec.ofNat 32 a.val := by
  have key : ∀ (a : Fin 8) (b0 b1 b2 b3 b4 b5 b6 b7 : Bool), (![b0, b1, b2, b3, b4, b5, b6, b7] : Fin 8 → Bool) a = true →
      (∀ j, j < a → (![b0, b1, b2, b3, b4, b5, b6, b7] : Fin 8 → Bool) j = false) →
      IntOp.minsi (if b0 = true then 0#32 else 8#32) (IntOp.minsi (if b1 = true then 1#32 else 8#32)
        (IntOp.minsi (if b2 = true then 2#32 else 8#32) (IntOp.minsi (if b3 = true then 3#32 else 8#32)
        (IntOp.minsi (if b4 = true then 4#32 else 8#32) (IntOp.minsi (if b5 = true then 5#32 else 8#32)
        (IntOp.minsi (if b6 = true then 6#32 else 8#32) (IntOp.minsi (if b7 = true then 7#32 else 8#32) 2147483647#32)))))))
      = BitVec.ofNat 32 a.val := by decide +kernel
  have e := key a (decide (P 0)) (decide (P 1)) (decide (P 2)) (decide (P 3)) (decide (P 4)) (decide (P 5)) (decide (P 6)) (decide (P 7))
    (by fin_cases a <;> simpa using ha)
    (by
      intro j hj
      have := h j hj
      fin_cases j <;> simpa using this)
  simp only [decide_eq_true_eq] at e
  have hu : (Finset.univ : Finset (Fin 8)) = {0, 1, 2, 3, 4, 5, 6, 7} := by decide
  rw [hu, Finset.fold_insert (by decide), Finset.fold_insert (by decide), Finset.fold_insert (by decide),
    Finset.fold_insert (by decide), Finset.fold_insert (by decide), Finset.fold_insert (by decide),
    Finset.fold_insert (by decide), Finset.fold_singleton]
  exact e

/-- The entries with the place `a` covered by −∞. -/
def cover (p : Fin 8 → EReal) (a : Fin 8) (j : Fin 8) : EReal := if j = a then ⊥ else p j

/-- First places of the maximum exist. -/
theorem exists_first (p : Fin 8 → EReal) : ∃ a, ∀ j, j ≠ a → p j < p a ∨ (p j = p a ∧ a < j) :=
  ⟨_, (isTop_sorted p).top⟩

/-- For entries that are not −∞, the first place of the maximum after covering `a` is the second of the two. -/
theorem isTop_cover {p : Fin 8 → EReal} (hp : ∀ j, p j ≠ ⊥) {a b : Fin 8}
    (ha : ∀ j, j ≠ a → p j < p a ∨ (p j = p a ∧ a < j))
    (hb : ∀ j, j ≠ b → cover p a j < cover p a b ∨ (cover p a j = cover p a b ∧ b < j)) : IsTop p a b := by
  have hne : b ≠ a := by
    rintro rfl
    obtain ⟨j, hj⟩ : ∃ j : Fin 8, j ≠ b := exists_ne b
    have := hb j hj
    simp only [cover, if_neg hj, if_true] at this
    rcases this with h | ⟨h, -⟩
    · exact absurd h not_lt_bot
    · exact hp j h
  refine ⟨ha, hne, fun j hja hjb => ?_⟩
  have := hb j hjb
  simpa only [cover, if_neg hja, if_neg hne] using this

end Cert.FrontTop
-- ==== Proof.FrontSpec.lean ====
module

public import proofs.«01_k».proof.Proof.FrontMath
public import proofs.«01_k».proof.Proof.FrontTop

@[expose] public section
noncomputable section
namespace Cert.FrontSpec
open Idealize.ShloMosaic Cert.FrontMath Cert.FrontTop

/-! What the attention and the router compute, entry by entry, from the arguments. -/

/-- The arguments as functions of their places. -/
structure Args where
  X : Fin 2048 → Fin 1024 → EReal
  w1 : Fin 1024 → EReal
  w2 : Fin 1024 → EReal
  Wq : Fin 1024 → Fin 1024 → EReal
  Wk : Fin 1024 → Fin 1024 → EReal
  Wv : Fin 1024 → Fin 1024 → EReal
  Wo : Fin 1024 → Fin 1024 → EReal
  Wr : Fin 1024 → Fin 8 → EReal

/-- Every argument is a real number. -/
structure Args.Real (A : Args) : Prop where
  X : ∀ s d, IsReal (A.X s d)
  w1 : ∀ d, IsReal (A.w1 d)
  w2 : ∀ d, IsReal (A.w2 d)
  Wq : ∀ d c, IsReal (A.Wq d c)
  Wk : ∀ d c, IsReal (A.Wk d c)
  Wv : ∀ d c, IsReal (A.Wv d c)
  Wo : ∀ d c, IsReal (A.Wo d c)
  Wr : ∀ d c, IsReal (A.Wr d c)

/-- The columns of a head's lane `j` and of its partner, 32 lanes on. -/
def lowc (h : Fin 16) (j : Fin 32) : Fin 1024 := ⟨h.val * 64 + j.val, by omega⟩
def highc (h : Fin 16) (j : Fin 32) : Fin 1024 := ⟨h.val * 64 + (32 + j.val), by omega⟩

variable (A : Args)

/-- The normalised row of a token. -/
def row (s : Fin 2048) : Fin 1024 → EReal := rms (A.X s) A.w1

def cosA (s : Fin 2048) (j : Fin 32) : EReal := (Real.cos (angle s.val j.val) : ℝ)
def sinA (s : Fin 2048) (j : Fin 32) : EReal := (Real.sin (angle s.val j.val) : ℝ)

/-- A head's projected row, turned by the position: its first 32 lanes and its last. -/
def lo (W : Fin 1024 → Fin 1024 → EReal) (s : Fin 2048) (h : Fin 16) (j : Fin 32) : EReal :=
  lin (row A s) W (lowc h j) * cosA s j - lin (row A s) W (highc h j) * sinA s j
def hi (W : Fin 1024 → Fin 1024 → EReal) (s : Fin 2048) (h : Fin 16) (j : Fin 32) : EReal :=
  lin (row A s) W (highc h j) * cosA s j + lin (row A s) W (lowc h j) * sinA s j

/-- The scores of a head, −∞ for the later tokens. -/
def score (h : Fin 16) (s k : Fin 2048) : EReal :=
  if k.val ≤ s.val then
    (∑ x, lo A A.Wq s h x * lo A A.Wk k h x + ∑ x, hi A A.Wq s h x * hi A A.Wk k h x) * ((1 / 8 : ℝ) : EReal)
  else ⊥

/-- The head that a column of the context belongs to. -/
def headOf (c : Fin 1024) : Fin 16 := ⟨c.val / 64, by omega⟩

/-- The attention's context. -/
def ctx (s : Fin 2048) (c : Fin 1024) : EReal :=
  Ideal.div (∑ k, pexp (score A (headOf c) s) k * lin (row A k) A.Wv c) (∑ k, pexp (score A (headOf c) s) k)

/-- The residual after the attention. -/
def x1 (s : Fin 2048) (d : Fin 1024) : EReal := A.X s d + lin (ctx A s) A.Wo d

/-- The router's logits and probabilities. -/
def logit (s : Fin 2048) (e : Fin 8) : EReal := lin (rms (x1 A s) A.w2) A.Wr e
def prob (s : Fin 2048) (e : Fin 8) : EReal := Ideal.div (pexp (logit A s) e) (∑ x, pexp (logit A s) x)

/-- The two gates of a row of probabilities. -/
def gate0 (p : Fin 8 → EReal) : EReal := Ideal.div (p (first p)) (p (first p) + p (second p))
def gate1 (p : Fin 8 → EReal) : EReal := Ideal.div (p (second p)) (p (first p) + p (second p))

/-- How many of the tokens' picks are the expert `e`. -/
def load (P : Fin 2048 → Fin 8 → EReal) (e : Fin 8) : EReal :=
  ∑ s, ((if e = first (P s) then (1 : EReal) else 0) + (if e = second (P s) then (1 : EReal) else 0))

/-- The load-balancing loss. -/
def aux (P : Fin 2048 → Fin 8 → EReal) : EReal :=
  Ideal.ofBits .f32 0x41000000#32
    * ∑ e, Ideal.div (load P e) (Ideal.ofBits .f32 0x45800000#32) * Ideal.div (∑ s, P s e) (Ideal.ofBits .f32 0x45000000#32)

/-! ### Everything is real -/

variable {A}

theorem real_row (hA : A.Real) (s : Fin 2048) (d : Fin 1024) : IsReal (row A s d) := isReal_rms (hA.X s) hA.w1 d

theorem real_lo (hA : A.Real) {W : Fin 1024 → Fin 1024 → EReal} (hW : ∀ d c, IsReal (W d c)) (s : Fin 2048) (h : Fin 16) (j : Fin 32) :
    IsReal (lo A W s h j) :=
  ((isReal_lin (real_row hA s) hW _).mul (IsReal.coe _)).sub ((isReal_lin (real_row hA s) hW _).mul (IsReal.coe _))

theorem real_hi (hA : A.Real) {W : Fin 1024 → Fin 1024 → EReal} (hW : ∀ d c, IsReal (W d c)) (s : Fin 2048) (h : Fin 16) (j : Fin 32) :
    IsReal (hi A W s h j) :=
  ((isReal_lin (real_row hA s) hW _).mul (IsReal.coe _)).add ((isReal_lin (real_row hA s) hW _).mul (IsReal.coe _))

theorem real_score (hA : A.Real) (h : Fin 16) (s k : Fin 2048) (hk : k.val ≤ s.val) : IsReal (score A h s k) := by
  rw [score, if_pos hk]
  exact ((IsReal.sum fun x => (real_lo hA hA.Wq s h x).mul (real_lo hA hA.Wk k h x)).add
    (IsReal.sum fun x => (real_hi hA hA.Wq s h x).mul (real_hi hA hA.Wk k h x))).mul (IsReal.coe _)

theorem score_cases (hA : A.Real) (h : Fin 16) (s k : Fin 2048) : IsReal (score A h s k) ∨ score A h s k = ⊥ := by
  by_cases hk : k.val ≤ s.val
  · exact Or.inl (real_score hA h s k hk)
  · exact Or.inr (by rw [score, if_neg hk])

/-- The context with each weight divided first. -/
theorem ctx_eq (hA : A.Real) (s : Fin 2048) (c : Fin 1024) :
    ctx A s c = ∑ k, Ideal.div (pexp (score A (headOf c) s) k) (∑ k, pexp (score A (headOf c) s) k) * lin (row A k) A.Wv c := by
  obtain ⟨g, h1, h2, h3⟩ := pexp_real (score_cases hA (headOf c) s) s (real_score hA _ s s (le_refl _))
  exact weigh_div h1 h2 s (h3 s (real_score hA _ s s (le_refl _))) fun k => isReal_lin (real_row hA k) hA.Wv c

theorem real_ctx (hA : A.Real) (s : Fin 2048) (c : Fin 1024) : IsReal (ctx A s c) := by
  obtain ⟨g, h1, h2, h3⟩ := pexp_real (score_cases hA (headOf c) s) s (real_score hA _ s s (le_refl _))
  exact isReal_weigh h1 h2 s (h3 s (real_score hA _ s s (le_refl _))) fun k => isReal_lin (real_row hA k) hA.Wv c

theorem real_x1 (hA : A.Real) (s : Fin 2048) (d : Fin 1024) : IsReal (x1 A s d) :=
  (hA.X s d).add (isReal_lin (real_ctx hA s) hA.Wo d)

theorem real_logit (hA : A.Real) (s : Fin 2048) (e : Fin 8) : IsReal (logit A s e) :=
  isReal_lin (isReal_rms (real_x1 hA s) hA.w2) hA.Wr e

theorem real_prob (hA : A.Real) (s : Fin 2048) (e : Fin 8) : IsReal (prob A s e) := by
  obtain ⟨g, h1, h2, h3⟩ := pexp_real (fun e => Or.inl (real_logit hA s e)) 0 (real_logit hA s 0)
  have hl : (0 : ℝ) < ∑ k, g k := Finset.sum_pos' (fun k _ => h2 k) ⟨0, Finset.mem_univ _, h3 0 (real_logit hA s 0)⟩
  have e' : ∑ k, pexp (logit A s) k = ((∑ k, g k : ℝ) : EReal) := by rw [coe_sum]; exact Finset.sum_congr rfl fun k _ => h1 k
  rw [prob, e', Ideal.div_coe hl.ne', h1, ← EReal.coe_mul]
  exact IsReal.coe _

/-- The loss with the picks' mean halved after. -/
theorem aux_eq (P : Fin 2048 → Fin 8 → EReal) :
    aux P = Ideal.ofBits .f32 0x41000000#32
      * ∑ e, Ideal.div (Ideal.div (load P e) (Ideal.ofBits .f32 0x45000000#32)) (Ideal.ofBits .f32 1073741824#32)
        * Ideal.div (∑ s, P s e) (Ideal.ofBits .f32 0x45000000#32) := by
  unfold aux
  congr 1
  refine Finset.sum_congr rfl fun e _ => ?_
  congr 1
  rw [lit_2048, lit_4096, lit_2, Ideal.div_coe (by norm_num), Ideal.div_coe (by norm_num), Ideal.div_coe (by norm_num),
    mul_assoc, ← EReal.coe_mul]
  norm_num

/-! ### Words -/

theorem sitofp_ofNat (n : ℕ) (hn : n < 2 ^ 31) : FloatOps.sitofp (F := Ideal) .f32 (BitVec.ofNat 32 n) = (((n : ℕ) : ℝ) : EReal) := by
  show (((BitVec.ofNat 32 n).toInt : ℝ) : EReal) = _
  rw [BitVec.toInt_eq_toNat_of_lt (by simp [BitVec.toNat_ofNat]; omega), BitVec.toNat_ofNat, Nat.mod_eq_of_lt (by omega)]
  simp

theorem sle_ofNat (k s : ℕ) (hk : k < 2 ^ 31) (hs : s < 2 ^ 31) :
    IntOp.cmpi .sle (BitVec.ofNat 32 k) (BitVec.ofNat 32 s) = if k ≤ s then 1#1 else 0#1 := by
  have ek : (BitVec.ofNat 32 k).toInt = k := by
    rw [BitVec.toInt_eq_toNat_of_lt (by simp [BitVec.toNat_ofNat]; omega), BitVec.toNat_ofNat, Nat.mod_eq_of_lt (by omega)]
  have es : (BitVec.ofNat 32 s).toInt = s := by
    rw [BitVec.toInt_eq_toNat_of_lt (by simp [BitVec.toNat_ofNat]; omega), BitVec.toNat_ofNat, Nat.mod_eq_of_lt (by omega)]
  simp only [IntOp.cmpi, BitVec.sle, ek, es, Nat.cast_le]
  by_cases h : k ≤ s <;> simp [h]

theorem sge_ofNat (k s : ℕ) (hk : k < 2 ^ 31) (hs : s < 2 ^ 31) :
    IntOp.cmpi .sge (BitVec.ofNat 32 s) (BitVec.ofNat 32 k) = if k ≤ s then 1#1 else 0#1 := by
  rw [← sle_ofNat k s hk hs]
  rfl

end Cert.FrontSpec
-- ==== Proof.FrontKer0.lean ====
module

public import proofs.«01_k».proof.Proof.Gen.FrontIdeal.Frame
public import proofs.«01_k».proof.Proof.FrontSpec
public import Idealize.ShloMosaic.Lib.Pipeline.ValueKit

@[expose] public section
noncomputable section
namespace Cert.FrontKer
open Idealize.ShloMosaic Idealize.ShloMosaic.TcCoe Idealize.SL.Sem Cert.FrontMath Cert.FrontTop Cert.FrontSpec
open Cert.FrontIdeal Cert.FrontIdeal.Gen
set_option maxRecDepth 8192

/-! The first call: the normalised rows, their three projections, and the turn by the position. -/

/-- Row `r` of block `i` of the tokens. -/
def tok (i : Fin 8) (r : Fin 256) : Fin 2048 := ⟨i.val * 256 + r.val, by omega⟩

/-- A head of a column of the low or the high half, and its lane. -/
def head32 (e : Fin 512) : Fin 16 := ⟨e.val / 32, by omega⟩
def lane32 (e : Fin 512) : Fin 32 := ⟨e.val % 32, by omega⟩

theorem rope_eq : Named.named (F := Ideal) (φ := .f32) κ "rope" 3197328782#32 = (((-1 / 32) * Real.log 10000 : ℝ) : EReal) := rfl
theorem mask_eq : Named.named (F := Ideal) (φ := .f32) κ "mask" 4048155338#32 = (⊥ : EReal) := rfl

theorem word_tok (i : Fin 8) (r : Fin 256) :
    IntOp.addi (Scalar.muli (BitVec.ofNat 32 i.val) 256#32) (BitVec.ofNat 32 r.val) = BitVec.ofNat 32 (tok i r).val := by
  revert i r; decide +kernel

theorem word_lane : ∀ e : Fin 512,
    Scalar.select
      (IntOp.andi
        (IntOp.xori
          (IntOp.cmpi CmpIPredicate.slt
            (IntOp.remsi ArithUnit.vector (BitVec.ofNat 32 e.val)
              (Scalar.select (Scalar.cmpi CmpIPredicate.eq 32#32 0#32) 1#32 32#32))
            0#32)
          (Scalar.cmpi CmpIPredicate.slt (Scalar.select (Scalar.cmpi CmpIPredicate.eq 32#32 0#32) 1#32 32#32)
            0#32))
        (IntOp.cmpi CmpIPredicate.ne
          (IntOp.remsi ArithUnit.vector (BitVec.ofNat 32 e.val)
            (Scalar.select (Scalar.cmpi CmpIPredicate.eq 32#32 0#32) 1#32 32#32))
          0#32))
      (IntOp.addi
        (IntOp.remsi ArithUnit.vector (BitVec.ofNat 32 e.val)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 e.val)
        (Scalar.select (Scalar.cmpi CmpIPredicate.eq 32#32 0#32) 1#32 32#32))
    = BitVec.ofNat 32 (lane32 e).val := by decide +kernel

theorem angle_named (s j : ℕ) :
    ((s : ℝ) : EReal) * Ideal.exp (((j : ℝ) : EReal) * (((-1 / 32) * Real.log 10000 : ℝ) : EReal)) = (angle s j : EReal) := by
  rw [← EReal.coe_mul, Ideal.exp_coe, ← EReal.coe_mul]
  rfl

theorem pay10_at (i : Fin 8) (r : Fin 256) (e : Fin 512) :
    k0_pay10 (F := Ideal) (BitVec.ofNat 32 i.val) (ix2 r e) = cosA (tok i r) (lane32 e) := by
  pointwise [k0_pay10, k0_pay9]
  rw [word_tok, word_lane, rope_eq, sitofp_ofNat _ (by omega), sitofp_ofNat _ (by omega), angle_named, Ideal.cos_coe]
  rfl

theorem pay11_at (i : Fin 8) (r : Fin 256) (e : Fin 512) :
    k0_pay11 (F := Ideal) (BitVec.ofNat 32 i.val) (ix2 r e) = sinA (tok i r) (lane32 e) := by
  pointwise [k0_pay11, k0_pay9]
  rw [word_tok, word_lane, rope_eq, sitofp_ofNat _ (by omega), sitofp_ofNat _ (by omega), angle_named, Ideal.sin_coe]
  rfl

variable (a : FVec Ideal S256x1024 .f32) (w : FVec Ideal S1x1024 .f32) (W : FVec Ideal S1024x512 .f32)

theorem pay4_at (r : Fin 256) (e : Fin 512) :
    k0_pay4 (F := Ideal) a w W (ix2 r e) = lin (rms (fun d => a (ix2 r d)) (fun d => w (ix2 0 d))) (fun d c => W (ix2 d c)) e := by
  pointwise [k0_pay4, k0_pay3]
  rfl
theorem pay5_at (r : Fin 256) (e : Fin 512) :
    k0_pay5 (F := Ideal) a w W (ix2 r e) = lin (rms (fun d => a (ix2 r d)) (fun d => w (ix2 0 d))) (fun d c => W (ix2 d c)) e := by
  pointwise [k0_pay5, k0_pay3]
  rfl
theorem pay6_at (r : Fin 256) (e : Fin 512) :
    k0_pay6 (F := Ideal) a w W (ix2 r e) = lin (rms (fun d => a (ix2 r d)) (fun d => w (ix2 0 d))) (fun d c => W (ix2 d c)) e := by
  pointwise [k0_pay6, k0_pay3]
  rfl
theorem pay7_at (r : Fin 256) (e : Fin 512) :
    k0_pay7 (F := Ideal) a w W (ix2 r e) = lin (rms (fun d => a (ix2 r d)) (fun d => w (ix2 0 d))) (fun d c => W (ix2 d c)) e := by
  pointwise [k0_pay7, k0_pay3]
  rfl
theorem pay8_at (W : FVec Ideal S1024x1024 .f32) (r : Fin 256) (e : Fin 1024) :
    k0_pay8 (F := Ideal) a w W (ix2 r e) = lin (rms (fun d => a (ix2 r d)) (fun d => w (ix2 0 d))) (fun d c => W (ix2 d c)) e := by
  pointwise [k0_pay8, k0_pay3]
  rfl

variable (x y : FVec Ideal S256x512 .f32) (i : Fin 8) (r : Fin 256) (e : Fin 512)

theorem pay12_at : k0_pay12 (BitVec.ofNat 32 i.val) x y (ix2 r e)
    = x (ix2 r e) * cosA (tok i r) (lane32 e) - y (ix2 r e) * sinA (tok i r) (lane32 e) := by
  rw [← pay10_at, ← pay11_at]
  pointwise [k0_pay12]
theorem pay13_at : k0_pay13 (BitVec.ofNat 32 i.val) x y (ix2 r e)
    = y (ix2 r e) * cosA (tok i r) (lane32 e) + x (ix2 r e) * sinA (tok i r) (lane32 e) := by
  rw [← pay10_at, ← pay11_at]
  pointwise [k0_pay13]
theorem pay14_at : k0_pay1 (k0_pay14 (BitVec.ofNat 32 i.val) x y) (ix2 r e)
    = x (ix2 r e) * cosA (tok i r) (lane32 e) - y (ix2 r e) * sinA (tok i r) (lane32 e) := by
  rw [← pay10_at, ← pay11_at]
  pointwise [k0_pay14, k0_pay1]
theorem pay2_at : k0_pay2 x y (k0_pay10 (F := Ideal) (BitVec.ofNat 32 i.val)) (k0_pay11 (F := Ideal) (BitVec.ofNat 32 i.val)) (ix2 r e)
    = y (ix2 r e) * cosA (tok i r) (lane32 e) + x (ix2 r e) * sinA (tok i r) (lane32 e) := by
  rw [← pay10_at, ← pay11_at]
  pointwise [k0_pay2]

/-! ### The blocks -/

variable (V : (c : Dev nD) → (b : Ref sig .tc) → Buf (Elt Ideal) ((c : Thread nD τ).loc b)) (c : Dev nD)

/-- The block of a grid point. -/
def pt0 (t : Fin cfg0.N) : Fin 8 := grid0.coords t 0

theorem idx0_0 : ∀ t : Fin cfg0.N, win0_0.index t = ![(grid0.coords t 0).val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![(grid0.coords t 0).val, 0] := (by decide +kernel : ∀ t : Fin grid0.N, _)
theorem idx0_8 : ∀ t : Fin cfg0.N, win0_8.index t = ![(grid0.coords t 0).val, 0] := (by decide +kernel : ∀ t : Fin grid0.N, _)
theorem idx0_9 : ∀ t : Fin cfg0.N, win0_9.index t = ![(grid0.coords t 0).val, 0] := (by decide +kernel : ∀ t : Fin grid0.N, _)
theorem idx0_10 : ∀ t : Fin cfg0.N, win0_10.index t = ![(grid0.coords t 0).val, 0] := (by decide +kernel : ∀ t : Fin grid0.N, _)
theorem idx0_11 : ∀ t : Fin cfg0.N, win0_11.index t = ![(grid0.coords t 0).val, 0] := (by decide +kernel : ∀ t : Fin grid0.N, _)

theorem blk0_0 (t : Fin cfg0.N) (r : Fin 256) (d : Fin 1024) : iblk0 V c 0 t (ix2 r d) = V c main_v0 (ix2 (tok (pt0 t) r) d) := by
  blk_ext [iblk0, idx0_0 t, tok, pt0]
theorem blk0_1 (t : Fin cfg0.N) (d : Fin 1024) : iblk0 V c 1 t (ix2 0 d) = V c main_v1 (ix2 0 d) := by
  blk_ext [iblk0, idx0_1 t]
theorem blk0_2 (t : Fin cfg0.N) (d : Fin 1024) (e : Fin 512) : iblk0 V c 2 t (ix2 d e) = V c main_v10 (ix2 d e) := by
  blk_ext [iblk0, idx0_2 t]
theorem blk0_3 (t : Fin cfg0.N) (d : Fin 1024) (e : Fin 512) : iblk0 V c 3 t (ix2 d e) = V c main_v12 (ix2 d e) := by
  blk_ext [iblk0, idx0_3 t]
theorem blk0_4 (t : Fin cfg0.N) (d : Fin 1024) (e : Fin 512) : iblk0 V c 4 t (ix2 d e) = V c main_v14 (ix2 d e) := by
  blk_ext [iblk0, idx0_4 t]
theorem blk0_5 (t : Fin cfg0.N) (d : Fin 1024) (e : Fin 512) : iblk0 V c 5 t (ix2 d e) = V c main_v16 (ix2 d e) := by
  blk_ext [iblk0, idx0_5 t]
theorem blk0_6 (t : Fin cfg0.N) (d e : Fin 1024) : iblk0 V c 6 t (ix2 d e) = V c main_arg5 (ix2 d e) := by
  blk_ext [iblk0, idx0_6 t]

/-! ### Whole loads -/

theorem ld0_0 (X : Vec Ideal S256x1024 .f32) : View.ld X r0_0 = X := View.ld_unit_lit _ X (by decide)
theorem ld0_1 (X : Vec Ideal S1x1024 .f32) : View.ld X r0_1 = X := View.ld_unit_lit _ X (by decide)
theorem ld0_2 (X : Vec Ideal S1024x512 .f32) : View.ld X r0_2 = X := View.ld_unit_lit _ X (by decide)

section
variable (j : grid0.Coords) (x0 : Vec Ideal S256x1024 .f32) (x1 : Vec Ideal S1x1024 .f32) (x2 x3 x4 x5 : Vec Ideal S1024x512 .f32) (x6 : Vec Ideal S1024x1024 .f32)
theorem val15 : k0_pay15 j x0 x1 x2 x3 x4 x5 x6 = k0_pay4 x0 x1 x2 := by
  unfold k0_pay15
  rw [ld0_0, ld0_1, ld0_2]
theorem val16 : k0_pay16 j x0 x1 x2 x3 x4 x5 x6 = k0_pay5 x0 x1 x3 := by
  unfold k0_pay16
  rw [ld0_0, ld0_1, ld0_2]
theorem val17 : k0_pay17 j x0 x1 x2 x3 x4 x5 x6 = k0_pay6 x0 x1 x4 := by
  unfold k0_pay17
  rw [ld0_0, ld0_1, ld0_2]
theorem val18 : k0_pay18 j x0 x1 x2 x3 x4 x5 x6 = k0_pay7 x0 x1 x5 := by
  unfold k0_pay18
  rw [ld0_0, ld0_1, ld0_2]
end

/-! ### The five arrays -/

/-- The entry contents that the first call reads are the arguments, the columns of the two weights sorted into halves. -/
structure In0 (A : Args) : Prop where
  x : ∀ s d, V c main_v0 (ix2 s d) = A.X s d
  w : ∀ d, V c main_v1 (ix2 0 d) = A.w1 d
  ql : ∀ d e, V c main_v10 (ix2 d e) = A.Wq d (lowc (head32 e) (lane32 e))
  qh : ∀ d e, V c main_v12 (ix2 d e) = A.Wq d (highc (head32 e) (lane32 e))
  kl : ∀ d e, V c main_v14 (ix2 d e) = A.Wk d (lowc (head32 e) (lane32 e))
  kh : ∀ d e, V c main_v16 (ix2 d e) = A.Wk d (highc (head32 e) (lane32 e))
  v : ∀ d e, V c main_arg5 (ix2 d e) = A.Wv d e

variable {V c} {A : Args} (H : In0 V c A)
include H

theorem row0 (t : Fin cfg0.N) (r : Fin 256) :
    rms (fun d => iblk0 V c 0 t (ix2 r d)) (fun d => iblk0 V c 1 t (ix2 0 d)) = row A (tok (pt0 t) r) := by
  unfold row
  congr 1
  · funext d; exact (blk0_0 V c t r d).trans (H.x _ _)
  · funext d; exact (blk0_1 V c t d).trans (H.w _)

theorem ql_at (t : Fin cfg0.N) (r : Fin 256) (e : Fin 512) :
    k0_pay15 (grid0.coords t) (iblk0 V c 0 t) (iblk0 V c 1 t) (iblk0 V c 2 t) (iblk0 V c 3 t) (iblk0 V c 4 t) (iblk0 V c 5 t) (iblk0 V c 6 t) (ix2 r e)
      = lin (row A (tok (pt0 t) r)) A.Wq (lowc (head32 e) (lane32 e)) := by
  refine (congrFun (val15 (grid0.coords t) (iblk0 V c 0 t) (iblk0 V c 1 t) (iblk0 V c 2 t) (iblk0 V c 3 t) (iblk0 V c 4 t) (iblk0 V c 5 t) (iblk0 V c 6 t)) (ix2 r e)).trans ?_
  refine (pay4_at (iblk0 V c 0 t) (iblk0 V c 1 t) (iblk0 V c 2 t) r e).trans ?_
  rw [row0 H]
  exact Finset.sum_congr rfl fun d _ => congrArg _ ((blk0_2 V c t d e).trans (H.ql d e))

theorem qh_at (t : Fin cfg0.N) (r : Fin 256) (e : Fin 512) :
    k0_pay16 (grid0.coords t) (iblk0 V c 0 t) (iblk0 V c 1 t) (iblk0 V c 2 t) (iblk0 V c 3 t) (iblk0 V c 4 t) (iblk0 V c 5 t) (iblk0 V c 6 t) (ix2 r e)
      = lin (row A (tok (pt0 t) r)) A.Wq (highc (head32 e) (lane32 e)) := by
  refine (congrFun (val16 (grid0.coords t) (iblk0 V c 0 t) (iblk0 V c 1 t) (iblk0 V c 2 t) (iblk0 V c 3 t) (iblk0 V c 4 t) (iblk0 V c 5 t) (iblk0 V c 6 t)) (ix2 r e)).trans ?_
  refine (pay5_at (iblk0 V c 0 t) (iblk0 V c 1 t) (iblk0 V c 3 t) r e).trans ?_
  rw [row0 H]
  exact Finset.sum_congr rfl fun d _ => congrArg _ ((blk0_3 V c t d e).trans (H.qh d e))

theorem kl_at (t : Fin cfg0.N) (r : Fin 256) (e : Fin 512) :
    k0_pay17 (grid0.coords t) (iblk0 V c 0 t) (iblk0 V c 1 t) (iblk0 V c 2 t) (iblk0 V c 3 t) (iblk0 V c 4 t) (iblk0 V c 5 t) (iblk0 V c 6 t) (ix2 r e)
      = lin (row A (tok (pt0 t) r)) A.Wk (lowc (head32 e) (lane32 e)) := by
  refine (congrFun (val17 (grid0.coords t) (iblk0 V c 0 t) (iblk0 V c 1 t) (iblk0 V c 2 t) (iblk0 V c 3 t) (iblk0 V c 4 t) (iblk0 V c 5 t) (iblk0 V c 6 t)) (ix2 r e)).trans ?_
  refine (pay6_at (iblk0 V c 0 t) (iblk0 V c 1 t) (iblk0 V c 4 t) r e).trans ?_
  rw [row0 H]
  exact Finset.sum_congr rfl fun d _ => congrArg _ ((blk0_4 V c t d e).trans (H.kl d e))

theorem kh_at (t : Fin cfg0.N) (r : Fin 256) (e : Fin 512) :
    k0_pay18 (grid0.coords t) (iblk0 V c 0 t) (iblk0 V c 1 t) (iblk0 V c 2 t) (iblk0 V c 3 t) (iblk0 V c 4 t) (iblk0 V c 5 t) (iblk0 V c 6 t) (ix2 r e)
      = lin (row A (tok (pt0 t) r)) A.Wk (highc (head32 e) (lane32 e)) := by
  refine (congrFun (val18 (grid0.coords t) (iblk0 V c 0 t) (iblk0 V c 1 t) (iblk0 V c 2 t) (iblk0 V c 3 t) (iblk0 V c 4 t) (iblk0 V c 5 t) (iblk0 V c 6 t)) (ix2 r e)).trans ?_
  refine (pay7_at (iblk0 V c 0 t) (iblk0 V c 1 t) (iblk0 V c 5 t) r e).trans ?_
  rw [row0 H]
  exact Finset.sum_congr rfl fun d _ => congrArg _ ((blk0_5 V c t d e).trans (H.kh d e))

theorem v_at (t : Fin cfg0.N) (r : Fin 256) (e : Fin 1024) :
    k0_pay8 (F := Ideal) (iblk0 V c 0 t) (iblk0 V c 1 t) (iblk0 V c 6 t) (ix2 r e)
      = lin (row A (tok (pt0 t) r)) A.Wv e := by
  refine (pay8_at (iblk0 V c 0 t) (iblk0 V c 1 t) (iblk0 V c 6 t) r e).trans ?_
  rw [row0 H]
  exact Finset.sum_congr rfl fun d _ => congrArg _ ((blk0_6 V c t d e).trans (H.v d e))

theorem arr0_7 : (dat0 V c).arrAt 7 cfg0.N = fun y : S2048x512.Idx => lo A A.Wq (y 0) (head32 (y 1)) (lane32 (y 1)) := by
  refine (dat0 V c).arrAt_eq_of_covers 7 _ (by decide +kernel) fun t hf y => ?_
  obtain ⟨r, e, rfl⟩ : ∃ (r : Fin 256) (e : Fin 512), y = ix2 r e := ⟨y 0, y 1, Idealize.ShloMosaic.eq_ix2 y⟩
  have e0 : (((View.whole main_v17_0).slice (win0_7.rect t)).emb (ix2 r e)) = ix2 (tok (pt0 t) r) e := by
    blk_ext [idx0_7 t, tok, pt0]
  blk_simp
  rw [after0_7]
  frame_out
  rw [e0]
  refine (pay12_at (k0_pay15 (grid0.coords t) (iblk0 V c 0 t) (iblk0 V c 1 t) (iblk0 V c 2 t) (iblk0 V c 3 t) (iblk0 V c 4 t) (iblk0 V c 5 t) (iblk0 V c 6 t)) (k0_pay16 (grid0.coords t) (iblk0 V c 0 t) (iblk0 V c 1 t) (iblk0 V c 2 t) (iblk0 V c 3 t) (iblk0 V c 4 t) (iblk0 V c 5 t) (iblk0 V c 6 t)) (pt0 t) r e).trans ?_
  rw [ql_at H, qh_at H]
  rfl

theorem arr0_8 : (dat0 V c).arrAt 8 cfg0.N = fun y : S2048x512.Idx => hi A A.Wq (y 0) (head32 (y 1)) (lane32 (y 1)) := by
  refine (dat0 V c).arrAt_eq_of_covers 8 _ (by decide +kernel) fun t hf y => ?_
  obtain ⟨r, e, rfl⟩ : ∃ (r : Fin 256) (e : Fin 512), y = ix2 r e := ⟨y 0, y 1, Idealize.ShloMosaic.eq_ix2 y⟩
  have e0 : (((View.whole main_v17_1).slice (win0_8.rect t)).emb (ix2 r e)) = ix2 (tok (pt0 t) r) e := by
    blk_ext [idx0_8 t, tok, pt0]
  blk_simp
  rw [after0_8]
  frame_out
  rw [e0]
  refine (pay13_at (k0_pay15 (grid0.coords t) (iblk0 V c 0 t) (iblk0 V c 1 t) (iblk0 V c 2 t) (iblk0 V c 3 t) (iblk0 V c 4 t) (iblk0 V c 5 t) (iblk0 V c 6 t)) (k0_pay16 (grid0.coords t) (iblk0 V c 0 t) (iblk0 V c 1 t) (iblk0 V c 2 t) (iblk0 V c 3 t) (iblk0 V c 4 t) (iblk0 V c 5 t) (iblk0 V c 6 t)) (pt0 t) r e).trans ?_
  rw [ql_at H, qh_at H]
  rfl

theorem arr0_9 : (dat0 V c).arrAt 9 cfg0.N = fun y : S2048x512.Idx => lo A A.Wk (y 0) (head32 (y 1)) (lane32 (y 1)) := by
  refine (dat0 V c).arrAt_eq_of_covers 9 _ (by decide +kernel) fun t hf y => ?_
  obtain ⟨r, e, rfl⟩ : ∃ (r : Fin 256) (e : Fin 512), y = ix2 r e := ⟨y 0, y 1, Idealize.ShloMosaic.eq_ix2 y⟩
  have e0 : (((View.whole main_v17_2).slice (win0_9.rect t)).emb (ix2 r e)) = ix2 (tok (pt0 t) r) e := by
    blk_ext [idx0_9 t, tok, pt0]
  blk_simp
  rw [after0_9]
  frame_out
  rw [e0]
  refine (pay14_at (k0_pay17 (grid0.coords t) (iblk0 V c 0 t) (iblk0 V c 1 t) (iblk0 V c 2 t) (iblk0 V c 3 t) (iblk0 V c 4 t) (iblk0 V c 5 t) (iblk0 V c 6 t)) (k0_pay18 (grid0.coords t) (iblk0 V c 0 t) (iblk0 V c 1 t) (iblk0 V c 2 t) (iblk0 V c 3 t) (iblk0 V c 4 t) (iblk0 V c 5 t) (iblk0 V c 6 t)) (pt0 t) r e).trans ?_
  rw [kl_at H, kh_at H]
  rfl

theorem arr0_10 : (dat0 V c).arrAt 10 cfg0.N = fun y : S2048x512.Idx => hi A A.Wk (y 0) (head32 (y 1)) (lane32 (y 1)) := by
  refine (dat0 V c).arrAt_eq_of_covers 10 _ (by decide +kernel) fun t hf y => ?_
  obtain ⟨r, e, rfl⟩ : ∃ (r : Fin 256) (e : Fin 512), y = ix2 r e := ⟨y 0, y 1, Idealize.ShloMosaic.eq_ix2 y⟩
  have e0 : (((View.whole main_v17_3).slice (win0_10.rect t)).emb (ix2 r e)) = ix2 (tok (pt0 t) r) e := by
    blk_ext [idx0_10 t, tok, pt0]
  blk_simp
  rw [after0_10]
  frame_out
  rw [e0]
  refine (pay2_at (k0_pay17 (grid0.coords t) (iblk0 V c 0 t) (iblk0 V c 1 t) (iblk0 V c 2 t) (iblk0 V c 3 t) (iblk0 V c 4 t) (iblk0 V c 5 t) (iblk0 V c 6 t)) (k0_pay18 (grid0.coords t) (iblk0 V c 0 t) (iblk0 V c 1 t) (iblk0 V c 2 t) (iblk0 V c 3 t) (iblk0 V c 4 t) (iblk0 V c 5 t) (iblk0 V c 6 t)) (pt0 t) r e).trans ?_
  rw [kl_at H, kh_at H]
  rfl

theorem arr0_11 : (dat0 V c).arrAt 11 cfg0.N = fun y : S2048x1024.Idx => lin (row A (y 0)) A.Wv (y 1) := by
  refine (dat0 V c).arrAt_eq_of_covers 11 _ (by decide +kernel) fun t hf y => ?_
  obtain ⟨r, e, rfl⟩ : ∃ (r : Fin 256) (e : Fin 1024), y = ix2 r e := ⟨y 0, y 1, Idealize.ShloMosaic.eq_ix2 y⟩
  have e0 : (((View.whole main_v17_4).slice (win0_11.rect t)).emb (ix2 r e)) = ix2 (tok (pt0 t) r) e := by
    blk_ext [idx0_11 t, tok, pt0]
  blk_simp
  rw [after0_11]
  frame_out
  rw [e0]
  exact v_at H t r e

end Cert.FrontKer
-- ==== Proof.FrontKerIn.lean ====
module

public import proofs.«01_k».proof.Proof.FrontKer0

@[expose] public section
noncomputable section
namespace Cert.FrontKer
open Idealize.ShloMosaic Idealize.ShloMosaic.TcCoe Idealize.SL.Sem Cert.FrontMath Cert.FrontTop Cert.FrontSpec
open Cert.FrontIdeal Cert.FrontIdeal.Gen
set_option maxRecDepth 8192

/-! The reshapes before the first call. -/

/-- The columns of a weight whose lane is in the first half of its head, and those in the second. -/
def lowCols (x : FVec Ideal S1024x1024 .f32) : FVec Ideal S1024x512 .f32 :=
  shapeCast S1024x512 (extractStridedSlice S1024x1x512 ![0, 0, 0] (shapeCast S1024x2x512 (transpose S1024x2x16x32 [0, 2, 1, 3] (shapeCast S1024x16x2x32 x shapeCasts_S1024x1024_S1024x16x2x32) transposes_S1024x16x2x32_S1024x2x16x32_0_2_1_3) shapeCasts_S1024x2x16x32_S1024x2x512) slices_S1024x2x512_S1024x1x512_0_0_0) shapeCasts_S1024x1x512_S1024x512
def highCols (x : FVec Ideal S1024x1024 .f32) : FVec Ideal S1024x512 .f32 :=
  shapeCast S1024x512 (extractStridedSlice S1024x1x512 ![0, 1, 0] (shapeCast S1024x2x512 (transpose S1024x2x16x32 [0, 2, 1, 3] (shapeCast S1024x16x2x32 x shapeCasts_S1024x1024_S1024x16x2x32) transposes_S1024x16x2x32_S1024x2x16x32_0_2_1_3) shapeCasts_S1024x2x16x32_S1024x2x512) slices_S1024x2x512_S1024x1x512_0_1_0) shapeCasts_S1024x1x512_S1024x512

theorem lowCols_at (x : FVec Ideal S1024x1024 .f32) (d : Fin 1024) (e : Fin 512) :
    lowCols x (ix2 d e) = x (ix2 d (lowc (head32 e) (lane32 e))) := by
  pointwise [lowCols]
  blk_ext [lowc, head32, lane32]
theorem highCols_at (x : FVec Ideal S1024x1024 .f32) (d : Fin 1024) (e : Fin 512) :
    highCols x (ix2 d e) = x (ix2 d (highc (head32 e) (lane32 e))) := by
  pointwise [highCols]
  blk_ext [highc, head32, lane32]

variable (W : Valuation τ sig (Elt Ideal))

theorem after_v0 : StableHlo.after hostOps0 W (Proc.devRef .tc main_v0) = shapeCast S2048x1024 (W (Proc.devRef .tc main_arg0)) shapeCasts_S1x2048x1024_S2048x1024 := by
  after_results
  rfl
theorem after_v1 : StableHlo.after hostOps0 W (Proc.devRef .tc main_v1) = shapeCast S1x1024 (W (Proc.devRef .tc main_arg1)) shapeCasts_S1024_S1x1024 := by
  after_results
  rfl
theorem after_v2 : StableHlo.after hostOps0 W (Proc.devRef .tc main_v2) = shapeCast S1x1024 (W (Proc.devRef .tc main_arg2)) shapeCasts_S1024_S1x1024 := by
  after_results
  rfl
theorem after_v10 : StableHlo.after hostOps0 W (Proc.devRef .tc main_v10) = lowCols (W (Proc.devRef .tc main_arg3)) := by
  after_results
  rfl
theorem after_v12 : StableHlo.after hostOps0 W (Proc.devRef .tc main_v12) = highCols (W (Proc.devRef .tc main_arg3)) := by
  after_results
  rfl
theorem after_v14 : StableHlo.after hostOps0 W (Proc.devRef .tc main_v14) = lowCols (W (Proc.devRef .tc main_arg4)) := by
  after_results
  rfl
theorem after_v16 : StableHlo.after hostOps0 W (Proc.devRef .tc main_v16) = highCols (W (Proc.devRef .tc main_arg4)) := by
  after_results
  rfl

variable (m : (ℓ : Loc nD τ sig) → Buf (Elt Ideal) ℓ) (ρ : Dev nD → PrngReg) (c : Dev nD)

/-- The kernel's arguments as functions of their places. -/
def argsK : Args where
  X s d := m ((c : Thread nD τ).loc main_arg0) (ix3 0 s d)
  w1 d := m ((c : Thread nD τ).loc main_arg1) (ix1 d)
  w2 d := m ((c : Thread nD τ).loc main_arg2) (ix1 d)
  Wq d e := m ((c : Thread nD τ).loc main_arg3) (ix2 d e)
  Wk d e := m ((c : Thread nD τ).loc main_arg4) (ix2 d e)
  Wv d e := m ((c : Thread nD τ).loc main_arg5) (ix2 d e)
  Wo d e := m ((c : Thread nD τ).loc main_arg6) (ix2 d e)
  Wr d e := m ((c : Thread nD τ).loc main_arg7) (ix2 d e)

theorem flat_at (x : FVec Ideal S1x2048x1024 .f32) (s : Fin 2048) (d : Fin 1024) :
    (shapeCast S2048x1024 x shapeCasts_S1x2048x1024_S2048x1024) (ix2 s d) = x (ix3 0 s d) := by
  pointwise
theorem row_at (x : FVec Ideal S1024 .f32) (d : Fin 1024) : (shapeCast S1x1024 x shapeCasts_S1024_S1x1024) (ix2 0 d) = x (ix1 d) := by
  pointwise

theorem in0 : In0 (V1 m ρ) c (argsK m c) where
  x s d := (congrFun (after_v0 (W0 m ρ c)) (ix2 s d)).trans (flat_at _ s d)
  w d := (congrFun (after_v1 (W0 m ρ c)) (ix2 0 d)).trans (row_at _ d)
  ql d e := (congrFun (after_v10 (W0 m ρ c)) (ix2 d e)).trans (lowCols_at _ d e)
  qh d e := (congrFun (after_v12 (W0 m ρ c)) (ix2 d e)).trans (highCols_at _ d e)
  kl d e := (congrFun (after_v14 (W0 m ρ c)) (ix2 d e)).trans (lowCols_at _ d e)
  kh d e := (congrFun (after_v16 (W0 m ρ c)) (ix2 d e)).trans (highCols_at _ d e)
  v d e := congrFun (W1_args m ρ c main_arg5 (by decide)) (ix2 d e)

end Cert.FrontKer
-- ==== Proof.FrontKer1.lean ====
module

public import proofs.«01_k».proof.Proof.FrontKer0
public import Idealize.ShloMosaic.Lib.Pipeline.ReadBack

@[expose] public section
noncomputable section
namespace Cert.FrontKer
open Idealize.ShloMosaic Idealize.ShloMosaic.TcCoe Idealize.SL.Sem Cert.FrontMath Cert.FrontTop Cert.FrontSpec
open Cert.FrontIdeal Cert.FrontIdeal.Gen
set_option maxRecDepth 8192

/-! The attention call: sixteen heads, each its scores, their weights and the weighed values. -/

/-- Values weighed by the exponentials of scores, divided by the sum of the exponentials. -/
def weigh {n : ℕ} (f w : Fin n → EReal) : EReal := Ideal.div (∑ k, pexp f k * w k) (∑ k, pexp f k)

variable (m : IVec S256x2048 1) (q0 q1 : FVec Ideal S256x32 .bf16) (k0 k1 : FVec Ideal S2048x32 .bf16) (v : FVec Ideal S2048x64 .bf16)

theorem pay15_at (r : Fin 256) (e : Fin 64) :
    k1_pay15 (F := Ideal) m q0 q1 k0 k1 v (ix2 r e)
      = weigh (fun k => Scalar.select (m (ix2 r k)) ((∑ x, q0 (ix2 r x) * k0 (ix2 k x) + ∑ x, q1 (ix2 r x) * k1 (ix2 k x)) * Ideal.ofBits .f32 1040187392#32) (Named.named (F := Ideal) (φ := .f32) κ "mask" 4048155338#32)) (fun k => v (ix2 k e)) := by
  pointwise [k1_pay15]
  simp only [weigh, pexp, lit_neg_inf]

theorem pay2_sel (i : grid1.Coords) (r : Fin 256) (k : Fin 2048) (a b : EReal) :
    Scalar.select (k1_pay2 i (ix2 r k)) a b = if k.val ≤ (tok (i 0) r).val then a else b := by
  pointwise [k1_pay2]
  have hw : IntOp.addi (Scalar.muli (BitVec.ofNat 32 (i 0).val) 256#32) (BitVec.ofNat 32 r.val) = BitVec.ofNat 32 (tok (i 0) r).val :=
    word_tok (i 0) r
  have ht := (tok (i 0) r).isLt
  rw [hw, sle_ofNat _ _ (by omega) (by omega)]
  by_cases h : k.val ≤ (tok (i 0) r).val
  · rw [if_pos h, if_pos h]; rfl
  · rw [if_neg h, if_neg h]; rfl

/-! ### Every head is the same term -/

theorem pay3_eq (i : grid1.Coords) : k1_pay3 (F := Ideal) i q0 q1 k0 k1 v = k1_pay15 (k1_pay2 i) q0 q1 k0 k1 v := rfl
theorem pay4_eq : k1_pay4 (F := Ideal) m q0 q1 k0 k1 v = k1_pay15 m q0 q1 k0 k1 v := rfl
theorem pay7_eq : k1_pay7 (F := Ideal) m (k1_pay5 q0 q1) (k1_pay6 k0) k1 v = k1_pay15 m q0 q1 k0 k1 v := rfl
theorem pay10_eq : k1_pay10 (F := Ideal) m (k1_pay8 q0 q1 k0 k1) (k1_pay9 (F := Ideal)) v = k1_pay15 m q0 q1 k0 k1 v := rfl
theorem pay14_eq : k1_pay14 (F := Ideal) (k1_pay12 m q0 q1 k0 k1) (k1_pay13 m q0 q1 k0 k1) v = k1_pay15 m q0 q1 k0 k1 v := rfl
theorem pay16_eq : k1_pay16 (F := Ideal) m q0 q1 k0 k1 v = k1_pay15 m q0 q1 k0 k1 v := rfl
theorem pay18_eq : k1_pay18 (F := Ideal) m (k1_pay17 q0 q1) k0 k1 v = k1_pay15 m q0 q1 k0 k1 v := rfl
theorem pay20_eq : k1_pay20 (F := Ideal) m (k1_pay19 q0 q1 k0 k1) v = k1_pay15 m q0 q1 k0 k1 v := rfl
theorem pay22_eq : k1_pay22 (F := Ideal) (k1_pay21 m q0 q1 k0 k1) v = k1_pay15 m q0 q1 k0 k1 v := rfl
theorem pay26_eq : k1_pay26 (F := Ideal) (k1_pay24 m q0 q1 k0 k1) (k1_pay25 m q0 q1 k0 k1 v) = k1_pay15 m q0 q1 k0 k1 v := rfl
theorem pay27_eq : k1_pay27 (F := Ideal) m q0 q1 k0 k1 v = k1_pay15 m q0 q1 k0 k1 v := rfl
theorem pay29_eq : k1_pay29 (F := Ideal) m (k1_pay28 q0) q1 k0 k1 v = k1_pay15 m q0 q1 k0 k1 v := rfl
theorem pay32_eq : k1_pay32 (F := Ideal) m (k1_pay30 q0 q1) (k1_pay31 k0) k1 v = k1_pay15 m q0 q1 k0 k1 v := rfl
theorem pay34_eq : k1_pay34 (F := Ideal) (k1_pay33 m q0 q1 k0 k1) v = k1_pay15 m q0 q1 k0 k1 v := rfl
theorem pay1_eq : k1_pay1 (F := Ideal) (k1_pay36 m q0 q1 k0 k1) (k1_pay37 m q0 q1 k0 k1) v = k1_pay15 m q0 q1 k0 k1 v := rfl

/-! ### Loads of a head's columns -/

/-- The column of a head's lane among the halves, and among the values. -/
def colc (h : Fin 16) (x : Fin 32) : Fin 512 := ⟨h.val * 32 + x.val, by omega⟩
def valc (h : Fin 16) (e : Fin 64) : Fin 1024 := ⟨h.val * 64 + e.val, by omega⟩

theorem ld_q (X : Vec Ideal S256x512 .bf16) (o : ℕ) (inb) (h : Fin 16) (ho : o = h.val * 32) (r : Fin 256) (x : Fin 32) :
    View.ld X (Rect.unit (s := S256x512) ![0, o] S256x32.size inb) (ix2 r x) = X (ix2 r (colc h x)) := by
  subst ho
  refine congrArg X (funext fun a => Fin.ext ?_)
  match a with
  | ⟨0, _⟩ => show 0 + 1 * r.val = r.val; omega
  | ⟨1, _⟩ => show h.val * 32 + 1 * x.val = h.val * 32 + x.val; omega
theorem ld_k (X : Vec Ideal S2048x512 .bf16) (o : ℕ) (inb) (h : Fin 16) (ho : o = h.val * 32) (r : Fin 2048) (x : Fin 32) :
    View.ld X (Rect.unit (s := S2048x512) ![0, o] S2048x32.size inb) (ix2 r x) = X (ix2 r (colc h x)) := by
  subst ho
  refine congrArg X (funext fun a => Fin.ext ?_)
  match a with
  | ⟨0, _⟩ => show 0 + 1 * r.val = r.val; omega
  | ⟨1, _⟩ => show h.val * 32 + 1 * x.val = h.val * 32 + x.val; omega
theorem ld_v (X : Vec Ideal S2048x1024 .bf16) (o : ℕ) (inb) (h : Fin 16) (ho : o = h.val * 64) (r : Fin 2048) (x : Fin 64) :
    View.ld X (Rect.unit (s := S2048x1024) ![0, o] S2048x64.size inb) (ix2 r x) = X (ix2 r (valc h x)) := by
  subst ho
  refine congrArg X (funext fun a => Fin.ext ?_)
  match a with
  | ⟨0, _⟩ => show 0 + 1 * r.val = r.val; omega
  | ⟨1, _⟩ => show h.val * 64 + 1 * x.val = h.val * 64 + x.val; omega

/-! ### The block of the context -/

variable (i : grid1.Coords) (X0 X1 : Vec Ideal S256x512 .bf16) (X2 X3 : Vec Ideal S2048x512 .bf16) (X4 : Vec Ideal S2048x1024 .bf16)

/-- A row's score of a head against row `k`. -/
def blkScore (h : Fin 16) (r : Fin 256) (k : Fin 2048) : EReal :=
  if k.val ≤ (tok (i 0) r).val then
    (∑ x, X0 (ix2 r (colc h x)) * X2 (ix2 k (colc h x)) + ∑ x, X1 (ix2 r (colc h x)) * X3 (ix2 k (colc h x))) * ((1 / 8 : ℝ) : EReal)
  else ⊥

/-- The block, entry by entry. -/
def blkCtx (y : S256x1024.Idx) : EReal :=
  weigh (blkScore i X0 X1 X2 X3 (headOf (y 1)) (y 0)) fun k => X4 (ix2 k (y 1))

theorem head_at (o o2 : ℕ) (inq ink inv ino) (h : Fin 16) (ho : o = h.val * 32) (ho2 : o2 = h.val * 64) (y : S256x64.Idx) :
    k1_pay15 (F := Ideal) (k1_pay2 i) (View.ld X0 (Rect.unit (s := S256x512) ![0, o] S256x32.size inq)) (View.ld X1 (Rect.unit (s := S256x512) ![0, o] S256x32.size inq))
      (View.ld X2 (Rect.unit (s := S2048x512) ![0, o] S2048x32.size ink)) (View.ld X3 (Rect.unit (s := S2048x512) ![0, o] S2048x32.size ink))
      (View.ld X4 (Rect.unit (s := S2048x1024) ![0, o2] S2048x64.size inv)) y
    = blkCtx i X0 X1 X2 X3 X4 ((Rect.unit (s := S256x1024) ![0, o2] S256x64.size ino).emb y) := by
  obtain ⟨r, e, rfl⟩ : ∃ (r : Fin 256) (e : Fin 64), y = ix2 r e := ⟨y 0, y 1, Idealize.ShloMosaic.eq_ix2 y⟩
  have he : (Rect.unit (s := S256x1024) ![0, o2] S256x64.size ino).emb (ix2 r e) = ix2 r (valc h e) := by
    subst ho2
    blk_ext [valc]
  have hh : headOf (valc h e) = h := Fin.ext (by have := e.isLt; show (h.val * 64 + e.val) / 64 = h.val; omega)
  rw [he]
  refine (pay15_at _ _ _ _ _ _ r e).trans ?_
  show _ = weigh (blkScore i X0 X1 X2 X3 (headOf (valc h e)) r) fun k => X4 (ix2 k (valc h e))
  rw [hh]
  congr 1
  · funext k
    rw [pay2_sel, mask_eq, lit_eighth]
    unfold blkScore
    refine congrArg (fun z : EReal => if k.val ≤ (tok (i 0) r).val then z * ((1 / 8 : ℝ) : EReal) else ⊥) ?_
    exact congrArg₂ (· + ·)
      (Finset.sum_congr rfl fun x _ => congrArg₂ (· * ·) (ld_q X0 o inq h ho r x) (ld_k X2 o ink h ho k x))
      (Finset.sum_congr rfl fun x _ => congrArg₂ (· * ·) (ld_q X1 o inq h ho r x) (ld_k X3 o ink h ho k x))
  · funext k
    exact ld_v X4 o2 _ h ho2 k e

theorem out_ctx (y : S256x1024.Idx) : out1_5 (F := Ideal) i X0 X1 X2 X3 X4 y = blkCtx i X0 X1 X2 X3 X4 y := by
  unfold_out out1_5
  refine View.canon_apply_of_pieces (Val := Elt Ideal) (e := .bf16) (blkCtx i X0 X1 X2 X3 X4) _ (View.PiecesOf.mem ?_) y (cover1_5 _ _ _ _ _ _ _ _ _ _ _ _ _ _ _ _ y)
  refine ⟨?_, ?_, ?_, ?_, ?_, ?_, ?_, ?_, ?_, ?_, ?_, ?_, ?_, ?_, ?_, ?_, trivial⟩
  · exact fun x => (congrFun (pay1_eq _ _ _ _ _ _) x).trans (head_at i X0 X1 X2 X3 X4 480 960 _ _ _ inb_S256x1024_S256x64_0_960 15 rfl rfl x)
  · exact fun x => (congrFun (pay34_eq _ _ _ _ _ _) x).trans (head_at i X0 X1 X2 X3 X4 448 896 _ _ _ inb_S256x1024_S256x64_0_896 14 rfl rfl x)
  · exact fun x => (congrFun (pay32_eq _ _ _ _ _ _) x).trans (head_at i X0 X1 X2 X3 X4 416 832 _ _ _ inb_S256x1024_S256x64_0_832 13 rfl rfl x)
  · exact fun x => (congrFun (pay29_eq _ _ _ _ _ _) x).trans (head_at i X0 X1 X2 X3 X4 384 768 _ _ _ inb_S256x1024_S256x64_0_768 12 rfl rfl x)
  · exact fun x => (congrFun (pay27_eq _ _ _ _ _ _) x).trans (head_at i X0 X1 X2 X3 X4 352 704 _ _ _ inb_S256x1024_S256x64_0_704 11 rfl rfl x)
  · exact fun x => (congrFun (pay26_eq _ _ _ _ _ _) x).trans (head_at i X0 X1 X2 X3 X4 320 640 _ _ _ inb_S256x1024_S256x64_0_640 10 rfl rfl x)
  · exact fun x => (congrFun (pay22_eq _ _ _ _ _ _) x).trans (head_at i X0 X1 X2 X3 X4 288 576 _ _ _ inb_S256x1024_S256x64_0_576 9 rfl rfl x)
  · exact fun x => (congrFun (pay20_eq _ _ _ _ _ _) x).trans (head_at i X0 X1 X2 X3 X4 256 512 _ _ _ inb_S256x1024_S256x64_0_512 8 rfl rfl x)
  · exact fun x => (congrFun (pay18_eq _ _ _ _ _ _) x).trans (head_at i X0 X1 X2 X3 X4 224 448 _ _ _ inb_S256x1024_S256x64_0_448 7 rfl rfl x)
  · exact fun x => (congrFun (pay16_eq _ _ _ _ _ _) x).trans (head_at i X0 X1 X2 X3 X4 192 384 _ _ _ inb_S256x1024_S256x64_0_384 6 rfl rfl x)
  · exact fun x => head_at i X0 X1 X2 X3 X4 160 320 _ _ _ inb_S256x1024_S256x64_0_320 5 rfl rfl x
  · exact fun x => (congrFun (pay14_eq _ _ _ _ _ _) x).trans (head_at i X0 X1 X2 X3 X4 128 256 _ _ _ inb_S256x1024_S256x64_0_256 4 rfl rfl x)
  · exact fun x => (congrFun (pay10_eq _ _ _ _ _ _) x).trans (head_at i X0 X1 X2 X3 X4 96 192 _ _ _ inb_S256x1024_S256x64_0_192 3 rfl rfl x)
  · exact fun x => (congrFun (pay7_eq _ _ _ _ _ _) x).trans (head_at i X0 X1 X2 X3 X4 64 128 _ _ _ inb_S256x1024_S256x64_0_128 2 rfl rfl x)
  · exact fun x => (congrFun (pay4_eq _ _ _ _ _ _) x).trans (head_at i X0 X1 X2 X3 X4 32 64 _ _ _ inb_S256x1024_S256x64_0_64 1 rfl rfl x)
  · exact fun x => (congrFun (pay3_eq _ _ _ _ _ i) x).trans (head_at i X0 X1 X2 X3 X4 0 0 _ _ _ inb_S256x1024_S256x64_0_0 0 rfl rfl x)

/-! ### The array -/

variable (V : (c : Dev nD) → (b : Ref sig .tc) → Buf (Elt Ideal) ((c : Thread nD τ).loc b)) (c : Dev nD)

/-- The block of a grid point. -/
def pt1 (t : Fin cfg1.N) : Fin 8 := grid1.coords t 0

theorem idx1_0 : ∀ t : Fin cfg1.N, win1_0.index t = ![(grid1.coords t 0).val, 0] := (by decide +kernel : ∀ t : Fin grid1.N, _)
theorem idx1_1 : ∀ t : Fin cfg1.N, win1_1.index t = ![(grid1.coords t 0).val, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![(grid1.coords t 0).val, 0] := (by decide +kernel : ∀ t : Fin grid1.N, _)

theorem blk1_0 (t : Fin cfg1.N) (r : Fin 256) (d : Fin 512) : iblk1 V c 0 t (ix2 r d) = V c main_v17_0 (ix2 (tok (pt1 t) r) d) := by
  blk_ext [iblk1, idx1_0 t, tok, pt1]
theorem blk1_1 (t : Fin cfg1.N) (r : Fin 256) (d : Fin 512) : iblk1 V c 1 t (ix2 r d) = V c main_v17_1 (ix2 (tok (pt1 t) r) d) := by
  blk_ext [iblk1, idx1_1 t, tok, pt1]
theorem blk1_2 (t : Fin cfg1.N) (k : Fin 2048) (d : Fin 512) : iblk1 V c 2 t (ix2 k d) = V c main_v17_2 (ix2 k d) := by
  blk_ext [iblk1, idx1_2 t]
theorem blk1_3 (t : Fin cfg1.N) (k : Fin 2048) (d : Fin 512) : iblk1 V c 3 t (ix2 k d) = V c main_v17_3 (ix2 k d) := by
  blk_ext [iblk1, idx1_3 t]
theorem blk1_4 (t : Fin cfg1.N) (k : Fin 2048) (d : Fin 1024) : iblk1 V c 4 t (ix2 k d) = V c main_v17_4 (ix2 k d) := by
  blk_ext [iblk1, idx1_4 t]

/-- The entry contents that the attention call reads are the five arrays of the first. -/
structure In1 (A : Args) : Prop where
  ql : ∀ s e, V c main_v17_0 (ix2 s e) = lo A A.Wq s (head32 e) (lane32 e)
  qh : ∀ s e, V c main_v17_1 (ix2 s e) = hi A A.Wq s (head32 e) (lane32 e)
  kl : ∀ s e, V c main_v17_2 (ix2 s e) = lo A A.Wk s (head32 e) (lane32 e)
  kh : ∀ s e, V c main_v17_3 (ix2 s e) = hi A A.Wk s (head32 e) (lane32 e)
  v : ∀ s e, V c main_v17_4 (ix2 s e) = lin (row A s) A.Wv e

theorem head32_colc (h : Fin 16) (x : Fin 32) : head32 (colc h x) = h :=
  Fin.ext (by have := x.isLt; show (h.val * 32 + x.val) / 32 = h.val; omega)
theorem lane32_colc (h : Fin 16) (x : Fin 32) : lane32 (colc h x) = x :=
  Fin.ext (by have := x.isLt; show (h.val * 32 + x.val) % 32 = x.val; omega)

variable {V c} {A : Args} (H : In1 V c A)
include H

theorem ctx_at (t : Fin cfg1.N) (r : Fin 256) (e : Fin 1024) :
    blkCtx (grid1.coords t) (iblk1 V c 0 t) (iblk1 V c 1 t) (iblk1 V c 2 t) (iblk1 V c 3 t) (iblk1 V c 4 t) (ix2 r e) = ctx A (tok (pt1 t) r) e := by
  show weigh (blkScore (grid1.coords t) (iblk1 V c 0 t) (iblk1 V c 1 t) (iblk1 V c 2 t) (iblk1 V c 3 t) (headOf e) r) (fun k => iblk1 V c 4 t (ix2 k e)) = _
  have hs : blkScore (grid1.coords t) (iblk1 V c 0 t) (iblk1 V c 1 t) (iblk1 V c 2 t) (iblk1 V c 3 t) (headOf e) r = score A (headOf e) (tok (pt1 t) r) := by
    funext k
    refine congrArg (fun z : EReal => if k.val ≤ (tok (pt1 t) r).val then z * ((1 / 8 : ℝ) : EReal) else ⊥) ?_
    refine congrArg₂ (· + ·) (Finset.sum_congr rfl fun x _ => congrArg₂ (· * ·) ?_ ?_) (Finset.sum_congr rfl fun x _ => congrArg₂ (· * ·) ?_ ?_)
    · exact (blk1_0 V c t r _).trans ((H.ql _ _).trans (by rw [head32_colc, lane32_colc]))
    · exact (blk1_2 V c t k _).trans ((H.kl _ _).trans (by rw [head32_colc, lane32_colc]))
    · exact (blk1_1 V c t r _).trans ((H.qh _ _).trans (by rw [head32_colc, lane32_colc]))
    · exact (blk1_3 V c t k _).trans ((H.kh _ _).trans (by rw [head32_colc, lane32_colc]))
  have hv : (fun k => iblk1 V c 4 t (ix2 k e)) = fun k => lin (row A k) A.Wv e := funext fun k => (blk1_4 V c t k e).trans (H.v k e)
  rw [hs]
  exact congrArg (weigh _) hv

theorem arr1_5 : (dat1 V c).arrAt 5 cfg1.N = fun y : S2048x1024.Idx => ctx A (y 0) (y 1) := by
  refine (dat1 V c).arrAt_eq_of_covers 5 _ (by decide +kernel) fun t hf y => ?_
  obtain ⟨r, e, rfl⟩ : ∃ (r : Fin 256) (e : Fin 1024), y = ix2 r e := ⟨y 0, y 1, Idealize.ShloMosaic.eq_ix2 y⟩
  have e0 : (((View.whole main_v18).slice (win1_5.rect t)).emb (ix2 r e)) = ix2 (tok (pt1 t) r) e := by
    blk_ext [idx1_5 t, tok, pt1]
  blk_simp
  rw [after1_5, e0]
  exact (out_ctx (grid1.coords t) (iblk1 V c 0 t) (iblk1 V c 1 t) (iblk1 V c 2 t) (iblk1 V c 3 t) (iblk1 V c 4 t) (ix2 r e)).trans (ctx_at H t r e)

end Cert.FrontKer
-- ==== Proof.FrontKer2.lean ====
module

public import proofs.«01_k».proof.Proof.FrontKer1

@[expose] public section
noncomputable section
namespace Cert.FrontKer
open Idealize.ShloMosaic Idealize.ShloMosaic.TcCoe Idealize.SL.Sem Cert.FrontMath Cert.FrontTop Cert.FrontSpec
open Cert.FrontIdeal Cert.FrontIdeal.Gen
set_option maxRecDepth 8192

/-! The third call: the residual after the output projection, its normalised rows and the router's logits. -/

section
variable (a : FVec Ideal S256x1024 .f32) (b : FVec Ideal S256x1024 .bf16) (W : FVec Ideal S1024x1024 .f32) (w : FVec Ideal S1x1024 .f32) (R : FVec Ideal S1024x8 .f32)

theorem res_at (r : Fin 256) (e : Fin 1024) :
    k2_pay1 (F := Ideal) a b W (ix2 r e) = a (ix2 r e) + lin (fun d => b (ix2 r d)) (fun d c => W (ix2 d c)) e := by
  pointwise [k2_pay1]
  rfl

theorem logit_at (r : Fin 256) (e : Fin 8) :
    k2_pay3 (F := Ideal) a b W w R (ix2 r e)
      = lin (rms (fun d => k2_pay1 (F := Ideal) a b W (ix2 r d)) (fun d => w (ix2 0 d))) (fun d c => R (ix2 d c)) e := by
  pointwise [k2_pay3, k2_pay2]
  rfl
end

variable (V : (c : Dev nD) → (b : Ref sig .tc) → Buf (Elt Ideal) ((c : Thread nD τ).loc b)) (c : Dev nD)

def pt2 (t : Fin cfg2.N) : Fin 8 := grid2.coords t 0

theorem idx2_0 : ∀ t : Fin cfg2.N, win2_0.index t = ![(grid2.coords t 0).val, 0] := (by decide +kernel : ∀ t : Fin grid2.N, _)
theorem idx2_1 : ∀ t : Fin cfg2.N, win2_1.index t = ![(grid2.coords t 0).val, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![(grid2.coords t 0).val, 0] := (by decide +kernel : ∀ t : Fin grid2.N, _)
theorem idx2_7 : ∀ t : Fin cfg2.N, win2_7.index t = ![(grid2.coords t 0).val, 0] := (by decide +kernel : ∀ t : Fin grid2.N, _)

theorem blk2_0 (t : Fin cfg2.N) (r : Fin 256) (d : Fin 1024) : iblk2 V c 0 t (ix2 r d) = V c main_v18 (ix2 (tok (pt2 t) r) d) := by
  blk_ext [iblk2, idx2_0 t, tok, pt2]
theorem blk2_1 (t : Fin cfg2.N) (r : Fin 256) (d : Fin 1024) : iblk2 V c 1 t (ix2 r d) = V c main_v0 (ix2 (tok (pt2 t) r) d) := by
  blk_ext [iblk2, idx2_1 t, tok, pt2]
theorem blk2_2 (t : Fin cfg2.N) (d e : Fin 1024) : iblk2 V c 2 t (ix2 d e) = V c main_arg6 (ix2 d e) := by
  blk_ext [iblk2, idx2_2 t]
theorem blk2_3 (t : Fin cfg2.N) (d : Fin 1024) : iblk2 V c 3 t (ix2 0 d) = V c main_v2 (ix2 0 d) := by
  blk_ext [iblk2, idx2_3 t]
theorem blk2_4 (t : Fin cfg2.N) (d : Fin 1024) (e : Fin 8) : iblk2 V c 4 t (ix2 d e) = V c main_arg7 (ix2 d e) := by
  blk_ext [iblk2, idx2_4 t]

/-- The entry contents that the third call reads. -/
structure In2 (A : Args) : Prop where
  ctx : ∀ s e, V c main_v18 (ix2 s e) = ctx A s e
  x : ∀ s d, V c main_v0 (ix2 s d) = A.X s d
  wo : ∀ d e, V c main_arg6 (ix2 d e) = A.Wo d e
  w2 : ∀ d, V c main_v2 (ix2 0 d) = A.w2 d
  wr : ∀ d e, V c main_arg7 (ix2 d e) = A.Wr d e

variable {V c} {A : Args} (H : In2 V c A)
include H

theorem x1_at (t : Fin cfg2.N) (r : Fin 256) (e : Fin 1024) :
    k2_pay1 (F := Ideal) (iblk2 V c 1 t) (iblk2 V c 0 t) (iblk2 V c 2 t) (ix2 r e) = x1 A (tok (pt2 t) r) e := by
  refine (res_at (iblk2 V c 1 t) (iblk2 V c 0 t) (iblk2 V c 2 t) r e).trans ?_
  refine congrArg₂ (· + ·) ((blk2_1 V c t r e).trans (H.x _ _)) (Finset.sum_congr rfl fun d _ => congrArg₂ (· * ·) ?_ ?_)
  · exact (blk2_0 V c t r d).trans (H.ctx _ _)
  · exact (blk2_2 V c t d e).trans (H.wo _ _)

theorem arr2_5 : (dat2 V c).arrAt 5 cfg2.N = fun y : S2048x1024.Idx => x1 A (y 0) (y 1) := by
  refine (dat2 V c).arrAt_eq_of_covers 5 _ (by decide +kernel) fun t hf y => ?_
  obtain ⟨r, e, rfl⟩ : ∃ (r : Fin 256) (e : Fin 1024), y = ix2 r e := ⟨y 0, y 1, Idealize.ShloMosaic.eq_ix2 y⟩
  have e0 : (((View.whole main_v19_0).slice (win2_5.rect t)).emb (ix2 r e)) = ix2 (tok (pt2 t) r) e := by
    blk_ext [idx2_5 t, tok, pt2]
  blk_simp
  rw [after2_5]
  frame_out
  rw [e0]
  exact x1_at H t r e

theorem arr2_7 : (dat2 V c).arrAt 7 cfg2.N = fun y : S2048x8.Idx => logit A (y 0) (y 1) := by
  refine (dat2 V c).arrAt_eq_of_covers 7 _ (by decide +kernel) fun t hf y => ?_
  obtain ⟨r, e, rfl⟩ : ∃ (r : Fin 256) (e : Fin 8), y = ix2 r e := ⟨y 0, y 1, Idealize.ShloMosaic.eq_ix2 y⟩
  have e0 : (((View.whole main_v19_2).slice (win2_7.rect t)).emb (ix2 r e)) = ix2 (tok (pt2 t) r) e := by
    blk_ext [idx2_7 t, tok, pt2]
  blk_simp
  rw [after2_7]
  frame_out
  rw [e0]
  refine (logit_at (iblk2 V c 1 t) (iblk2 V c 0 t) (iblk2 V c 2 t) (iblk2 V c 3 t) (iblk2 V c 4 t) r e).trans ?_
  refine Finset.sum_congr rfl fun d _ => congrArg₂ (· * ·) (congrFun (congrArg₂ rms ?_ ?_) d) ((blk2_4 V c t d e).trans (H.wr _ _))
  · exact funext fun d => x1_at H t r d
  · exact funext fun d => (blk2_3 V c t d).trans (H.w2 d)

end Cert.FrontKer
-- ==== Proof.FrontKer3.lean ====
module

public import proofs.«01_k».proof.Proof.FrontKer2

@[expose] public section
noncomputable section
namespace Cert.FrontKer
open Idealize.ShloMosaic Idealize.ShloMosaic.TcCoe Idealize.SL.Sem Cert.FrontMath Cert.FrontTop Cert.FrontSpec
open Cert.FrontIdeal Cert.FrontIdeal.Gen
set_option maxRecDepth 8192

/-! The last call: the probabilities, the two largest of a row, their gates and the load-balancing loss. -/

variable (v : FVec Ideal S2048x8 .f32) (r : Fin 2048)

/-- A row's probabilities. -/
def pr (e : Fin 8) : EReal := k3_pay1 (F := Ideal) v (ix2 r e)

theorem pr_eq (e : Fin 8) : pr v r e = Ideal.div (pexp (fun e => v (ix2 r e)) e) (∑ x, pexp (fun e => v (ix2 r e)) x) := by
  pointwise [pr, k3_pay1]
  simp only [pexp, lit_neg_inf]

theorem max_at : k3_pay2 (F := Ideal) v (ix2 r 0) = Finset.fold max ⊥ (pr v r) Finset.univ := by
  pointwise [k3_pay2]
  rw [lit_neg_inf]
  rfl
theorem place_at : k3_pay3 (F := Ideal) v (ix2 r 0)
    = Finset.fold IntOp.minsi (2147483647#32) (fun x : Fin 8 => if pr v r x = k3_pay2 (F := Ideal) v (ix2 r 0) then BitVec.ofNat 32 x.val else 8#32) Finset.univ := by
  pointwise [k3_pay3]
  rfl
theorem hot_at (e : Fin 8) : k3_pay4 (F := Ideal) v (ix2 r e)
    = FloatOps.sitofp (F := Ideal) .f32 (BitVec.setWidth 32 (IntOp.cmpi .eq (BitVec.ofNat 32 e.val) (k3_pay3 (F := Ideal) v (ix2 r 0)))) := by
  pointwise [k3_pay4]
theorem cover_at (e : Fin 8) : k3_pay5 (F := Ideal) v (ix2 r e)
    = Scalar.select (IntOp.cmpi .eq (BitVec.ofNat 32 e.val) (k3_pay3 (F := Ideal) v (ix2 r 0))) (Named.named (F := Ideal) (φ := .f32) κ "mask" 4048155338#32) (pr v r e) := by
  pointwise [k3_pay5]
  rfl
theorem max2_at : k3_pay6 (F := Ideal) v (ix2 r 0) = Finset.fold max ⊥ (fun e : Fin 8 => k3_pay5 (F := Ideal) v (ix2 r e)) Finset.univ := by
  pointwise [k3_pay6]
  rw [lit_neg_inf]
theorem hot2_at (e : Fin 8) : k3_pay7 (F := Ideal) v (ix2 r e)
    = FloatOps.sitofp (F := Ideal) .f32 (BitVec.setWidth 32 (IntOp.cmpi .eq (BitVec.ofNat 32 e.val)
        (Finset.fold IntOp.minsi (2147483647#32) (fun x : Fin 8 => if k3_pay5 (F := Ideal) v (ix2 r x) = k3_pay6 (F := Ideal) v (ix2 r 0) then BitVec.ofNat 32 x.val else 8#32) Finset.univ))) := by
  pointwise [k3_pay7]
theorem gate0_at : k3_pay9 (F := Ideal) v (ix2 r 0) = Ideal.div (k3_pay2 (F := Ideal) v (ix2 r 0)) (k3_pay2 (F := Ideal) v (ix2 r 0) + k3_pay6 (F := Ideal) v (ix2 r 0)) := by
  pointwise [k3_pay9, k3_pay8]
theorem gate1_at : k3_pay10 (F := Ideal) v (ix2 r 0) = Ideal.div (k3_pay6 (F := Ideal) v (ix2 r 0)) (k3_pay2 (F := Ideal) v (ix2 r 0) + k3_pay6 (F := Ideal) v (ix2 r 0)) := by
  pointwise [k3_pay10, k3_pay8]
theorem both_at (v w : FVec Ideal S2048x8 .f32) (e : Fin 8) : k3_pay11 (F := Ideal) v w (ix2 r e) = v (ix2 r e) + w (ix2 r e) := by
  pointwise [k3_pay11]
theorem loss_at (v w : FVec Ideal S2048x8 .f32) : k3_pay42 (F := Ideal) v w (ix2 0 0)
    = Ideal.ofBits .f32 0x41000000#32 * ∑ e : Fin 8, Ideal.div (∑ r : Fin 2048, w (ix2 r e)) (Ideal.ofBits .f32 0x45800000#32) * Ideal.div (∑ r : Fin 2048, v (ix2 r e)) (Ideal.ofBits .f32 0x45000000#32) := by
  pointwise [k3_pay42]

theorem word_eq (a b : Fin 8) : IntOp.cmpi .eq (BitVec.ofNat 32 a.val) (BitVec.ofNat 32 b.val) = BitVec.ofBool (decide (a = b)) := by
  revert a b; decide +kernel

theorem sitofp_bit (b : Bool) : FloatOps.sitofp (F := Ideal) .f32 (BitVec.setWidth 32 (BitVec.ofBool b)) = if b then 1 else 0 := by
  cases b
  · show ((((BitVec.setWidth 32 (BitVec.ofBool false)).toInt : ℝ)) : EReal) = _
    simp
  · show ((((BitVec.setWidth 32 (BitVec.ofBool true)).toInt : ℝ)) : EReal) = _
    simp

theorem select_bit (b : Bool) (x y : EReal) : Scalar.select (BitVec.ofBool b) x y = if b then x else y := by
  cases b <;> rfl

/-- The first place of a maximum, as the running minimum of place words leaves it. -/
theorem place_first (p : Fin 8 → EReal) (a : Fin 8) (h : ∀ j, j ≠ a → p j < p a ∨ (p j = p a ∧ a < j)) :
    Finset.fold max ⊥ p Finset.univ = p a
    ∧ Finset.fold IntOp.minsi (2147483647#32) (fun x : Fin 8 => if p x = p a then BitVec.ofNat 32 x.val else 8#32) Finset.univ = BitVec.ofNat 32 a.val := by
  refine ⟨fold_max_eq p a fun j => ?_, fold_min_eq (fun x => p x = p a) a rfl fun j hj he => ?_⟩
  · by_cases hj : j = a
    · rw [hj]
    · rcases h j hj with h1 | ⟨h1, -⟩
      · exact h1.le
      · exact h1.le
  · rcases h j hj.ne with h1 | ⟨-, h2⟩
    · exact absurd he h1.ne
    · exact absurd h2 (not_lt.mpr hj.le)

/-- The two picks of a row whose probabilities are not −∞. -/
theorem picks (hp : ∀ e, pr v r e ≠ ⊥) :
    k3_pay2 (F := Ideal) v (ix2 r 0) = pr v r (first (pr v r)) ∧ k3_pay6 (F := Ideal) v (ix2 r 0) = pr v r (second (pr v r))
    ∧ (∀ e, k3_pay4 (F := Ideal) v (ix2 r e) = if e = first (pr v r) then 1 else 0)
    ∧ (∀ e, k3_pay7 (F := Ideal) v (ix2 r e) = if e = second (pr v r) then 1 else 0) := by
  obtain ⟨a, ha⟩ := exists_first (pr v r)
  obtain ⟨b, hb⟩ := exists_first (cover (pr v r) a)
  have ht : IsTop (pr v r) a b := isTop_cover hp ha hb
  obtain ⟨ea, eb⟩ := ht.unique (isTop_first_second (pr v r))
  have h2 : k3_pay2 (F := Ideal) v (ix2 r 0) = pr v r a := (max_at v r).trans (place_first _ a ha).1
  have h3 : k3_pay3 (F := Ideal) v (ix2 r 0) = BitVec.ofNat 32 a.val := by
    rw [place_at, h2]
    exact (place_first _ a ha).2
  have h5 : ∀ e, k3_pay5 (F := Ideal) v (ix2 r e) = cover (pr v r) a e := fun e => by
    rw [cover_at, h3, word_eq, select_bit, mask_eq]
    simp only [decide_eq_true_eq]
    rfl
  have h5' : (fun e : Fin 8 => k3_pay5 (F := Ideal) v (ix2 r e)) = cover (pr v r) a := funext h5
  have h6 : k3_pay6 (F := Ideal) v (ix2 r 0) = cover (pr v r) a b := by
    rw [max2_at, h5']
    exact (place_first _ b hb).1
  have h7 : Finset.fold IntOp.minsi (2147483647#32) (fun x : Fin 8 => if k3_pay5 (F := Ideal) v (ix2 r x) = k3_pay6 (F := Ideal) v (ix2 r 0) then BitVec.ofNat 32 x.val else 8#32) Finset.univ
      = BitVec.ofNat 32 b.val := by
    simp only [h5, h6]
    exact (place_first _ b hb).2
  rw [ea, eb]
  refine ⟨h2, h6.trans (if_neg ht.ne), fun e => ?_, fun e => ?_⟩
  · rw [hot_at, h3, word_eq, sitofp_bit]
    simp only [decide_eq_true_eq]
  · rw [hot2_at, h7, word_eq, sitofp_bit]
    simp only [decide_eq_true_eq]

theorem gate0_eq (hp : ∀ e, pr v r e ≠ ⊥) : k3_pay9 (F := Ideal) v (ix2 r 0) = gate0 (pr v r) := by
  obtain ⟨h1, h2, -, -⟩ := picks v r hp
  rw [gate0_at, h1, h2]
  rfl
theorem gate1_eq (hp : ∀ e, pr v r e ≠ ⊥) : k3_pay10 (F := Ideal) v (ix2 r 0) = gate1 (pr v r) := by
  obtain ⟨h1, h2, -, -⟩ := picks v r hp
  rw [gate1_at, h1, h2]
  rfl

theorem ld3 (X : Vec Ideal S2048x8 .f32) : View.ld X r3_0 = X := View.ld_unit_lit _ X (by decide)
theorem val45 (X : Vec Ideal S2048x8 .f32) : k3_pay45 X = k3_pay11 (k3_pay4 X) (k3_pay7 X) := by
  unfold k3_pay45 k3_pay43 k3_pay44
  rw [ld3]

theorem load_eq (hp : ∀ r e, pr v r e ≠ ⊥) (e : Fin 8) :
    (∑ r : Fin 2048, k3_pay11 (F := Ideal) (k3_pay4 v) (k3_pay7 v) (ix2 r e)) = FrontSpec.load (pr v) e := by
  unfold FrontSpec.load
  refine Finset.sum_congr rfl fun r _ => ?_
  obtain ⟨-, -, h4, h7⟩ := picks v r (hp r)
  rw [both_at, h4, h7]

theorem loss_eq (hp : ∀ r e, pr v r e ≠ ⊥) : k3_pay42 (F := Ideal) (k3_pay1 v) (k3_pay45 v) (ix2 0 0) = aux (pr v) := by
  rw [val45, loss_at]
  simp only [load_eq v hp]
  unfold aux pr
  rfl

/-! ### The arrays -/

variable (V : (c : Dev nD) → (b : Ref sig .tc) → Buf (Elt Ideal) ((c : Thread nD τ).loc b)) (c : Dev nD)

theorem idx3_0 : ∀ t : Fin cfg3.N, win3_0.index t = ![0, 0] := (by decide +kernel : ∀ t : Fin grid3.N, _)
theorem idx3_3 : ∀ t : Fin cfg3.N, win3_3.index t = ![0, 0] := (by decide +kernel : ∀ t : Fin grid3.N, _)
theorem idx3_4 : ∀ t : Fin cfg3.N, win3_4.index t = ![0, 0] := (by decide +kernel : ∀ t : Fin grid3.N, _)
theorem idx3_6 : ∀ t : Fin cfg3.N, win3_6.index t = ![0, 0] := (by decide +kernel : ∀ t : Fin grid3.N, _)

theorem blk3_0 (t : Fin cfg3.N) (s : Fin 2048) (e : Fin 8) : iblk3 V c 0 t (ix2 s e) = V c main_v19_2 (ix2 s e) := by
  blk_ext [iblk3, idx3_0 t]

/-- The entry contents that the last call reads are the logits of real arguments. -/
structure In3 (A : Args) : Prop where
  real : A.Real
  logit : ∀ s e, V c main_v19_2 (ix2 s e) = logit A s e

variable {V c} {A : Args} (H : In3 V c A)
include H

theorem pr_blk (t : Fin cfg3.N) (s : Fin 2048) : pr (iblk3 V c 0 t) s = prob A s := by
  funext e
  refine (pr_eq (iblk3 V c 0 t) s e).trans ?_
  have h : (fun e => iblk3 V c 0 t (ix2 s e)) = logit A s := funext fun e => (blk3_0 V c t s e).trans (H.logit s e)
  exact congrArg (fun f : Fin 8 → EReal => Ideal.div (pexp f e) (∑ x, pexp f x)) h

theorem pr_ne (t : Fin cfg3.N) (s : Fin 2048) (e : Fin 8) : pr (iblk3 V c 0 t) s e ≠ ⊥ := by
  rw [pr_blk H]
  exact (real_prob H.real s e).ne_bot

theorem arr3_3 : (dat3 V c).arrAt 3 cfg3.N = fun y : S2048x1.Idx => gate0 (prob A (y 0)) := by
  refine (dat3 V c).arrAt_eq_of_covers 3 _ (by decide +kernel) fun t hf y => ?_
  obtain ⟨r, e, rfl⟩ : ∃ (r : Fin 2048) (e : Fin 1), y = ix2 r e := ⟨y 0, y 1, Idealize.ShloMosaic.eq_ix2 y⟩
  obtain rfl : e = 0 := Subsingleton.elim _ _
  have e0 : (((View.whole main_v20_2).slice (win3_3.rect t)).emb (ix2 r 0)) = ix2 r 0 := by
    blk_ext [idx3_3 t]
  blk_simp
  rw [after3_3]
  frame_out
  rw [e0]
  refine (gate0_eq (iblk3 V c 0 t) r (pr_ne H t r)).trans ?_
  rw [pr_blk H]
  rfl

theorem arr3_4 : (dat3 V c).arrAt 4 cfg3.N = fun y : S2048x1.Idx => gate1 (prob A (y 0)) := by
  refine (dat3 V c).arrAt_eq_of_covers 4 _ (by decide +kernel) fun t hf y => ?_
  obtain ⟨r, e, rfl⟩ : ∃ (r : Fin 2048) (e : Fin 1), y = ix2 r e := ⟨y 0, y 1, Idealize.ShloMosaic.eq_ix2 y⟩
  obtain rfl : e = 0 := Subsingleton.elim _ _
  have e0 : (((View.whole main_v20_3).slice (win3_4.rect t)).emb (ix2 r 0)) = ix2 r 0 := by
    blk_ext [idx3_4 t]
  blk_simp
  rw [after3_4]
  frame_out
  rw [e0]
  refine (gate1_eq (iblk3 V c 0 t) r (pr_ne H t r)).trans ?_
  rw [pr_blk H]
  rfl

theorem arr3_6 : (dat3 V c).arrAt 6 cfg3.N = fun _ : S1x1.Idx => aux (prob A) := by
  refine (dat3 V c).arrAt_eq_of_covers 6 _ (by decide +kernel) fun t hf y => ?_
  obtain ⟨r, e, rfl⟩ : ∃ (r e : Fin 1), y = ix2 r e := ⟨y 0, y 1, Idealize.ShloMosaic.eq_ix2 y⟩
  obtain rfl : e = 0 := Subsingleton.elim _ _
  obtain rfl : r = 0 := Subsingleton.elim _ _
  blk_simp
  rw [after3_6]
  frame_out
  refine (loss_eq (iblk3 V c 0 t) (pr_ne H t)).trans ?_
  exact congrArg aux (funext fun s => pr_blk H t s)

end Cert.FrontKer
-- ==== Proof.FrontKer.lean ====
module

public import proofs.«01_k».proof.Proof.FrontKerIn
public import proofs.«01_k».proof.Proof.FrontKer3

@[expose] public section
noncomputable section
namespace Cert.FrontKer
open Idealize.ShloMosaic Idealize.ShloMosaic.TcCoe Idealize.SL.Sem Cert.FrontMath Cert.FrontTop Cert.FrontSpec
open Cert.FrontIdeal Cert.FrontIdeal.Gen
set_option maxRecDepth 8192

/-! The four calls in a row: what each reads is what an earlier one left, or an argument. -/

variable (m : (ℓ : Loc nD τ sig) → Buf (Elt Ideal) ℓ) (ρ : Dev nD → PrngReg) (c : Dev nD)

theorem in1 : In1 (V2 m ρ) c (argsK m c) where
  ql s e := congrFun ((W2_arr m ρ c 7).trans (arr0_7 (in0 m ρ c))) (ix2 s e)
  qh s e := congrFun ((W2_arr m ρ c 8).trans (arr0_8 (in0 m ρ c))) (ix2 s e)
  kl s e := congrFun ((W2_arr m ρ c 9).trans (arr0_9 (in0 m ρ c))) (ix2 s e)
  kh s e := congrFun ((W2_arr m ρ c 10).trans (arr0_10 (in0 m ρ c))) (ix2 s e)
  v s e := congrFun ((W2_arr m ρ c 11).trans (arr0_11 (in0 m ρ c))) (ix2 s e)

theorem in2 : In2 (V3 m ρ) c (argsK m c) where
  ctx s e := congrFun ((W3_arr m ρ c 5).trans (arr1_5 (in1 m ρ c))) (ix2 s e)
  x s d := (congrFun ((W3_of m ρ c main_v0 (by decide)).trans (W2_of m ρ c main_v0 (by decide))) (ix2 s d)).trans ((in0 m ρ c).x s d)
  wo d e := congrFun (W3_args m ρ c main_arg6 (by decide)) (ix2 d e)
  w2 d := (congrFun ((W3_of m ρ c main_v2 (by decide)).trans (W2_of m ρ c main_v2 (by decide))) (ix2 0 d)).trans
    ((congrFun (after_v2 (W0 m ρ c)) (ix2 0 d)).trans (row_at _ d))
  wr d e := congrFun (W3_args m ρ c main_arg7 (by decide)) (ix2 d e)

theorem in3 (hA : (argsK m c).Real) : In3 (V4 m ρ) c (argsK m c) where
  real := hA
  logit s e := congrFun ((W4_arr m ρ c 7).trans (arr2_7 (in2 m ρ c))) (ix2 s e)

/-- The four results. -/
def outX : FVec Ideal S2048x1024 .f32 := fun y => x1 (argsK m c) (y 0) (y 1)
def outG0 : FVec Ideal S2048x1 .f32 := fun y => gate0 (prob (argsK m c) (y 0))
def outG1 : FVec Ideal S2048x1 .f32 := fun y => gate1 (prob (argsK m c) (y 0))
def outAux : FVec Ideal S1x1 .f32 := fun _ => aux (prob (argsK m c))

theorem end_x : W5 m ρ c (Proc.devRef .tc main_v19_0) = outX m c :=
  (W5_of m ρ c main_v19_0 (by decide)).trans ((W4_arr m ρ c 5).trans (arr2_5 (in2 m ρ c)))
theorem end_g0 (hA : (argsK m c).Real) : W5 m ρ c (Proc.devRef .tc main_v20_2) = outG0 m c :=
  (W5_arr m ρ c 3).trans (arr3_3 (in3 m ρ c hA))
theorem end_g1 (hA : (argsK m c).Real) : W5 m ρ c (Proc.devRef .tc main_v20_3) = outG1 m c :=
  (W5_arr m ρ c 4).trans (arr3_4 (in3 m ρ c hA))
theorem end_aux (hA : (argsK m c).Real) : W5 m ρ c (Proc.devRef .tc main_v20_5) = outAux m c :=
  (W5_arr m ρ c 6).trans (arr3_6 (in3 m ρ c hA))

section Launch
open Idealize.SL Idealize.SL.RA Idealize.SL.BI Idealize.SL.BI.BIBase Idealize.SL.BI.Laws Idealize.SL.ProofMode
open Idealize.ShloMosaic.Rounds
open scoped Idealize.SL.BI

local notation "𝕄" => MT nD τ sig Unit (Elt Ideal) ℕ (UR sig nD τ) ℕ

-- unifying the launch rule's conclusion with this one unfolds plain definitions in a type
set_option backward.isDefEq.respectTransparency.types false in
/-- The program runs, and every array of @main ends as the last call leaves it. -/
theorem run_all : θ_run (defs (F := Ideal)) (onTc (τ := τ) (main (F := Ideal))) ⟨m, fun _ => 0, ρ⟩
    (fun r => ∀ c : Dev nD, ∀ b ∈ Pipeline.ucRefs τ sig, r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, HO, -, Hp, -⟩, -⟩
      imodintro
      isplitl [Hb]; · iexact Hb
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hb, -⟩, HS⟩
      unfold StableHlo.held
      imodintro
      iapply (pointsTo_read_all (Pipeline.ucRefs τ sig) (fun b => (((c : Thread nD τ)).1, b)) (W5 m ρ c) s')
      isplitl [Hb] <;> iassumption)
    (hQ := fun s h _ => h)

end Launch

/-- From finite arguments the program ends at the four results, its arguments unchanged. -/
theorem run_front (hA : ∀ c, (argsK m c).Real) : θ_run (defs (F := Ideal)) (onTc (τ := τ) (main (F := Ideal))) ⟨m, fun _ => 0, ρ⟩ (fun r => ∀ c : Dev nD,
      r.2.mem ((c.tc : Thread nD τ).loc main_v19_0) = outX m c
      ∧ r.2.mem ((c.tc : Thread nD τ).loc main_v20_2) = outG0 m c
      ∧ r.2.mem ((c.tc : Thread nD τ).loc main_v20_3) = outG1 m c
      ∧ r.2.mem ((c.tc : Thread nD τ).loc main_v20_5) = outAux m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c =>
    ⟨(h c _ (mem_uc main_v19_0 (by decide))).trans (end_x m ρ c),
     (h c _ (mem_uc main_v20_2 (by decide))).trans (end_g0 m ρ c (hA c)),
     (h c _ (mem_uc main_v20_3 (by decide))).trans (end_g1 m ρ c (hA c)),
     (h c _ (mem_uc main_v20_5 (by decide))).trans (end_aux m ρ c (hA c)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩) (run_all m ρ)

end Cert.FrontKer
-- ==== Proof.FrontPre.lean ====
module

public import proofs.«01_k».proof.Pre_finite
public import proofs.«01_k».proof.Proof.FrontMath
public import Idealize.ShloMosaic.Lib.ReduceAll
public import Idealize.ShloMosaic.Lib.Decide

@[expose] public section
noncomputable section
namespace Cert.FrontPre
open Idealize.ShloMosaic Cert.FrontMath

/-! What the precondition says: every entry of every argument is a real number. -/

/-- The shape relations of the precondition. -/
instance facts : Cert.Pre_finite.Facts where
  bcast_S_S1x2048x1024 := by decide
  reducesTo_S1x2048x1024_S_d0_1_2 := by decide
  h_S_ := by decide
  bcast_S_S1024 := by decide
  reducesTo_S1024_S_d0 := by decide
  bcast_S_S1024x1024 := by decide
  reducesTo_S1024x1024_S_d0_1 := by decide
  bcast_S_S1024x8 := by decide
  reducesTo_S1024x8_S_d0_1 := by decide

/-- A number whose absolute value is below +∞ is a real number. -/
theorem isReal_of_lt (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  have one (p : Bool) : (BitVec.ofBool p = 1#1) ↔ p = true := by cases p <;> decide
  have h' : max x (-x) < ⊤ := by simpa only [Ideal.cmp, one, decide_eq_true_eq] using h
  refine isReal_of_ne (fun hb => ?_) (fun ht => ?_)
  · subst hb; simp at h'
  · subst ht; simp at h'

open Cert.Pre_finite in
/-- Under the precondition the arguments hold real numbers. -/
theorem real_of_pre (x : FVec Ideal S1x2048x1024 .f32) (w1 w2 : FVec Ideal S1024 .f32) (q k v o : FVec Ideal S1024x1024 .f32) (r : FVec Ideal S1024x8 .f32)
    (h : Cert.Pre_finite.fn (F := Ideal) x w1 w2 q k v o r = fun _ => 1#1) :
    (∀ i, IsReal (x i)) ∧ (∀ i, IsReal (w1 i)) ∧ (∀ i, IsReal (w2 i)) ∧ (∀ i, IsReal (q i)) ∧ (∀ i, IsReal (k i)) ∧ (∀ i, IsReal (v i))
      ∧ (∀ i, IsReal (o i)) ∧ (∀ i, IsReal (r i)) := by
  have e := congrFun h (fun a => a.elim0)
  simp only [Cert.Pre_finite.fn, Cert.Pre_finite.fn_part1, Cert.Pre_finite.fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun a b => funext fun i => i.elim0⟩
  exact ⟨fun i => isReal_of_lt _ (Host.reduce_andi_all _ _ _ _ _ e0 i), fun i => isReal_of_lt _ (Host.reduce_andi_all _ _ _ _ _ e1 i),
    fun i => isReal_of_lt _ (Host.reduce_andi_all _ _ _ _ _ e2 i), fun i => isReal_of_lt _ (Host.reduce_andi_all _ _ _ _ _ e3 i),
    fun i => isReal_of_lt _ (Host.reduce_andi_all _ _ _ _ _ e4 i), fun i => isReal_of_lt _ (Host.reduce_andi_all _ _ _ _ _ e5 i),
    fun i => isReal_of_lt _ (Host.reduce_andi_all _ _ _ _ _ e6 i), fun i => isReal_of_lt _ (Host.reduce_andi_all _ _ _ _ _ e7 i)⟩

end Cert.FrontPre
-- ==== Proof.FrontHost.lean ====
module

public import proofs.«01_k».proof.Proof.Gen.FrontReferenceIdeal.Run
public import proofs.«01_k».proof.Proof.FrontSpec

@[expose] public section
noncomputable section
namespace Cert.FrontRef
open Idealize.ShloMosaic Idealize.SL.Sem Cert.FrontMath Cert.FrontTop Cert.FrontSpec
open Cert.FrontReferenceIdeal Cert.FrontReferenceIdeal.Value Cert.FrontReferenceIdeal.Facts₀
set_option maxRecDepth 8192

/-! The reference's steps over whole arrays, read at a place. -/

variable [Cert.FrontReferenceIdeal.Facts]

/-- The numerators of the softmax of the scores. -/
def soft4 (x : FVec Ideal S1x16x2048x2048 .f32) : FVec Ideal S1x16x2048x2048 .f32 :=
  Host.exp (subf x (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) (Host.reduce FloatOps.maximumf x (constant S_ .f32 0xFF800000#32) reducesTo_S1x16x2048x2048_S1x16x2048_d3 h_S_)))))

/-- A maximum along the last of four axes. -/
theorem reduce_max {n0 n1 n2 n3 : ℕ} (x : FVec Ideal ⟨4, ![n0, n1, n2, n3]⟩ .f32) (b : BitVec 32)
    (hr : (⟨4, ![n0, n1, n2, n3]⟩ : Shape).ReducesTo [3] ⟨3, ![n0, n1, n2]⟩) (a : Fin n0) (c : Fin n1) (d : Fin n2) :
    Host.reduce FloatOps.maximumf x (constant S_ .f32 b) hr h_S_ (ix3 a c d) = Finset.fold max (Ideal.ofBits .f32 b) (fun k : Fin n3 => x (ix4 a c d k)) Finset.univ := by
  pointwise

theorem soft4_max (x : FVec Ideal S1x16x2048x2048 .f32) (h : Fin 16) (s : Fin 2048) :
    Host.reduce FloatOps.maximumf x (constant S_ .f32 0xFF800000#32) reducesTo_S1x16x2048x2048_S1x16x2048_d3 h_S_ (ix3 0 h s)
      = Finset.fold max (Ideal.ofBits .f32 0xFF800000#32) (fun k : Fin 2048 => x (ix4 0 h s k)) Finset.univ := reduce_max x _ _ 0 h s

theorem soft4_exp (x : FVec Ideal S1x16x2048x2048 .f32) (m : FVec Ideal S1x16x2048 .f32) (h : Fin 16) (s k : Fin 2048) :
    (Host.exp (subf x (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) m))) : FVec Ideal S1x16x2048x2048 .f32)) (ix4 0 h s k)
      = Ideal.exp (x (ix4 0 h s k) - max (Ideal.ofBits FTy.f32 4286578688#32) (m (ix3 0 h s))) := by
  pointwise

theorem exp_fold (f : Fin 2048 → EReal) (k : Fin 2048) (M : EReal)
    (hM : M = Finset.fold max (Ideal.ofBits .f32 0xFF800000#32) f Finset.univ) :
    Ideal.exp (f k - max (Ideal.ofBits FTy.f32 4286578688#32) M) = pexp f k := by
  unfold pexp
  rw [hM, lit_neg_inf, max_eq_right bot_le]

theorem soft4_at (x : FVec Ideal S1x16x2048x2048 .f32) (h : Fin 16) (s k : Fin 2048) :
    soft4 x (ix4 0 h s k) = pexp (fun k => x (ix4 0 h s k)) k :=
  (soft4_exp x _ h s k).trans (exp_fold (fun k => x (ix4 0 h s k)) k _ (soft4_max x h s))

/-- The numerators of the softmax of the logits. -/
def soft2 (x : FVec Ideal S2048x8 .f32) : FVec Ideal S2048x8 .f32 :=
  Host.exp (subf x (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf x (constant S_ .f32 0xFF800000#32) reducesTo_S2048x8_S2048_d1 h_S_)))))

theorem soft2_at (x : FVec Ideal S2048x8 .f32) (s : Fin 2048) (e : Fin 8) :
    soft2 x (ix2 s e) = pexp (fun e => x (ix2 s e)) e := by
  pointwise [soft2]
  rw [lit_neg_inf, max_eq_right bot_le]
  rfl

/-- A place with its second coordinate replaced. -/
theorem along_one (s : Fin 2048) (i k : Fin 8) (a : Fin S2048x8.rank) (ha : a = 1) (k' : Fin (S2048x8.size a)) (hk : k'.val = k.val) :
    Shape.Idx.along (s := S2048x8) (ix2 s i) a k' = ix2 s k := by
  subst ha
  funext b
  match b with
  | ⟨0, _⟩ => rfl
  | ⟨1, _⟩ => exact Fin.ext hk

/-- The order in which a row is sorted. -/
def before (x : FVec Ideal S2048x8 .f32) (s : Fin 2048) (k k' : Fin 8) : Bool := decide (x (ix2 s k') < x (ix2 s k))

theorem sort_val (x : FVec Ideal S2048x8 .f32) (y : IVec S2048x8 32) (s : Fin 2048) (i : Fin 8) :
    (Host.sort2 S2048x8 1 (fun l r => FloatOps.cmpfTotal (F := Ideal) (φ := .f32) .gt l.1 r.1) x y).1 (ix2 s i)
      = x (ix2 s (sortedFrom (before x s) i)) := by
  have hb : (fun k k' : Fin 8 => FloatOps.cmpfTotal (F := Ideal) (φ := .f32) .gt (x (ix2 s k)) (x (ix2 s k')) == 1#1) = before x s := by
    funext k k'
    show (BitVec.ofBool (decide (x (ix2 s k') < x (ix2 s k))) == 1#1) = _
    unfold before
    by_cases h : x (ix2 s k') < x (ix2 s k) <;> simp [h]
  rw [← hb]
  unfold Host.sort2
  rw [dif_pos (show 1 < S2048x8.rank by decide)]
  show x (Shape.Idx.along (s := S2048x8) (ix2 s i) ⟨1, by decide⟩ _) = _
  rw [along_one s i _ ⟨1, by decide⟩ rfl _ rfl]
  refine congrArg x (congrArg (ix2 s) (congrArg (fun f => sortedFrom f i) (funext fun k => funext fun k' => ?_)))
  show (FloatOps.cmpfTotal (F := Ideal) (φ := .f32) .gt (x (Shape.Idx.along (s := S2048x8) (ix2 s i) ⟨1, by decide⟩ k)) (x (Shape.Idx.along (s := S2048x8) (ix2 s i) ⟨1, by decide⟩ k')) == 1#1) = _
  rw [along_one s i k ⟨1, by decide⟩ rfl k rfl, along_one s i k' ⟨1, by decide⟩ rfl k' rfl]

theorem sort_place (x : FVec Ideal S2048x8 .f32) (y : IVec S2048x8 32) (s : Fin 2048) (i : Fin 8) :
    (Host.sort2 S2048x8 1 (fun l r => FloatOps.cmpfTotal (F := Ideal) (φ := .f32) .gt l.1 r.1) x y).2 (ix2 s i)
      = y (ix2 s (sortedFrom (before x s) i)) := by
  have hb : (fun k k' : Fin 8 => FloatOps.cmpfTotal (F := Ideal) (φ := .f32) .gt (x (ix2 s k)) (x (ix2 s k')) == 1#1) = before x s := by
    funext k k'
    show (BitVec.ofBool (decide (x (ix2 s k') < x (ix2 s k))) == 1#1) = _
    unfold before
    by_cases h : x (ix2 s k') < x (ix2 s k) <;> simp [h]
  rw [← hb]
  unfold Host.sort2
  rw [dif_pos (show 1 < S2048x8.rank by decide)]
  show y (Shape.Idx.along (s := S2048x8) (ix2 s i) ⟨1, by decide⟩ _) = _
  rw [along_one s i _ ⟨1, by decide⟩ rfl _ rfl]
  refine congrArg y (congrArg (ix2 s) (congrArg (fun f => sortedFrom f i) (funext fun k => funext fun k' => ?_)))
  show (FloatOps.cmpfTotal (F := Ideal) (φ := .f32) .gt (x (Shape.Idx.along (s := S2048x8) (ix2 s i) ⟨1, by decide⟩ k)) (x (Shape.Idx.along (s := S2048x8) (ix2 s i) ⟨1, by decide⟩ k')) == 1#1) = _
  rw [along_one s i k ⟨1, by decide⟩ rfl k rfl, along_one s i k' ⟨1, by decide⟩ rfl k' rfl]

/-- The places that the sort carries. -/
def places : IVec S2048x8 32 := fun i => if hd : 1 < S2048x8.rank then iotaInDim S2048x8 32 ⟨1, hd⟩ i else 0#32

/-- The greatest two of a row. -/
theorem top_val (x : FVec Ideal S2048x8 .f32) (h : S2048x8.Slices (fun _ => 0) S2048x2) (s : Fin 2048) :
    (Host.topK S2048x2 1 (FloatOps.cmpfTotal .gt) x h).1 (ix2 s 0) = x (ix2 s (first fun e => x (ix2 s e)))
      ∧ (Host.topK S2048x2 1 (FloatOps.cmpfTotal .gt) x h).1 (ix2 s 1) = x (ix2 s (second fun e => x (ix2 s e))) := by
  refine ⟨Eq.trans ?_ (sort_val x places s 0), Eq.trans ?_ (sort_val x places s 1)⟩
  · show extractStridedSlice S2048x2 (fun _ => 0) (Host.sort2 S2048x8 1 (fun l r => FloatOps.cmpfTotal (F := Ideal) (φ := .f32) .gt l.1 r.1) x places).1 h (ix2 s 0) = _
    generalize (Host.sort2 S2048x8 1 (fun l r => FloatOps.cmpfTotal (F := Ideal) (φ := .f32) .gt l.1 r.1) x places).1 = z
    pointwise
  · show extractStridedSlice S2048x2 (fun _ => 0) (Host.sort2 S2048x8 1 (fun l r => FloatOps.cmpfTotal (F := Ideal) (φ := .f32) .gt l.1 r.1) x places).1 h (ix2 s 1) = _
    generalize (Host.sort2 S2048x8 1 (fun l r => FloatOps.cmpfTotal (F := Ideal) (φ := .f32) .gt l.1 r.1) x places).1 = z
    pointwise

/-- Their places. -/
theorem top_place (x : FVec Ideal S2048x8 .f32) (h : S2048x8.Slices (fun _ => 0) S2048x2) (s : Fin 2048) :
    (Host.topK S2048x2 1 (FloatOps.cmpfTotal .gt) x h).2 (ix2 s 0) = BitVec.ofNat 32 (first fun e => x (ix2 s e)).val
      ∧ (Host.topK S2048x2 1 (FloatOps.cmpfTotal .gt) x h).2 (ix2 s 1) = BitVec.ofNat 32 (second fun e => x (ix2 s e)).val := by
  refine ⟨Eq.trans ?_ (sort_place x places s 0),
    Eq.trans ?_ (sort_place x places s 1)⟩
  · show extractStridedSlice S2048x2 (fun _ => 0) (Host.sort2 S2048x8 1 (fun l r => FloatOps.cmpfTotal (F := Ideal) (φ := .f32) .gt l.1 r.1) x places).2 h (ix2 s 0) = _
    generalize (Host.sort2 S2048x8 1 (fun l r => FloatOps.cmpfTotal (F := Ideal) (φ := .f32) .gt l.1 r.1) x places).2 = z
    pointwise
  · show extractStridedSlice S2048x2 (fun _ => 0) (Host.sort2 S2048x8 1 (fun l r => FloatOps.cmpfTotal (F := Ideal) (φ := .f32) .gt l.1 r.1) x places).2 h (ix2 s 1) = _
    generalize (Host.sort2 S2048x8 1 (fun l r => FloatOps.cmpfTotal (F := Ideal) (φ := .f32) .gt l.1 r.1) x places).2 = z
    pointwise

/-- The gates. -/
def gates (v : FVec Ideal S2048x2 .f32) : FVec Ideal S2048x2 .f32 :=
  Host.divf v (broadcastInDim S2048x2 ![0, 1] bcast_S2048x1_S2048x2_0_1 (broadcastInDim S2048x1 ![0] bcast_S2048_S2048x1_0 (Host.reduceAdd v (constant S_ .f32 0x00000000#32) reducesTo_S2048x2_S2048_d1 h_S_)))

theorem gates_at (v : FVec Ideal S2048x2 .f32) (s : Fin 2048) (i : Fin 2) :
    gates v (ix2 s i) = Ideal.div (v (ix2 s i)) (v (ix2 s 0) + v (ix2 s 1)) := by
  pointwise [gates]
  rw [Fin.sum_univ_two]

/-- The balance term from the places and the probabilities. -/
def balance (n : IVec S2048x2 32) (p : FVec Ideal S2048x8 .f32) : FVec Ideal S1x1 .f32 :=
  shapeCast _ (mulf (constant S_ .f32 0x41000000#32) (Host.reduceAdd (mulf (Host.divf (Host.divf (Host.reduceAdd (addf (addf (broadcastInDim S2048x8 ![] bcast_S_S2048x8 (constant S_ .f32 0x00000000#32)) (uitofp .f32 (cmpi .eq (broadcastInDim S2048x8 ![0, 1] bcast_S2048x1_S2048x8_0_1 (broadcastInDim S2048x1 ![0] bcast_S2048_S2048x1_0 (shapeCast _ (extractStridedSlice S2048x1 ![0, 0] n slices_S2048x2_S2048x1_0_0) shapeCasts_S2048x1_S2048))) (broadcastInDim S2048x8 ![0, 1] bcast_S1x8_S2048x8_0_1 (iotaInDim S1x8 32 1))))) (uitofp .f32 (cmpi .eq (broadcastInDim S2048x8 ![0, 1] bcast_S2048x1_S2048x8_0_1 (broadcastInDim S2048x1 ![0] bcast_S2048_S2048x1_0 (shapeCast _ (extractStridedSlice S2048x1 ![0, 1] n slices_S2048x2_S2048x1_0_1) shapeCasts_S2048x1_S2048))) (broadcastInDim S2048x8 ![0, 1] bcast_S1x8_S2048x8_0_1 (iotaInDim S1x8 32 1))))) (constant S_ .f32 0x00000000#32) reducesTo_S2048x8_S8_d0 h_S_) (broadcastInDim S8 ![] bcast_S_S8 (constant S_ .f32 0x45000000#32))) (broadcastInDim S8 ![] bcast_S_S8 (constant S_ .f32 0x40000000#32))) (Host.divf (Host.reduceAdd p (constant S_ .f32 0x00000000#32) reducesTo_S2048x8_S8_d0 h_S_) (broadcastInDim S8 ![] bcast_S_S8 (constant S_ .f32 0x45000000#32)))) (constant S_ .f32 0x00000000#32) reducesTo_S8_S_d0 h_S_)) shapeCasts_S_S1x1

theorem uitofp_bit (b : Bool) : FloatOps.uitofp (F := Ideal) .f32 (BitVec.ofBool b) = if b then 1 else 0 := by
  cases b
  · show ((((BitVec.ofBool false).toNat : ℝ)) : EReal) = _
    simp
  · show ((((BitVec.ofBool true).toNat : ℝ)) : EReal) = _
    simp

theorem ofNat_beq (a b : Fin 8) : IntOp.cmpi .eq (BitVec.ofNat 32 a.val) (BitVec.ofNat 32 b.val) = BitVec.ofBool (decide (b = a)) := by
  revert a b; decide +kernel

theorem balance_at (n : IVec S2048x2 32) (p : FVec Ideal S2048x8 .f32)
    (h0 : ∀ s : Fin 2048, n (ix2 s 0) = BitVec.ofNat 32 (first fun e => p (ix2 s e)).val)
    (h1 : ∀ s : Fin 2048, n (ix2 s 1) = BitVec.ofNat 32 (second fun e => p (ix2 s e)).val) :
    balance n p (ix2 0 0) = aux (fun s e => p (ix2 s e)) := by
  rw [aux_eq]
  pointwise [balance]
  simp only [h0, h1, ofNat_beq, uitofp_bit, decide_eq_true_eq]
  rfl

end Cert.FrontRef
-- ==== Proof.FrontRef.lean ====
module

public import proofs.«01_k».proof.Proof.Gen.FrontReferenceIdeal.Run
public import proofs.«01_k».proof.Proof.FrontHost

@[expose] public section
noncomputable section
namespace Cert.FrontRef
open Idealize.ShloMosaic Idealize.SL.Sem Cert.FrontMath Cert.FrontTop Cert.FrontSpec
open Cert.FrontReferenceIdeal Cert.FrontReferenceIdeal.Value Cert.FrontReferenceIdeal.Facts₀
set_option maxRecDepth 8192

/-! The reference's arrays are the specification's, entry by entry. -/

variable [Cert.FrontReferenceIdeal.Facts] (V0 : Valuation τ sig (Elt Ideal))

/-- The reference's arguments as functions of their places. -/
def args : Args where
  X s d := V0 (Proc.tc.devRef main_arg0) (ix3 0 s d)
  w1 d := V0 (Proc.tc.devRef main_arg1) (ix1 d)
  w2 d := V0 (Proc.tc.devRef main_arg2) (ix1 d)
  Wq d c := V0 (Proc.tc.devRef main_arg3) (ix2 d c)
  Wk d c := V0 (Proc.tc.devRef main_arg4) (ix2 d c)
  Wv d c := V0 (Proc.tc.devRef main_arg5) (ix2 d c)
  Wo d c := V0 (Proc.tc.devRef main_arg6) (ix2 d c)
  Wr d c := V0 (Proc.tc.devRef main_arg7) (ix2 d c)

theorem v12_eq (s : Fin 2048) (d : Fin 1024) : res_main_v12 V0 (ix3 0 s d) = row (args V0) s d := by
  pointwise [res_main_v12]
  rfl

theorem v15_eq (s : Fin 2048) (h : Fin 16) (d : Fin 64) :
    res_main_v15 V0 (ix4 0 h s d) = lin (row (args V0) s) (args V0).Wq ⟨h.val * 64 + d.val, by omega⟩ := by
  pointwise [res_main_v15]
  simp only [v12_eq]
  rfl

theorem v18_eq (s : Fin 2048) (h : Fin 16) (d : Fin 64) :
    res_main_v18 V0 (ix4 0 h s d) = lin (row (args V0) s) (args V0).Wk ⟨h.val * 64 + d.val, by omega⟩ := by
  pointwise [res_main_v18]
  simp only [v12_eq]
  rfl

theorem v38_eq (s : Fin 2048) (j : Fin 32) : res_main_v38 V0 (ix2 s j) = ((angle s.val j.val : ℝ) : EReal) := by
  pointwise [res_main_v38]
  rw [sitofp_ofNat _ (by omega), sitofp_ofNat _ (by omega)]
  exact angle_eq _ _

theorem v41_lo (s : Fin 2048) (j : Fin 32) (hj : j.val < 64) : res_main_v41 V0 (ix4 0 0 s ⟨j.val, hj⟩) = cosA s j := by
  pointwise [res_main_v41, res_main_v39]
  rw [v38_eq]
  rfl

theorem v41_hi (s : Fin 2048) (j : Fin 32) (hj : 32 + j.val < 64) : res_main_v41 V0 (ix4 0 0 s ⟨32 + j.val, hj⟩) = cosA s j := by
  pointwise [res_main_v41, res_main_v39]
  rw [v38_eq]
  rfl

theorem v43_lo (s : Fin 2048) (j : Fin 32) (hj : j.val < 64) : res_main_v43 V0 (ix4 0 0 s ⟨j.val, hj⟩) = sinA s j := by
  pointwise [res_main_v43, res_main_v39]
  rw [v38_eq]
  rfl

theorem v43_hi (s : Fin 2048) (j : Fin 32) (hj : 32 + j.val < 64) : res_main_v43 V0 (ix4 0 0 s ⟨32 + j.val, hj⟩) = sinA s j := by
  pointwise [res_main_v43, res_main_v39]
  rw [v38_eq]
  rfl

theorem v68_eq (h : Fin 16) (s k : Fin 2048) : res_main_v68 V0 (ix4 0 h s k) = score (args V0) h s k := by
  pointwise [res_main_v68]
  simp only [v41_lo, v41_hi, v43_lo, v43_hi, v15_eq, v18_eq]
  have e0 : IntOp.addi (BitVec.ofNat 32 s.val) 0#32 = BitVec.ofNat 32 s.val := by simp [IntOp.addi]
  rw [e0, sge_ofNat _ _ (by omega) (by omega)]
  unfold score
  by_cases hk : k.val ≤ s.val
  · rw [if_pos hk, if_pos hk, lit_8, Ideal.div_coe (by norm_num)]
    simp only [EReal.neg_mul, ← sub_eq_add_neg]
    rfl
  · rw [if_neg hk, if_neg hk]
    exact lit_neg_inf

theorem v75_eq (h : Fin 16) (s k : Fin 2048) : res_main_v75 V0 (ix4 0 h s k) = pexp (score (args V0) h s) k := by
  have e : res_main_v75 V0 = soft4 (res_main_v68 V0) := rfl
  rw [e]
  refine (soft4_at (res_main_v68 V0) h s k).trans (congrArg (fun f => pexp f k) (funext fun k' => v68_eq V0 h s k'))

theorem v84_eq (hA : (args V0).Real) (s : Fin 2048) (d : Fin 1024) : res_main_v84 V0 (ix3 0 s d) = x1 (args V0) s d := by
  pointwise [res_main_v84]
  simp only [v75_eq, v12_eq]
  unfold x1 lin
  simp only [ctx_eq hA]
  rfl

theorem v99_eq (hA : (args V0).Real) (s : Fin 2048) (e : Fin 8) : res_main_v99 V0 (ix2 s e) = logit (args V0) s e := by
  pointwise [res_main_v99]
  simp only [v84_eq V0 hA]
  rfl

theorem v106_eq (hA : (args V0).Real) (s : Fin 2048) (e : Fin 8) : res_main_v106 V0 (ix2 s e) = pexp (logit (args V0) s) e := by
  have e' : res_main_v106 V0 = soft2 (res_main_v99 V0) := rfl
  rw [e']
  refine (soft2_at (res_main_v99 V0) s e).trans (congrArg (fun f => pexp f e) (funext fun k => v99_eq V0 hA s k))

theorem v110_eq (hA : (args V0).Real) (s : Fin 2048) (e : Fin 8) : res_main_v110 V0 (ix2 s e) = prob (args V0) s e := by
  pointwise [res_main_v110]
  simp only [v106_eq V0 hA]
  rfl

theorem pr_eq (hA : (args V0).Real) (s : Fin 2048) : (fun e : Fin 8 => res_main_v110 V0 (ix2 s e)) = prob (args V0) s :=
  funext fun e => v110_eq V0 hA s e

theorem gate_eq (hA : (args V0).Real) (s : Fin 2048) :
    res_main_v114 V0 (ix2 s 0) = gate0 (prob (args V0) s) ∧ res_main_v114 V0 (ix2 s 1) = gate1 (prob (args V0) s) := by
  have e : res_main_v114 V0 = gates (res_main_values V0) := rfl
  have t := top_val (res_main_v110 V0) sliceFits_S2048x8_S2048x2 s
  have hp := pr_eq V0 hA s
  have v0 : res_main_values V0 (ix2 s 0) = prob (args V0) s (first (prob (args V0) s)) := by
    refine t.1.trans ?_
    rw [hp]
    exact v110_eq V0 hA s _
  have v1 : res_main_values V0 (ix2 s 1) = prob (args V0) s (second (prob (args V0) s)) := by
    refine t.2.trans ?_
    rw [hp]
    exact v110_eq V0 hA s _
  rw [e]
  constructor
  · refine (gates_at (res_main_values V0) s 0).trans ?_
    rw [v0, v1]
    rfl
  · refine (gates_at (res_main_values V0) s 1).trans ?_
    rw [v0, v1]
    rfl

/-! The four results. -/

theorem out_x1 (hA : (args V0).Real) (s : Fin 2048) (d : Fin 1024) :
    (shapeCast S2048x1024 (res_main_v84 V0) shapeCasts_S1x2048x1024_S2048x1024 : FVec Ideal S2048x1024 .f32) (ix2 s d) = x1 (args V0) s d := by
  rw [← v84_eq V0 hA]
  generalize res_main_v84 V0 = z
  pointwise

theorem out_g0 (hA : (args V0).Real) (s : Fin 2048) :
    (extractStridedSlice S2048x1 ![0, 0] (res_main_v114 V0) slices_S2048x2_S2048x1_0_0 : FVec Ideal S2048x1 .f32) (ix2 s 0) = gate0 (prob (args V0) s) := by
  rw [← (gate_eq V0 hA s).1]
  generalize res_main_v114 V0 = z
  pointwise

theorem out_g1 (hA : (args V0).Real) (s : Fin 2048) :
    (extractStridedSlice S2048x1 ![0, 1] (res_main_v114 V0) slices_S2048x2_S2048x1_0_1 : FVec Ideal S2048x1 .f32) (ix2 s 0) = gate1 (prob (args V0) s) := by
  rw [← (gate_eq V0 hA s).2]
  generalize res_main_v114 V0 = z
  pointwise

theorem out_aux (hA : (args V0).Real) : balance (res_main_indices V0) (res_main_v110 V0) (ix2 0 0) = aux (prob (args V0)) := by
  refine (balance_at (res_main_indices V0) (res_main_v110 V0) (fun s => (top_place (res_main_v110 V0) sliceFits_S2048x8_S2048x2 s).1)
    (fun s => (top_place (res_main_v110 V0) sliceFits_S2048x8_S2048x2 s).2)).trans (congrArg aux (funext fun s => pr_eq V0 hA s))

end Cert.FrontRef
-- ==== Proof.FrontValue.lean ====
module

public import proofs.«01_k».proof.Defs
public import proofs.«01_k».proof.Proof.FrontKer
public import proofs.«01_k».proof.Proof.FrontPre
public import proofs.«01_k».proof.Proof.FrontRef
public import proofs.«01_k».proof.Proof.Gen.FrontReferenceIdeal

@[expose] public section
noncomputable section
namespace Cert.FrontValue
open Idealize.ShloMosaic Idealize.SL.Sem Cert.FrontMath Cert.FrontTop Cert.FrontSpec
set_option maxRecDepth 8192

/-! The value claim of the first half: both programs end at the specification's four arrays. -/

section Arrays
open Cert.FrontReferenceIdeal Cert.FrontReferenceIdeal.Value Cert.FrontReferenceIdeal.Facts₀
variable (V0 : Valuation τ sig (Elt Ideal)) (A : Args) (e : FrontRef.args V0 = A) (hA : A.Real)
include e hA

theorem arr_x : (shapeCast S2048x1024 (res_main_v84 V0) shapeCasts_S1x2048x1024_S2048x1024 : FVec Ideal S2048x1024 .f32) = fun y => x1 A (y 0) (y 1) := by
  subst e
  funext y
  obtain ⟨r, d, rfl⟩ : ∃ (r : Fin 2048) (d : Fin 1024), y = ix2 r d := ⟨y 0, y 1, Idealize.ShloMosaic.eq_ix2 y⟩
  exact FrontRef.out_x1 V0 hA r d
theorem arr_g0 : (extractStridedSlice S2048x1 ![0, 0] (res_main_v114 V0) slices_S2048x2_S2048x1_0_0 : FVec Ideal S2048x1 .f32) = fun y => gate0 (prob A (y 0)) := by
  subst e
  funext y
  obtain ⟨r, d, rfl⟩ : ∃ (r : Fin 2048) (d : Fin 1), y = ix2 r d := ⟨y 0, y 1, Idealize.ShloMosaic.eq_ix2 y⟩
  obtain rfl := Subsingleton.elim d 0
  exact FrontRef.out_g0 V0 hA r
theorem arr_g1 : (extractStridedSlice S2048x1 ![0, 1] (res_main_v114 V0) slices_S2048x2_S2048x1_0_1 : FVec Ideal S2048x1 .f32) = fun y => gate1 (prob A (y 0)) := by
  subst e
  funext y
  obtain ⟨r, d, rfl⟩ : ∃ (r : Fin 2048) (d : Fin 1), y = ix2 r d := ⟨y 0, y 1, Idealize.ShloMosaic.eq_ix2 y⟩
  obtain rfl := Subsingleton.elim d 0
  exact FrontRef.out_g1 V0 hA r
theorem arr_aux : FrontRef.balance (res_main_indices V0) (res_main_v110 V0) = fun _ => aux (prob A) := by
  subst e
  funext y
  obtain ⟨r, d, rfl⟩ : ∃ (r : Fin 1) (d : Fin 1), y = ix2 r d := ⟨y 0, y 1, Idealize.ShloMosaic.eq_ix2 y⟩
  obtain rfl := Subsingleton.elim d 0
  obtain rfl := Subsingleton.elim r 0
  exact FrontRef.out_aux V0 hA
end Arrays

/-- The precondition's reading of the kernel's arguments. -/
theorem real_args (m : (ℓ : Loc Cert.FrontIdeal.nD Cert.FrontIdeal.τ Cert.FrontIdeal.sig) → Buf (Elt Ideal) ℓ) (h : Cert.Pre_FrontIdeal_finite m)
    (c : Dev Cert.FrontIdeal.nD) : (FrontKer.argsK m c).Real := by
  obtain ⟨h0, h1, h2, h3, h4, h5, h6, h7⟩ := FrontPre.real_of_pre _ _ _ _ _ _ _ _ (h c)
  exact ⟨fun s d => h0 _, fun d => h1 _, fun d => h2 _, fun d e => h3 _, fun d e => h4 _, fun d e => h5 _, fun d e => h6 _, fun d e => h7 _⟩

theorem value : Cert.algebraic_FrontIdeal_FrontReferenceIdeal_pre_finite := by
  intro m ρ m' ρ' hpre hagree
  have hA := real_args m hpre
  refine ⟨FrontKer.outX m, FrontKer.outG0 m, FrontKer.outG1 m, FrontKer.outAux m, FrontKer.run_front m ρ hA, ?_⟩
  refine (θ_run Cert.FrontReferenceIdeal.defs _ _).mono (fun r h c => ?_) (Cert.FrontReferenceIdeal.Value.run (F := Ideal) m' ρ')
  obtain ⟨h0, h1, h2, h3, h4⟩ := h c
  have e : FrontRef.args (StableHlo.launchContents m' c) = FrontKer.argsK m c := by
    obtain ⟨e0, e1, e2, e3, e4, e5, e6, e7⟩ := hagree c
    simp only [FrontRef.args, FrontKer.argsK, Args.mk.injEq]
    exact ⟨funext fun s => funext fun d => congrFun e0 _, funext fun d => congrFun e1 _, funext fun d => congrFun e2 _,
      funext fun d => funext fun k => congrFun e3 _, funext fun d => funext fun k => congrFun e4 _,
      funext fun d => funext fun k => congrFun e5 _, funext fun d => funext fun k => congrFun e6 _, funext fun d => funext fun k => congrFun e7 _⟩
  exact ⟨h0.trans (arr_x _ _ e (hA c)), h1.trans (arr_g0 _ _ e (hA c)), h2.trans (arr_g1 _ _ e (hA c)), h3.trans (arr_aux _ _ e (hA c)), h4⟩

end Cert.FrontValue
-- ==== Proof.ExpertsRun.lean ====
module

public import proofs.«01_k».proof.Proof.Gen.ExpertsIdeal.Skeleton
public import proofs.«01_k».proof.Proof.Gen.ExpertsIdeal.Launch
public import Idealize.ShloMosaic.Lib.Pipeline.Quiescent
public import Idealize.ShloMosaic.Lib.Pipeline.FrameBody
public import Idealize.ShloMosaic.Lib.Pipeline.TableIdle
public import Idealize.ShloMosaic.Lib.Pipeline.ValueKit
public import Idealize.ShloMosaic.Lib.VecWindow

@[expose] public section

set_option maxRecDepth 16384

noncomputable section

namespace Cert.ExpertsRun

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

/-! The expert call at any table of experts below 8: its pipeline, its body at a point, its run. -/

variable {F : FTy → Type} [FloatOps F] [∀ e, Nonempty (Elt F e)]

local notation "𝕄" => MT nD τ sig Unit (Elt F) ℕ (UR sig nD τ) ℕ

/-! ## The table -/

/-- The entry of a grid point. -/
def entry (i : grid0.Coords) : S40.Idx := ix1 (n0 := 40) (i 0)

/-- The table as the one prefetched operand. -/
def tab (T : S40.Idx → BitVec 32) : pre0.Contents (Elt F) := fun | ⟨0, _⟩ => T | ⟨_ + 1, h⟩ => absurd h (by simp)

theorem entry_eq (i : grid0.Coords) (x : S1.Idx) :
    (Rect.unit (s := S40) (k0_off1 i) S1.size (k0_off1_inb i)).emb x = entry i := by
  funext a
  apply Fin.ext
  have ha : a = 0 := Subsingleton.elim (α := Fin 1) _ _
  subst ha
  have hx : (x 0).val = 0 := by have := (x 0).isLt; change _ < 1 at this; omega
  have e := congrFun (k0_off1_eq i) 0
  change k0_off1 i 0 = (i 0).val at e
  rw [Rect.emb_apply]
  change k0_off1 i 0 + 1 * (x 0).val = (i 0).val
  omega

variable (T : S40.Idx → BitVec 32)

/-- The word a point finds in the table. -/
theorem word_eq (i : grid0.Coords) :
    (tab (F := F) T).at 0 (Rect.unit (s := S40) (k0_off1 i) S1.size (k0_off1_inb i)) numel1_S1 = T (entry i) :=
  congrArg T (entry_eq i _)

theorem max_word (w : BitVec 32) (h : w.toNat < 8) : (Scalar.maxsi w (0#32)).toNat = w.toNat := by
  obtain ⟨k, hk⟩ : ∃ k : Fin 8, w = BitVec.ofNat 32 k.val := ⟨⟨w.toNat, h⟩, by simp⟩
  subst hk
  revert k
  decide

theorem cond_word (w : BitVec 32) (h : w.toNat < 8) : k0_cond1 w = 1#1 := by
  obtain ⟨k, hk⟩ : ∃ k : Fin 8, w = BitVec.ofNat 32 k.val := ⟨⟨w.toNat, h⟩, by simp⟩
  subst hk
  revert k
  decide

variable (hT : ∀ j, (T j).toNat < 8)
include hT

theorem tr1_eq (i : grid0.Coords) : cc0_transform_1 k0_off1_inb numel1_S1 (tab (F := F) T) i = ![(T (entry i)).toNat, 0, 0] := by
  rw [← max_word _ (hT (entry i)), ← word_eq (F := F) T i]
  rfl
theorem tr2_eq (i : grid0.Coords) : cc0_transform_2 k0_off1_inb numel1_S1 (tab (F := F) T) i = ![(T (entry i)).toNat, 0, 0] := by
  rw [← max_word _ (hT (entry i)), ← word_eq (F := F) T i]
  rfl

/-- Every block is inside its array. -/
theorem ok_tab : ok0 (F := F) (tab T) := by
  have h := hT
  refine ⟨fun i => ⟨fun a => ?_, .inl rfl⟩, fun i => ⟨fun a => ?_, .inl rfl⟩⟩
  · rw [tr1_eq T hT i]
    have := h (entry i)
    fin_cases a
    · show ((T (entry i)).toNat + 1) * 1 ≤ 8
      omega
    · show (0 + 1) * 1024 ≤ 1024
      omega
    · show (0 + 1) * 2048 ≤ 2048
      omega
  · rw [tr2_eq T hT i]
    have := h (entry i)
    fin_cases a
    · show ((T (entry i)).toNat + 1) * 1 ≤ 8
      omega
    · show (0 + 1) * 2048 ≤ 2048
      omega
    · show (0 + 1) * 1024 ≤ 1024
      omega

/-- The table as contents the pipeline runs at, and the pipeline at them. -/
def adm : (pcfg0 (F := F)).Adm := ⟨tab T, ok_tab T hT⟩
omit hT
abbrev cfgA (a : (pcfg0 (F := F)).Adm) : Cfg sig Λ₀ := cfg0 (F := F) a
abbrev pcs (a : (pcfg0 (F := F)).Adm) : Fin 1 → Cfg sig Λ₀ := Pipeline.pin (pcfgs (F := F)) fun _ => a

/-! ## The body -/

abbrev tbl : Memref sig .tc .smem S40 .i32 := Memref.whole main_arg0

/-- One point: the three blocks read, the fourth left at the expert's product, the table's word only looked at. -/
theorem expert_body (c : Dev nD) (i : grid0.Coords)
    (M0 : Memref sig .tc .vmem S128x1024 .f32) (h0 : M0.IsWhole) (M1 : Memref sig .tc .vmem S1x1024x2048 .f32) (h1 : M1.IsWhole)
    (M2 : Memref sig .tc .vmem S1x2048x1024 .f32) (h2 : M2.IsWhole) (M3 : Memref sig .tc .vmem S128x1024 .f32) (h3 : M3.IsWhole)
    (X0 : S128x1024.Idx → Elt F .f32) (X1 : S1x1024x2048.Idx → Elt F .f32) (X2 : S1x2048x1024.Idx → Elt F .f32) (X3 : S128x1024.Idx → Elt F .f32)
    (hc : k0_cond1 (T (entry i)) = 1#1) (Q : PUnit → sProp 𝕄) :
    iprop(owns (c : Thread nD τ) M0 fullShare X0 ∗ owns (c : Thread nD τ) M1 fullShare X1 ∗ owns (c : Thread nD τ) M2 fullShare X2
        ∗ (tbl.view.loc (c : Thread nD τ) ↦{fullShare.right} T) ∗ owns (c : Thread nD τ) M3 fullShare X3
        ∗ (iprop(owns (c : Thread nD τ) M0 fullShare X0 ∗ owns (c : Thread nD τ) M1 fullShare X1 ∗ owns (c : Thread nD τ) M2 fullShare X2
            ∗ (tbl.view.loc (c : Thread nD τ) ↦{fullShare.right} T) ∗ owns (c : Thread nD τ) M3 fullShare (k0_pay1 X0 X1 X2)) -∗ Q ⟨⟩))
      ⊢ wp frame (wpE (defs₀ (F := F)) Variants.none (c : Thread nD τ) none) Set.univ
          (cc0__k6_body i tbl (Memref.isWhole_whole _) M0 h0 M1 h1 M2 h2 M3 h3) Q := by
  have k0_h1 : k0_cond1 (View.readAt (Elt F) tbl.view (Rect.unit (s := S40) (k0_off1 i) S1.size (k0_off1_inb i)).toLoadRect T
      (Shape.Idx.first (numel1_S1.symm ▸ Nat.one_pos))) = 1#1 := by
    rw [← hc]
    exact congrArg (fun j => k0_cond1 (T j)) (entry_eq i _)
  rw [cc0__k6_body_eq_skeleton]; unfold cc0__k6_body_skel
  unfold owns
  rw [h0.set_eq_univ, h1.set_eq_univ, h2.set_eq_univ, h3.set_eq_univ]
  iintro ⟨⟨%f0, %e0, H0⟩, ⟨%f1, %e1, H1⟩, ⟨%f2, %e2, H2⟩, HT, ⟨%f3, %e3, H3⟩, Hk⟩
  subst e0 e1 e2
  have hT0 : tbl.IsWhole := Memref.isWhole_whole _
  sl_exec (disch := first | (guard_target = k0_cond1 _ = _; exact k0_h1))
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [HT]; · iexact HT
  iexists _; isplitr; swap; · iexact H3
  ipureintro
  rw [View.read_writes_full]
  rw [View.readAt_full M0.view f0, View.readAt_full M1.view f1, View.readAt_full M2.view f2]

/-! ## The proof data, at a launch memory -/

variable (m : (ℓ : Loc nD τ sig) → Buf (Elt F) ℓ) (ρ : Dev nD → PrngReg) (a : (pcfg0 (F := F)).Adm)

/-- Window `w`'s block at point `t` of its array's contents. -/
abbrev iblk (c : Dev nD) (w : Fin (cfgA a).W) (t : Fin (cfgA a).N) :
    (((cfgA a).win w).xblock ((cfgA a).grid.coords t)).Idx → Elt F ((cfgA a).win w).elt :=
  (((cfgA a).win w).blk t).view.read (Elt F) (m (((cfgA a).win w).arr.view.loc (c : Thread nD τ)))

/-- The inputs' buffers are left as fetched, the result's at the expert's product of the three blocks. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk m a c 0 t
    | ⟨1, _⟩ => iblk m a c 1 t
    | ⟨2, _⟩ => iblk m a c 2 t
    | ⟨3, _⟩ => k0_pay1 (iblk m a c 0 t) (iblk m a c 1 t) (iblk m a c 2 t)
  Φ _ := iprop(tbl.view.loc (c : Thread nD τ) ↦{fullShare.right} a.1 0)
  q _ := fullShare
  owed _ := 0

theorem after_0 (c : Dev nD) (t : Fin (cfgA a).N) : (dats m a 0 c).after 0 t = iblk m a c 0 t := rfl
theorem after_1 (c : Dev nD) (t : Fin (cfgA a).N) : (dats m a 0 c).after 1 t = iblk m a c 1 t := rfl
theorem after_2 (c : Dev nD) (t : Fin (cfgA a).N) : (dats m a 0 c).after 2 t = iblk m a c 2 t := rfl

/-- Every input's buffer holds its block when the body runs, fetched at that point or before. -/
theorem before_0 (c : Dev nD) (t : Fin (cfgA a).N) (d) : (dats m a 0 c).before 0 t d = iblk m a c 0 t :=
  ((dats m a 0 c).before_in_eq_fetched 0 rfl (fun _ => rfl) (fun _ _ _ => rfl) (fun t => by rw [after_0]; unfold Dat.blockOf; rfl) t d).trans
    (by unfold Dat.fetched Dat.blockOf; rfl)
theorem before_1 (c : Dev nD) (t : Fin (cfgA a).N) (d) : (dats m a 0 c).before 1 t d = iblk m a c 1 t :=
  ((dats m a 0 c).before_in_eq_fetched 1 rfl (fun _ => rfl) (fun _ _ _ => rfl) (fun t => by rw [after_1]; unfold Dat.blockOf; rfl) t d).trans
    (by unfold Dat.fetched Dat.blockOf; rfl)
theorem before_2 (c : Dev nD) (t : Fin (cfgA a).N) (d) : (dats m a 0 c).before 2 t d = iblk m a c 2 t :=
  ((dats m a 0 c).before_in_eq_fetched 2 rfl (fun _ => rfl) (fun _ _ _ => rfl) (fun t => by rw [after_2]; unfold Dat.blockOf; rfl) t d).trans
    (by unfold Dat.fetched Dat.blockOf; rfl)

/-- Where the table's word is not negative the result is stored. -/
theorem idle_3 (hc : ∀ i, k0_cond1 (a.1 0 (entry i)) = 1#1) (i : grid0.Coords) : (cfgA a).idle 3 i = false := by
  have h : a.1.atD 0 (k0_off1 i) = a.1 0 (entry i) := by
    unfold Pipeline.Prefetch.Contents.atD
    split
    · refine congrArg (a.1 0) (funext fun b : Fin 1 => Fin.ext ?_)
      have hb : b = 0 := Subsingleton.elim b 0
      subst hb
      exact congrFun (k0_off1_eq i) 0
    · next hn =>
        refine absurd (fun b : Fin 1 => ?_) hn
        have hb : b = 0 := Subsingleton.elim b 0
        subst hb
        exact k0_off1_inb i 0
  show (!(k0_cond1 (a.1.atD 0 (k0_off1 i)) == 1#1)) = false
  rw [h, hc i]
  rfl

theorem ent_of_eq {P Q : sProp 𝕄} (h : P = Q) : P ⊢ Q := h ▸ .rfl

/-- The body's obligation at every point. -/
theorem body_obligation (hc : ∀ i, k0_cond1 (a.1 0 (entry i)) = 1#1) (c : Dev nD) :
    BodyObligation (dats m a 0 c) (defs₀ (F := F)) Variants.none () Set.univ := fun t => by
  rw [bigSep_W0, bigSep_W0]
  rewrite [idle_3 a hc]
  rw [show (dats m a 0 c).Φ t.succ = iprop(tbl.view.loc (c : Thread nD τ) ↦{fullShare.right} a.1 0) from rfl,
    show (dats m a 0 c).Φ t.castSucc = iprop(tbl.view.loc (c : Thread nD τ) ↦{fullShare.right} a.1 0) from rfl,
    show (dats m a 0 c).owesAt () t.succ = (dats m a 0 c).owesAt () t.castSucc from rfl]
  iintro ⟨HT, Howes, ⟨%d0, H0⟩, ⟨%d1, H1⟩, ⟨%d2, H2⟩, ⟨%d3, H3⟩⟩
  iapply (expert_body (a.1 0) c ((cfgA a).grid.coords t) (spec0_0.stage ((cfgA a).slots t 0)) (hstage0_0 (((cfgA a).slots t 0).cast nbuf0_0))
    (spec0_1.stage ((cfgA a).slots t 1)) (hstage0_1 (((cfgA a).slots t 1).cast nbuf0_1))
    (spec0_2.stage ((cfgA a).slots t 2)) (hstage0_2 (((cfgA a).slots t 2).cast nbuf0_2))
    (spec0_3.stage ((cfgA a).slots t 3)) (hstage0_3 (((cfgA a).slots t 3).cast nbuf0_3))
    (iblk m a c 0 t) (iblk m a c 1 t) (iblk m a c 2 t) ((dats m a 0 c).before 3 t d3) (hc _) _)
  isplitl [H0]; · iapply (ent_of_eq (congrArg (owns (c : Thread nD τ) (spec0_0.stage ((cfgA a).slots t 0)) fullShare) (before_0 m a c t d0))); iexact H0
  isplitl [H1]; · iapply (ent_of_eq (congrArg (owns (c : Thread nD τ) (spec0_1.stage ((cfgA a).slots t 1)) fullShare) (before_1 m a c t d1))); iexact H1
  isplitl [H2]; · iapply (ent_of_eq (congrArg (owns (c : Thread nD τ) (spec0_2.stage ((cfgA a).slots t 2)) fullShare) (before_2 m a c t d2))); iexact H2
  isplitl [HT]; · iexact HT
  isplitl [H3]; · iexact H3
  iintro ⟨H0, H1, H2, HT, H3⟩
  isplitl [HT]; · iexact HT
  isplitl [Howes]; · iexact Howes
  isplitl [H0]; · iexact H0
  isplitl [H1]; · iexact H1
  isplitl [H2]; · iexact H2
  iexact H3

/-! ## The launch -/

theorem share_eq (c : Dev nD) (w : Fin (cfgA a).W) : (dats m a 0 c).share w = fullShare := by unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop(((c : Thread nD τ).loc main_arg0) ↦{q 0} v 0) := by
  unfold Pipeline.prefHeld
  rw [show (Finset.univ : Finset (Fin 1)) = {(0 : Fin 1)} from by decide, bigSep_singleton]
  rfl

/-- What a run ends at: every array as the pipeline leaves it, the table as it was, every counter at zero. -/
def Ends (r : PUnit × MemSt nD τ sig (Elt F)) : Prop :=
  (∀ c : Dev nD, (∀ w : Fin (cfgA a).W, r.2.mem (((cfgA a).win w).arr.view.loc (c : Thread nD τ)) = (dats m a 0 c).arrAt w (cfgA a).N)
    ∧ r.2.mem ((c : Thread nD τ).loc main_arg0) = a.1 0) ∧ r.2.sem = fun _ => 0

-- unifying the launch rule's conclusion with this one unfolds plain definitions in a type
set_option backward.isDefEq.respectTransparency.types false in
set_option maxHeartbeats 4000000 in
theorem run (hc : ∀ i, k0_cond1 (a.1 0 (entry i)) = 1#1) (hm : ∀ c : Dev nD, m ((c : Thread nD τ).loc main_arg0) = a.1 0) :
    θ_run (defs (F := F)) (onTc (τ := τ) (main (F := F))) ⟨m, fun _ => 0, ρ⟩ (Ends m a) :=
  Pipeline.θ_run_region_noSem_pf_quiescent pcfgs (fun _ => a) (dats m a) () ((launch0 (F := F)).cellOf_inj fun _ => a) (0 : Fin 1)
    (launch0 (F := F)).win.to₀ (launch0 (F := F)).pre emb₁ defs₀ Variants.none m ρ main
    (hbody := fun c => (body_obligation m a hc c).loose) (hne := (launch0 (F := F)).block_pos)
    (harr := (launch0 (F := F)).arr_whole) (hstage := (launch0 (F := F)).stage_whole) (howed := fun _ _ => rfl)
    (u₀ := initOf (Pipeline.cells (pcs a) ((launch0 (F := F)).cellOf_inj fun _ => a)) (Pipeline.launchToks (pcs a) ((launch0 (F := F)).cellOf_inj fun _ => a)))
    (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats m a) 0 (launch0 (F := F)).win.arr_inj c (launch0 (F := F)).arr_whole
      (share_eq m a c) _ _ fun _ => rfl)
    (hpf := fun c j => by
      have hj : j = 0 := Subsingleton.elim (α := Fin 1) _ _
      subst hj
      exact hm c)
    (X := fun _ => iprop(emp)) (Y := fun _ => iprop(emp)) (Z := fun _ => iprop(emp))
    (hX := fun c => by rw [unscopedRestP0_eq]; iintro -; isplitr <;> iempintro)
    (hin := fun c => by
      rw [prefHeld_eq, scopedRest0_eq, show (dats m a 0 c).Φ 0 = iprop(tbl.view.loc (c : Thread nD τ) ↦{fullShare.right} a.1 0) from rfl]
      iintro ⟨-, HT, -⟩
      iexact HT)
    (hout := fun c => by
      rw [scopedRest0_eq]
      iintro -
      isplitr <;> iempintro)
    (QY := fun _ _ => True)
    (hY := fun c s' => by
      iintro ⟨-, -, HS⟩; imodintro
      isplitr; · ipureintro; trivial
      iexact HS)
    (hQ := fun _ h hz => ⟨fun c => ⟨(h c).1, (h c).2.1 0⟩, hz⟩)

end Cert.ExpertsRun
-- ==== Proof.ExpertsMath.lean ====
module

public import proofs.«01_k».proof.Proof.ExpertsRun
public import proofs.«01_k».proof.Proof.Gen.ExpertsReferenceIdeal.Run
public import proofs.«01_k».proof.Proof.FrontMath

@[expose] public section
noncomputable section
namespace Cert.ExpertsMath
open Idealize.ShloMosaic Idealize.SL.Sem Cert.FrontMath
set_option maxRecDepth 8192

/-! One expert's two products, in the kernel and in the reference, entry by entry. -/

/-- The activation between the products, with the tanh. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

/-- An expert's two products of a row. -/
def ffn (x : Fin 1024 → EReal) (W1 : Fin 1024 → Fin 2048 → EReal) (W2 : Fin 2048 → Fin 1024 → EReal) : Fin 1024 → EReal :=
  lin (fun f => gelu (lin x W1 f)) W2

section
open Cert.ExpertsIdeal Cert.ExpertsIdeal.Gen

theorem pay_at (x : FVec Ideal S128x1024 .f32) (W1 : FVec Ideal S1x1024x2048 .f32) (W2 : FVec Ideal S1x2048x1024 .f32) (r : Fin 128) (d : Fin 1024) :
    k0_pay1 (F := Ideal) x W1 W2 (ix2 r d)
      = ffn (fun k => x (ix2 r k)) (fun k f => W1 (ix3 0 k f)) (fun f k => W2 (ix3 0 f k)) d := by
  pointwise [k0_pay1]
  rfl
end

section
open Cert.ExpertsReferenceIdeal Cert.ExpertsReferenceIdeal.Value Cert.ExpertsReferenceIdeal.Facts₀
variable [Cert.ExpertsReferenceIdeal.Facts]

/-- One expert's term of the reference: its first product, the activation, its second product. -/
def hid (o : Fin 3 → ℕ) (h : S8x1024x2048.Slices o S1x1024x2048) (x : FVec Ideal S5120x1024 .f32) (w : FVec Ideal S8x1024x2048 .f32) : FVec Ideal S5120x2048 .f32 :=
  Host.dotGeneral dot_S5120x1024_S1024x2048_S5120x2048_1_0_0_1_n_n none x (shapeCast _ (extractStridedSlice S1x1024x2048 o w h) shapeCasts_S1x1024x2048_S1024x2048)

def act (z : FVec Ideal S5120x2048 .f32) : FVec Ideal S5120x2048 .f32 :=
  mulf z (mulf (broadcastInDim S5120x2048 ![] bcast_S_S5120x2048 (constant S_ .f32 0x3F000000#32)) (addf (broadcastInDim S5120x2048 ![] bcast_S_S5120x2048 (constant S_ .f32 0x3F800000#32)) (Host.tanh (mulf (broadcastInDim S5120x2048 ![] bcast_S_S5120x2048 (constant S_ .f32 0x3F4C422A#32)) (addf z (mulf (broadcastInDim S5120x2048 ![] bcast_S_S5120x2048 (constant S_ .f32 0x3D372713#32)) (mulf (mulf z z) z)))))))

def outp (o : Fin 3 → ℕ) (h : S8x2048x1024.Slices o S1x2048x1024) (z : FVec Ideal S5120x2048 .f32) (w : FVec Ideal S8x2048x1024 .f32) : FVec Ideal S5120x1024 .f32 :=
  Host.dotGeneral dot_S5120x2048_S2048x1024_S5120x1024_1_0_0_1_n_n none (act z) (shapeCast _ (extractStridedSlice S1x2048x1024 o w h) shapeCasts_S1x2048x1024_S2048x1024)

/-- The rows of expert `k` take its term, the others what they had. -/
def pick (b : IVec S5120 32) (k : BitVec 32) (y z : FVec Ideal S5120x1024 .f32) : FVec Ideal S5120x1024 .f32 :=
  select (broadcastInDim S5120x1024 ![0, 1] bcast_S5120x1_S5120x1024_0_1 (broadcastInDim S5120x1 ![0] bcast_S5120_S5120x1_0 (cmpi .eq b (broadcastInDim S5120 ![] bcast_S_S5120 (constantI S_ 32 k))))) y z

theorem hid_at (e : Fin 8) (h : S8x1024x2048.Slices ![e.val, 0, 0] S1x1024x2048) (x : FVec Ideal S5120x1024 .f32) (w : FVec Ideal S8x1024x2048 .f32) (s : Fin 5120) (f : Fin 2048) :
    hid ![e.val, 0, 0] h x w (ix2 s f) = lin (fun k => x (ix2 s k)) (fun k f => w (ix3 e k f)) f := by
  pointwise [hid]
  rfl

theorem act_at (z : FVec Ideal S5120x2048 .f32) (s : Fin 5120) (f : Fin 2048) : act z (ix2 s f) = gelu (z (ix2 s f)) := by
  pointwise [act]
  unfold gelu
  rw [mul_assoc (z (ix2 s f)) (z (ix2 s f)) (z (ix2 s f))]

theorem outp_at (e : Fin 8) (h : S8x2048x1024.Slices ![e.val, 0, 0] S1x2048x1024) (z : FVec Ideal S5120x2048 .f32) (w : FVec Ideal S8x2048x1024 .f32) (s : Fin 5120) (d : Fin 1024) :
    outp ![e.val, 0, 0] h z w (ix2 s d) = lin (fun f => gelu (z (ix2 s f))) (fun f k => w (ix3 e f k)) d := by
  pointwise [outp]
  simp only [act_at]
  rfl

theorem pick_at (b : IVec S5120 32) (k : BitVec 32) (y z : FVec Ideal S5120x1024 .f32) (s : Fin 5120) (d : Fin 1024) :
    pick b k y z (ix2 s d) = if b (ix1 s) = k then y (ix2 s d) else z (ix2 s d) := by
  pointwise [pick]
  unfold Scalar.select IntOp.cmpi
  by_cases h : b (ix1 s) = k
  · simp [h]
  · have hb : (b (ix1 s) == k) = false := beq_eq_false_iff_ne.mpr h
    simp [h, hb]

theorem row_expert (V0 : Valuation τ sig (Elt Ideal)) (s : Fin 5120) :
    res_main_v1 V0 (ix1 s) = V0 (Proc.tc.devRef main_arg0) (ix1 ⟨s.val / 128, by omega⟩) := by
  pointwise [res_main_v1]

/-- The reference's result of its arguments: expert after expert takes its rows. -/
def nested (b : IVec S5120 32) (x : FVec Ideal S5120x1024 .f32) (w1 : FVec Ideal S8x1024x2048 .f32) (w2 : FVec Ideal S8x2048x1024 .f32) : FVec Ideal S5120x1024 .f32 :=
  pick b 7#32 (outp _ slices_S8x2048x1024_S1x2048x1024_7_0_0 (hid _ slices_S8x1024x2048_S1x1024x2048_7_0_0 x w1) w2)
  (pick b 6#32 (outp _ slices_S8x2048x1024_S1x2048x1024_6_0_0 (hid _ slices_S8x1024x2048_S1x1024x2048_6_0_0 x w1) w2)
  (pick b 5#32 (outp _ slices_S8x2048x1024_S1x2048x1024_5_0_0 (hid _ slices_S8x1024x2048_S1x1024x2048_5_0_0 x w1) w2)
  (pick b 4#32 (outp _ slices_S8x2048x1024_S1x2048x1024_4_0_0 (hid _ slices_S8x1024x2048_S1x1024x2048_4_0_0 x w1) w2)
  (pick b 3#32 (outp _ slices_S8x2048x1024_S1x2048x1024_3_0_0 (hid _ slices_S8x1024x2048_S1x1024x2048_3_0_0 x w1) w2)
  (pick b 2#32 (outp _ slices_S8x2048x1024_S1x2048x1024_2_0_0 (hid _ slices_S8x1024x2048_S1x1024x2048_2_0_0 x w1) w2)
  (pick b 1#32 (outp _ slices_S8x2048x1024_S1x2048x1024_1_0_0 (hid _ slices_S8x1024x2048_S1x1024x2048_1_0_0 x w1) w2)
  (pick b 0#32 (outp _ slices_S8x2048x1024_S1x2048x1024_0_0_0 (hid _ slices_S8x1024x2048_S1x1024x2048_0_0_0 x w1) w2)
    (broadcastInDim S5120x1024 ![] bcast_S_S5120x1024 (constant S_ .f32 0x00000000#32)))))))))

theorem term_at (e : Fin 8) (o : Fin 3 → ℕ) (ho : o = ![e.val, 0, 0]) (h2 : S8x2048x1024.Slices o S1x2048x1024) (h1 : S8x1024x2048.Slices o S1x1024x2048)
    (x : FVec Ideal S5120x1024 .f32) (w1 : FVec Ideal S8x1024x2048 .f32) (w2 : FVec Ideal S8x2048x1024 .f32) (s : Fin 5120) (d : Fin 1024) :
    outp o h2 (hid o h1 x w1) w2 (ix2 s d) = ffn (fun k => x (ix2 s k)) (fun k f => w1 (ix3 e k f)) (fun f k => w2 (ix3 e f k)) d := by
  subst ho
  rw [outp_at]
  simp only [hid_at]
  rfl

/-- A row's expert is the one whose number its entry is, and its term is what the row ends at. -/
theorem nested_at (b : IVec S5120 32) (x : FVec Ideal S5120x1024 .f32) (w1 : FVec Ideal S8x1024x2048 .f32) (w2 : FVec Ideal S8x2048x1024 .f32)
    (s : Fin 5120) (d : Fin 1024) (e : Fin 8) (he : b (ix1 s) = BitVec.ofNat 32 e.val) :
    nested b x w1 w2 (ix2 s d) = ffn (fun k => x (ix2 s k)) (fun k f => w1 (ix3 e k f)) (fun f k => w2 (ix3 e f k)) d := by
  unfold nested
  simp only [pick_at, he]
  fin_cases e
  · exact term_at 0 _ rfl _ _ x w1 w2 s d
  · exact term_at 1 _ rfl _ _ x w1 w2 s d
  · exact term_at 2 _ rfl _ _ x w1 w2 s d
  · exact term_at 3 _ rfl _ _ x w1 w2 s d
  · exact term_at 4 _ rfl _ _ x w1 w2 s d
  · exact term_at 5 _ rfl _ _ x w1 w2 s d
  · exact term_at 6 _ rfl _ _ x w1 w2 s d
  · exact term_at 7 _ rfl _ _ x w1 w2 s d
end

/-! What both end at. -/

section
open Cert.ExpertsIdeal

/-- A row's expert, by its block's entry. -/
def expert (T : S40.Idx → BitVec 32) (hT : ∀ j, (T j).toNat < 8) (s : Fin 5120) : Fin 8 :=
  ⟨(T (ix1 (n0 := 40) ⟨s.val / 128, by omega⟩)).toNat, hT _⟩

/-- Every row through its expert's two products. -/
def result (T : S40.Idx → BitVec 32) (hT : ∀ j, (T j).toNat < 8) (x : FVec Ideal S5120x1024 .f32) (w1 : FVec Ideal S8x1024x2048 .f32)
    (w2 : FVec Ideal S8x2048x1024 .f32) : FVec Ideal S5120x1024 .f32 := fun y =>
  ffn (fun k => x (ix2 (y 0) k)) (fun k f => w1 (ix3 (expert T hT (y 0)) k f)) (fun f k => w2 (ix3 (expert T hT (y 0)) f k)) (y 1)
end

section
open Cert.ExpertsReferenceIdeal Cert.ExpertsReferenceIdeal.Value
variable [Cert.ExpertsReferenceIdeal.Facts]

theorem ref_eq (V0 : Valuation τ sig (Elt Ideal)) (hT : ∀ j, ((V0 (Proc.tc.devRef main_arg0) : S40.Idx → BitVec 32) j).toNat < 8) :
    nested (res_main_v1 V0) (V0 (Proc.tc.devRef main_arg1)) (V0 (Proc.tc.devRef main_arg2)) (V0 (Proc.tc.devRef main_arg3))
      = result (V0 (Proc.tc.devRef main_arg0)) hT (V0 (Proc.tc.devRef main_arg1)) (V0 (Proc.tc.devRef main_arg2)) (V0 (Proc.tc.devRef main_arg3)) := by
  funext y
  obtain ⟨s, d, rfl⟩ : ∃ (s : Fin 5120) (d : Fin 1024), y = ix2 s d := ⟨y 0, y 1, Idealize.ShloMosaic.eq_ix2 y⟩
  refine nested_at _ _ _ _ s d (expert (V0 (Proc.tc.devRef main_arg0)) hT s) ?_
  rw [row_expert]
  unfold expert
  simp
end

end Cert.ExpertsMath
-- ==== Proof.ExpertsKer.lean ====
module

public import proofs.«01_k».proof.Proof.ExpertsMath

@[expose] public section
noncomputable section
namespace Cert.ExpertsKer
open Idealize.ShloMosaic Idealize.ShloMosaic.TcCoe Idealize.SL.Sem Cert.FrontMath Cert.ExpertsMath Cert.ExpertsRun
open Cert.ExpertsIdeal Cert.ExpertsIdeal.Gen
set_option maxRecDepth 8192

/-! The array the expert call leaves. -/

variable (m : (ℓ : Loc nD τ sig) → Buf (Elt Ideal) ℓ) (T : S40.Idx → BitVec 32) (hT : ∀ j, (T j).toNat < 8) (c : Dev nD)

local notation "A" => adm (F := Ideal) T hT

def pt (t : Fin (cfgA A).N) : Fin 40 := grid0.coords t 0

/-- A block's row in the whole. -/
def rowOf (i : Fin 40) (r : Fin 128) : Fin 5120 := ⟨i.val * 128 + r.val, by omega⟩

theorem tr0_eq : ∀ i : grid0.Coords, cc0_transform_0 i = ![(i 0).val, 0] := by decide +kernel
theorem tr3_eq : ∀ i : grid0.Coords, cc0_transform_3 i = ![(i 0).val, 0] := by decide +kernel

theorem idx_0 (t : Fin (cfgA A).N) : ((cfgA A).win 0).index t = ![(pt T hT t).val, 0] := tr0_eq _
theorem idx_1 (t : Fin (cfgA A).N) : ((cfgA A).win 1).index t = ![(T (ix1 (n0 := 40) (pt T hT t))).toNat, 0, 0] := tr1_eq T hT _
theorem idx_2 (t : Fin (cfgA A).N) : ((cfgA A).win 2).index t = ![(T (ix1 (n0 := 40) (pt T hT t))).toNat, 0, 0] := tr2_eq T hT _
theorem idx_3 (t : Fin (cfgA A).N) : ((cfgA A).win 3).index t = ![(pt T hT t).val, 0] := tr3_eq _

/-- The table of the first expert throughout: the result's window is the same at any table. -/
def zeros : (pcfg0 (F := Ideal)).Adm := adm (F := Ideal) (fun _ => 0#32) (fun _ => by decide)

theorem covers_3 : ((cfgA A).win 3).Covers :=
  (by decide +kernel : ((cfgA zeros).win 3).Covers)

theorem blk_0 (t : Fin (cfgA A).N) (r : Fin 128) (k : Fin 1024) :
    iblk m A c 0 t (ix2 r k) = m ((c : Thread nD τ).loc main_arg1) (ix2 (rowOf (pt T hT t) r) k) := by
  blk_ext [iblk, idx_0 T hT t, rowOf]
theorem blk_1 (t : Fin (cfgA A).N) (k : Fin 1024) (f : Fin 2048) :
    iblk m A c 1 t (ix3 0 k f) = m ((c : Thread nD τ).loc main_arg2) (ix3 ⟨(T (ix1 (n0 := 40) (pt T hT t))).toNat, hT _⟩ k f) := by
  blk_ext [iblk, idx_1 T hT t]
theorem blk_2 (t : Fin (cfgA A).N) (f : Fin 2048) (k : Fin 1024) :
    iblk m A c 2 t (ix3 0 f k) = m ((c : Thread nD τ).loc main_arg3) (ix3 ⟨(T (ix1 (n0 := 40) (pt T hT t))).toNat, hT _⟩ f k) := by
  blk_ext [iblk, idx_2 T hT t]

/-- What a point leaves in its block, entry by entry. -/
theorem point_at (t : Fin (cfgA A).N) (r : Fin 128) (d : Fin 1024) :
    k0_pay1 (iblk m A c 0 t) (iblk m A c 1 t) (iblk m A c 2 t) (ix2 r d)
      = result T hT (m ((c : Thread nD τ).loc main_arg1)) (m ((c : Thread nD τ).loc main_arg2)) (m ((c : Thread nD τ).loc main_arg3)) (ix2 (rowOf (pt T hT t) r) d) := by
  have hx : expert T hT (rowOf (pt T hT t) r) = ⟨(T (ix1 (n0 := 40) (pt T hT t))).toNat, hT _⟩ := by
    apply Fin.ext
    refine congrArg (fun k => (T (ix1 (n0 := 40) k)).toNat) (Fin.ext ?_)
    show ((pt T hT t).val * 128 + r.val) / 128 = (pt T hT t).val
    omega
  refine (pay_at (iblk m A c 0 t) (iblk m A c 1 t) (iblk m A c 2 t) r d).trans ?_
  rw [show (fun k => iblk m A c 0 t (ix2 r k)) = fun k => m ((c : Thread nD τ).loc main_arg1) (ix2 (rowOf (pt T hT t) r) k) from funext fun k => blk_0 m T hT c t r k,
    show (fun k f => iblk m A c 1 t (ix3 0 k f)) = fun k f => m ((c : Thread nD τ).loc main_arg2) (ix3 (expert T hT (rowOf (pt T hT t) r)) k f) from
      funext fun k => funext fun f => (blk_1 m T hT c t k f).trans (by rw [hx]),
    show (fun f k => iblk m A c 2 t (ix3 0 f k)) = fun f k => m ((c : Thread nD τ).loc main_arg3) (ix3 (expert T hT (rowOf (pt T hT t) r)) f k) from
      funext fun f => funext fun k => (blk_2 m T hT c t f k).trans (by rw [hx])]
  rfl

theorem arr_3 : (dats m A 0 c).arrAt 3 (cfgA A).N = result T hT (m ((c : Thread nD τ).loc main_arg1)) (m ((c : Thread nD τ).loc main_arg2)) (m ((c : Thread nD τ).loc main_arg3)) := by
  refine (dats m A 0 c).arrAt_eq_of_covers 3 _ (covers_3 T hT) fun t hf (y : S128x1024.Idx) => ?_
  obtain ⟨r, d, rfl⟩ : ∃ (r : Fin 128) (d : Fin 1024), y = ix2 r d := ⟨y 0, y 1, Idealize.ShloMosaic.eq_ix2 y⟩
  have e0 : (((View.whole main_v0).slice (((cfgA A).win 3).rect t)).emb (ix2 r d)) = ix2 (rowOf (pt T hT t) r) d := by
    blk_ext [idx_3 T hT t, rowOf]
  refine Eq.trans ?_ ((point_at m T hT c t r d).trans
    (congrArg (result T hT (m ((c : Thread nD τ).loc main_arg1)) (m ((c : Thread nD τ).loc main_arg2)) (m ((c : Thread nD τ).loc main_arg3))) e0.symm))
  blk_simp
  rw [show (dats m A 0 c).after 3 t = k0_pay1 (iblk m A c 0 t) (iblk m A c 1 t) (iblk m A c 2 t) from rfl]

end Cert.ExpertsKer
-- ==== Proof.ExpertsValue.lean ====
module

public import proofs.«01_k».proof.Defs
public import proofs.«01_k».proof.Proof.ExpertsKer
public import proofs.«01_k».proof.Proof.Gen.Experts
public import proofs.«01_k».proof.Proof.Gen.ExpertsReferenceIdeal
public import proofs.«01_k».proof.Proof.Gen.Pre_an_expert
public import Idealize.ShloMosaic.Lib.ReduceAll

@[expose] public section
noncomputable section
namespace Cert.ExpertsValue
open Idealize.ShloMosaic Idealize.ShloMosaic.TcCoe Idealize.SL.Sem Cert.ExpertsMath Cert.ExpertsRun
open Cert.ExpertsIdeal Cert.ExpertsIdeal.Gen
set_option maxRecDepth 8192

/-! The claims of the expert call. -/

section Run
variable {F : FTy → Type} [FloatOps F] [∀ e, Nonempty (Elt F e)]

/-- A word that is at least 0 and below 8, both read as signed, is below 8. -/
theorem expert_of_cmp (v : BitVec 32) (h0 : IntOp.cmpi .sge v 0#32 = 1#1) (h1 : IntOp.cmpi .slt v 8#32 = 1#1) : v.toNat < 8 := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

/-- Under the precondition every entry of the table names an expert. -/
theorem table_of_pre (T : IVec S40 32) (x : FVec F S5120x1024 .f32) (w1 : FVec F S8x1024x2048 .f32) (w2 : FVec F S8x2048x1024 .f32)
    (h : Cert.Pre_an_expert.fn (F := F) T x w1 w2 = fun _ => 1#1) (j : S40.Idx) : (T j).toNat < 8 := by
  have e := congrFun h (fun a => a.elim0)
  simp only [Cert.Pre_an_expert.fn] at e
  haveI : Subsingleton Cert.Pre_an_expert.S_.Idx := ⟨fun a b => funext fun i => i.elim0⟩
  obtain ⟨e0, e1⟩ := IntOp.andi_eq_one.1 (Host.reduce_andi_all _ _ _ _ _ e j)
  exact expert_of_cmp _ e0 e1

variable (m : (ℓ : Loc nD τ sig) → Buf (Elt F) ℓ) (ρ : Dev nD → PrngReg)

/-- The table in the one device's memory. -/
def tabOf : S40.Idx → BitVec 32 := m (((0 : Dev nD) : Thread nD τ).loc main_arg0)

/-- The program runs: the result is the pipeline's, the arguments are unchanged, every counter is at zero. -/
theorem run_experts (hT : ∀ j, (tabOf m j).toNat < 8) :
    θ_run (defs (F := F)) (onTc (τ := τ) (main (F := F))) ⟨m, fun _ => 0, ρ⟩ (fun r =>
      (∀ c : Dev nD, r.2.mem ((c.tc : Thread nD τ).loc main_v0) = (dats m (adm (tabOf m) hT) 0 c).arrAt 3 (cfgA (adm (F := F) (tabOf m) hT)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) := by
  have hm (c : Dev nD) : m ((c : Thread nD τ).loc main_arg0) = (adm (F := F) (tabOf m) hT).1 0 := by
    have hc : c = 0 := Subsingleton.elim (α := Fin 1) _ _
    subst hc
    rfl
  refine (θ_run (defs (F := F)) _ _).mono (fun r h => ⟨fun c => ⟨(h.1 c).1 3, (h.1 c).2.trans (hm c).symm, ?_, ?_, ?_⟩, h.2⟩)
    (run m ρ (adm (tabOf m) hT) (fun i => cond_word _ (hT (entry i))) hm)
  · exact ((h.1 c).1 0).trans ((dats m (adm (tabOf m) hT) 0 c).arrAt_in 0 rfl _)
  · exact ((h.1 c).1 1).trans ((dats m (adm (tabOf m) hT) 0 c).arrAt_in 1 rfl _)
  · exact ((h.1 c).1 2).trans ((dats m (adm (tabOf m) hT) 0 c).arrAt_in 2 rfl _)

end Run

/-- The frame over the reals. -/
theorem frame_ideal : Cert.quiescent_ExpertsIdeal := fun m ρ hpre =>
  (θ_run (defs (F := Ideal)) _ _).mono (fun _ h => ⟨fun c => (h.1 c).2, h.2⟩) (run_experts (F := Ideal) m ρ (table_of_pre _ _ _ _ (hpre 0)))

/-- The two printings have one table of bodies. -/
theorem bodies_same {F : FTy → Type} [FloatOps F] : Cert.ExpertsIdeal.defs₀ (F := F) = Cert.Experts.defs₀ (F := F) := by
  funext c l a
  match c, l, a with
  | .tc, 0, (t, s) => rfl
  | .scVector c s, 0, _ => rfl
  | .scScalar c, 0, _ => rfl

theorem defs_same {F : FTy → Type} [FloatOps F] : Cert.ExpertsIdeal.defs (F := F) = Cert.Experts.defs (F := F) :=
  congrArg (fun b => Pipeline.defs (Cert.Experts.pcfgs (F := F)) b) (bodies_same (F := F))

/-- The frame at the machine's floats: the same program text. -/
theorem frame_kernel : Cert.quiescent_Experts := fun m ρ hpre => by
  have h := (θ_run (Cert.ExpertsIdeal.defs (F := Bits)) _ _).mono (fun _ h => And.intro (fun c => (h.1 c).2) h.2)
    (run_experts (F := Bits) m ρ (table_of_pre _ _ _ _ (hpre 0)))
  rw [defs_same] at h
  exact h

theorem frame_reference : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-- Both programs end with every row through its expert. -/
theorem value : Cert.algebraic_ExpertsIdeal_ExpertsReferenceIdeal := by
  intro m ρ m' ρ' hpre hagree
  have hT (c : Dev nD) := table_of_pre (F := Ideal) _ _ _ _ (hpre c)
  refine ⟨fun c => result (m ((c : Thread nD τ).loc main_arg0)) (hT c) (m ((c : Thread nD τ).loc main_arg1)) (m ((c : Thread nD τ).loc main_arg2)) (m ((c : Thread nD τ).loc main_arg3)),
    (θ_run (defs (F := Ideal)) _ _).mono (fun r h c => ⟨?_, (h.1 c).2⟩) (run_experts (F := Ideal) m ρ (hT 0)), ?_⟩
  · have hc : c = 0 := Subsingleton.elim (α := Fin 1) _ _
    subst hc
    exact (h.1 0).1.trans (ExpertsKer.arr_3 m (tabOf m) (hT 0) 0)
  · refine (θ_run Cert.ExpertsReferenceIdeal.defs _ _).mono (fun r h c => ⟨(h c).1.trans ?_, (h c).2⟩) (Cert.ExpertsReferenceIdeal.Value.run (F := Ideal) m' ρ')
    obtain ⟨e0, e1, e2, e3⟩ := hagree c
    have hT' : ∀ j, ((StableHlo.launchContents m' c (Proc.devRef .tc Cert.ExpertsReferenceIdeal.main_arg0) : S40.Idx → BitVec 32) j).toNat < 8 := fun j => by
      have := hT c j
      rw [← e0] at this
      exact this
    refine (ref_eq (StableHlo.launchContents m' c) hT').trans ?_
    have key (T T' : S40.Idx → BitVec 32) (hT : ∀ j, (T j).toNat < 8) (hT' : ∀ j, (T' j).toNat < 8) (x x' : FVec Ideal S5120x1024 .f32)
        (w1 w1' : FVec Ideal S8x1024x2048 .f32) (w2 w2' : FVec Ideal S8x2048x1024 .f32) (h0 : T = T') (h1 : x = x') (h2 : w1 = w1') (h3 : w2 = w2') :
        result T hT x w1 w2 = result T' hT' x' w1' w2' := by
      subst h0 h1 h2 h3
      rfl
    exact key _ _ _ _ _ _ _ _ _ _ e0 e1 e2 e3

end Cert.ExpertsValue
-- ==== Proof.lean ====
/-
  The claims, assembled. The kernel's frame over the reals and its side of the value claim are one run
  (`Undisp.run_main`), read at the arguments, at the counters and at the result; its frame at the machine's floats is
  the same run of that printing (`UndispBits.run_main`); the reference is a line of host
  operations. The claims of the first half and of the expert
  call alone are brought in from their own modules.
-/
module

public import proofs.«01_k».proof.Proof.Gen.Front.Frame
public import proofs.«01_k».proof.Proof.Gen.FrontIdeal.Frame
public import proofs.«01_k».proof.Proof.Gen.FrontReferenceIdeal.Run
public import proofs.«01_k».proof.Proof.Gen.ReferenceIdeal.Run
public import proofs.«01_k».proof.Proof.Equation
public import proofs.«01_k».proof.Proof.BitsPre
public import proofs.«01_k».proof.Proof.FrontValue
public import proofs.«01_k».proof.Proof.ExpertsValue
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_an_expert
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- The arrays of @main on the TensorCore are among those the run's end is read at. -/
theorem mem_uc (b : Ref Cert.KernelIdeal.sig .tc) (h : b.isScoped = false) : Proc.devRef .tc b ∈ Undisp.ucRefs :=
  Finset.mem_filter.mpr ⟨StableHlo.devRef_mem_tcRefs _, by rw [show (Proc.devRef .tc b : DevRef Cert.KernelIdeal.τ Cert.KernelIdeal.sig).isScoped = b.isScoped from rfl, h]; decide⟩

section Run
variable {F : FTy → Type} [FloatOps F] [∀ e, Nonempty (Elt F e)]

/-- What the precondition gives of the one device's memory. -/
theorem named_of_pre (m : (ℓ : Loc Cert.KernelIdeal.nD Cert.KernelIdeal.τ Cert.KernelIdeal.sig) → Buf (Elt F) ℓ)
    (h : ∀ c : Dev Cert.KernelIdeal.nD, Cert.Pre_in_range.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) = fun _ => 1#1) :
    Undisp.TableOk (Undisp.tabOf m) ∧ ∀ c : Dev Cert.KernelIdeal.nD, Undisp.Named (Undisp.tabOf m) (m ((c.tc : Thread Cert.KernelIdeal.nD Cert.KernelIdeal.τ).loc Cert.KernelIdeal.main_arg5))
      ∧ Undisp.Named (Undisp.tabOf m) (m ((c.tc : Thread Cert.KernelIdeal.nD Cert.KernelIdeal.τ).loc Cert.KernelIdeal.main_arg6)) :=
  ⟨(Undisp.range_of_pre _ _ _ _ _ _ _ _ _ (h 0)).1, fun c => by
    have hc : c = 0 := Subsingleton.elim (α := Fin 1) _ _
    subst hc
    exact (Undisp.range_of_pre _ _ _ _ _ _ _ _ _ (h 0)).2⟩

/-- From a memory whose table and positions are so, the kernel runs: its result is the combination of the taken rows,
    its nine arguments end unchanged, and every counter is zero. -/
theorem run_kernel (m : (ℓ : Loc Cert.KernelIdeal.nD Cert.KernelIdeal.τ Cert.KernelIdeal.sig) → Buf (Elt F) ℓ) (ρ : Dev Cert.KernelIdeal.nD → PrngReg)
    (hT : Undisp.TableOk (Undisp.tabOf m)) (hN : ∀ c : Dev Cert.KernelIdeal.nD, Undisp.Named (Undisp.tabOf m) (m ((c.tc : Thread Cert.KernelIdeal.nD Cert.KernelIdeal.τ).loc Cert.KernelIdeal.main_arg5))
      ∧ Undisp.Named (Undisp.tabOf m) (m ((c.tc : Thread Cert.KernelIdeal.nD Cert.KernelIdeal.τ).loc Cert.KernelIdeal.main_arg6))) :
    θ_run (Cert.KernelIdeal.defs (F := F)) (Cert.KernelIdeal.threads (F := F)) ⟨m, fun _ => 0, ρ⟩ (fun r =>
      (∀ c : Dev Cert.KernelIdeal.nD,
        r.2.mem ((c.tc : Thread Cert.KernelIdeal.nD Cert.KernelIdeal.τ).loc Cert.KernelIdeal.main_v23)
            = Undisp.combined (m ((c.tc : Thread Cert.KernelIdeal.nD Cert.KernelIdeal.τ).loc Cert.KernelIdeal.main_arg0))
                (Undisp.taken (Undisp.rows m hT c) (m ((c.tc : Thread Cert.KernelIdeal.nD Cert.KernelIdeal.τ).loc Cert.KernelIdeal.main_arg5)))
                (Undisp.taken (Undisp.rows m hT c) (m ((c.tc : Thread Cert.KernelIdeal.nD Cert.KernelIdeal.τ).loc Cert.KernelIdeal.main_arg6)))
                (m ((c.tc : Thread Cert.KernelIdeal.nD Cert.KernelIdeal.τ).loc Cert.KernelIdeal.main_arg7))
                (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0) := by
  refine (θ_run Cert.KernelIdeal.defs _ _).mono (fun r hq => ⟨fun c => ?_, hq.2⟩) (Undisp.run_main (F := F) m ρ hT (Undisp.ok_of_range m hT hN))
  obtain ⟨z, hz⟩ := hq.1 c
  refine ⟨?_, ?_, ?_, ?_, ?_, ?_, ?_, ?_, ?_, ?_⟩
  · exact (hz _ (mem_uc Cert.KernelIdeal.main_v23 (by decide))).trans (Undisp.VD_v23 m hT z c)
  · exact (hz _ (mem_uc Cert.KernelIdeal.main_arg0 (by decide))).trans ((Undisp.VD_of m hT z c _ (by decide) (by decide) (by decide) (by decide) (by decide)).trans (Undisp.VA_arg0 m c z))
  · exact (hz _ (mem_uc Cert.KernelIdeal.main_arg1 (by decide))).trans ((Undisp.VD_of m hT z c _ (by decide) (by decide) (by decide) (by decide) (by decide)).trans (Undisp.VA_arg1 m c z))
  · exact (hz _ (mem_uc Cert.KernelIdeal.main_arg2 (by decide))).trans ((Undisp.VD_of m hT z c _ (by decide) (by decide) (by decide) (by decide) (by decide)).trans (Undisp.VA_arg2 m c z))
  · exact (hz _ (mem_uc Cert.KernelIdeal.main_arg3 (by decide))).trans ((Undisp.VD_of m hT z c _ (by decide) (by decide) (by decide) (by decide) (by decide)).trans (Undisp.VA_arg3 m c z))
  · exact (hz _ (mem_uc Cert.KernelIdeal.main_arg4 (by decide))).trans ((Undisp.VD_of m hT z c _ (by decide) (by decide) (by decide) (by decide) (by decide)).trans (Undisp.VA_arg4 m c z))
  · exact (hz _ (mem_uc Cert.KernelIdeal.main_arg5 (by decide))).trans ((Undisp.VD_of m hT z c _ (by decide) (by decide) (by decide) (by decide) (by decide)).trans (Undisp.VA_arg5 m c z))
  · exact (hz _ (mem_uc Cert.KernelIdeal.main_arg6 (by decide))).trans ((Undisp.VD_of m hT z c _ (by decide) (by decide) (by decide) (by decide) (by decide)).trans (Undisp.VA_arg6 m c z))
  · exact (hz _ (mem_uc Cert.KernelIdeal.main_arg7 (by decide))).trans ((Undisp.VD_of m hT z c _ (by decide) (by decide) (by decide) (by decide) (by decide)).trans (Undisp.VA_arg7 m c z))
  · exact (hz _ (mem_uc Cert.KernelIdeal.main_arg8 (by decide))).trans ((Undisp.VD_of m hT z c _ (by decide) (by decide) (by decide) (by decide) (by decide)).trans (Undisp.VA_arg8 m c z))

end Run

/-- The kernel's frame, at the extended reals. -/
theorem frame_ideal : Cert.quiescent_KernelIdeal := fun m ρ hpre =>
  (θ_run Cert.KernelIdeal.defs _ _).mono (fun _ h => ⟨fun c => (h.1 c).2, h.2⟩)
    (run_kernel (F := Ideal) m ρ (named_of_pre (F := Ideal) m hpre).1 (named_of_pre (F := Ideal) m hpre).2)

/-- The same of the printing at the machine's floats. -/
theorem mem_uc_bits (b : Ref Cert.Kernel.sig .tc) (h : b.isScoped = false) : Proc.devRef .tc b ∈ UndispBits.ucRefs :=
  Finset.mem_filter.mpr ⟨StableHlo.devRef_mem_tcRefs _, by rw [show (Proc.devRef .tc b : DevRef Cert.Kernel.τ Cert.Kernel.sig).isScoped = b.isScoped from rfl, h]; decide⟩

/-- The kernel's frame, at the machine's floats. -/
theorem frame_kernel : Cert.quiescent_Kernel := fun m ρ hpre => by
  have hT : UndispBits.TableOk (UndispBits.tabOf m) := (UndispBits.range_of_pre (F := Bits) _ _ _ _ _ _ _ _ _ (hpre 0)).1
  have hN : ∀ c : Dev Cert.Kernel.nD, UndispBits.Named (UndispBits.tabOf m) (m ((c.tc : Thread Cert.Kernel.nD Cert.Kernel.τ).loc Cert.Kernel.main_arg5))
      ∧ UndispBits.Named (UndispBits.tabOf m) (m ((c.tc : Thread Cert.Kernel.nD Cert.Kernel.τ).loc Cert.Kernel.main_arg6)) := fun c => by
    have hc : c = 0 := Subsingleton.elim (α := Fin 1) _ _
    subst hc
    exact (UndispBits.range_of_pre (F := Bits) _ _ _ _ _ _ _ _ _ (hpre 0)).2
  refine (θ_run Cert.Kernel.defs _ _).mono (fun r hq => ⟨fun c => ?_, hq.2⟩) (UndispBits.run_main (F := Bits) m ρ hT (UndispBits.ok_of_range m hT hN))
  obtain ⟨z, hz⟩ := hq.1 c
  refine ⟨?_, ?_, ?_, ?_, ?_, ?_, ?_, ?_, ?_⟩
  · exact (hz _ (mem_uc_bits Cert.Kernel.main_arg0 (by decide))).trans ((UndispBits.VD_of m hT z c _ (by decide) (by decide) (by decide) (by decide) (by decide)).trans (UndispBits.VA_arg0 m c z))
  · exact (hz _ (mem_uc_bits Cert.Kernel.main_arg1 (by decide))).trans ((UndispBits.VD_of m hT z c _ (by decide) (by decide) (by decide) (by decide) (by decide)).trans (UndispBits.VA_arg1 m c z))
  · exact (hz _ (mem_uc_bits Cert.Kernel.main_arg2 (by decide))).trans ((UndispBits.VD_of m hT z c _ (by decide) (by decide) (by decide) (by decide) (by decide)).trans (UndispBits.VA_arg2 m c z))
  · exact (hz _ (mem_uc_bits Cert.Kernel.main_arg3 (by decide))).trans ((UndispBits.VD_of m hT z c _ (by decide) (by decide) (by decide) (by decide) (by decide)).trans (UndispBits.VA_arg3 m c z))
  · exact (hz _ (mem_uc_bits Cert.Kernel.main_arg4 (by decide))).trans ((UndispBits.VD_of m hT z c _ (by decide) (by decide) (by decide) (by decide) (by decide)).trans (UndispBits.VA_arg4 m c z))
  · exact (hz _ (mem_uc_bits Cert.Kernel.main_arg5 (by decide))).trans ((UndispBits.VD_of m hT z c _ (by decide) (by decide) (by decide) (by decide) (by decide)).trans (UndispBits.VA_arg5 m c z))
  · exact (hz _ (mem_uc_bits Cert.Kernel.main_arg6 (by decide))).trans ((UndispBits.VD_of m hT z c _ (by decide) (by decide) (by decide) (by decide) (by decide)).trans (UndispBits.VA_arg6 m c z))
  · exact (hz _ (mem_uc_bits Cert.Kernel.main_arg7 (by decide))).trans ((UndispBits.VD_of m hT z c _ (by decide) (by decide) (by decide) (by decide) (by decide)).trans (UndispBits.VA_arg7 m c z))
  · exact (hz _ (mem_uc_bits Cert.Kernel.main_arg8 (by decide))).trans ((UndispBits.VD_of m hT z c _ (by decide) (by decide) (by decide) (by decide) (by decide)).trans (UndispBits.VA_arg8 m c z))

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: both programs end at the reference's term of the kernel's arguments. -/
theorem value : Cert.algebraic_KernelIdeal_ReferenceIdeal := by
  intro m ρ m' ρ' hpre hagree
  obtain ⟨hT, hN⟩ := named_of_pre (F := Ideal) m hpre
  refine ⟨fun c => Undisp.outOf
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
                (m ((c.tc : Thread Cert.KernelIdeal.nD Cert.KernelIdeal.τ).loc Cert.KernelIdeal.main_arg6))
                (m ((c.tc : Thread Cert.KernelIdeal.nD Cert.KernelIdeal.τ).loc Cert.KernelIdeal.main_arg7))
                (m ((c.tc : Thread Cert.KernelIdeal.nD Cert.KernelIdeal.τ).loc Cert.KernelIdeal.main_arg8)),
    (θ_run Cert.KernelIdeal.defs _ _).mono (fun r h c => ⟨?_, (h.1 c).2⟩) (run_kernel (F := Ideal) m ρ hT hN), ?_⟩
  · refine (h.1 c).1.trans ((Undisp.result_eq m hT c (hN c).1 (hN c).2).trans ?_)
    have hc : c = 0 := Subsingleton.elim (α := Fin 1) _ _
    subst hc
    rfl
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8⟩ := hagree c
    rw [Cert.ExpertMath.res_nested]
    have key {x x' T T' z z' w1 w1' w2 w2' p0 p0' p1 p1' g0 g0' g1 g1'} (h0 : x = x') (h1 : T = T') (h2 : z = z') (h3 : w1 = w1') (h4 : w2 = w2')
        (h5 : p0 = p0') (h6 : p1 = p1') (h7 : g0 = g0') (h8 : g1 = g1') :
        Undisp.outOf x T z w1 w2 p0 p1 g0 g1 = Undisp.outOf x' T' z' w1' w2' p0' p1' g0' g1' := by
      subst h0 h1 h2 h3 h4 h5 h6 h7 h8
      rfl
    exact key e0 e1 e2 e3 e4 e5 e6 e7 e8

/-- The frame of the first half's reference. -/
theorem frame_front_reference : Cert.quiescent_FrontReferenceIdeal := fun m ρ _ =>
  (θ_run Cert.FrontReferenceIdeal.defs _ _).mono (fun r h => ⟨fun c => (h c).2.2.2.2, sem_eq_zero_of_no_sems (by decide) r.2⟩)
    (Cert.FrontReferenceIdeal.Value.run (F := Ideal) m ρ)

/-- The named constants' values are the ones the table gives them. -/
theorem preserves_front : Cert.preserves_Front_FrontIdeal :=
  ⟨IdealRules.named_const.statement _ _ _ _ _ rfl, IdealRules.named_const.statement _ _ _ _ _ rfl⟩

/-- The certificate's claim. -/
theorem claim : Cert.Claim := ⟨Cert.Kernel.Gen.facts, Cert.KernelIdeal.Gen.facts, Cert.ReferenceIdeal.Gen.facts,
  Cert.Front.Gen.facts, Cert.FrontIdeal.Gen.facts, Cert.FrontReferenceIdeal.Gen.facts,
  Cert.Experts.Gen.facts, Cert.ExpertsIdeal.Gen.facts, Cert.ExpertsReferenceIdeal.Gen.facts,
  Cert.Pre_in_range.Gen.facts, Cert.FrontPre.facts, Cert.Pre_an_expert.Gen.facts,
  frame_kernel, frame_ideal, frame_reference,
  fun m ρ _ => Cert.Front.Gen.frame m ρ, fun m ρ _ => Cert.FrontIdeal.Gen.frame m ρ, fun m ρ _ => Cert.FrontIdeal.Gen.frame m ρ,
  frame_front_reference, fun m ρ _ => frame_front_reference m ρ trivial,
  Cert.ExpertsValue.frame_kernel, Cert.ExpertsValue.frame_ideal, Cert.ExpertsValue.frame_reference,
  trivial, value, preserves_front, Cert.FrontValue.value, trivial, Cert.ExpertsValue.value⟩

end Cert.Proof

end
